-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1203#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S819200 : Shape := ⟨1, ![819200]⟩
abbrev S32x1280 : Shape := ⟨2, ![32, 1280]⟩
abbrev S25600 : Shape := ⟨1, ![25600]⟩
abbrev S19456 : Shape := ⟨1, ![19456]⟩
abbrev S1280 : Shape := ⟨1, ![1280]⟩
abbrev S_ : Shape := ⟨0, ![]⟩
abbrev S16 : Shape := ⟨1, ![16]⟩
abbrev S1x1280 : Shape := ⟨2, ![1, 1280]⟩
abbrev S1x1203 : Shape := ⟨2, ![1, 1203]⟩
abbrev S1203 : Shape := ⟨1, ![1203]⟩

abbrev nBuf : Table → Nat
  | .hbm => 6
  | .local .tc .vmem => 2
  | .local .scVector .vmem => 6
  | _ => 0

abbrev bufTy : (tb : Table) → Fin (nBuf tb) → BufTy
  | .hbm, ⟨0, _⟩ => ⟨S16384x50, .i32⟩
  | .hbm, ⟨1, _⟩ => ⟨S819200, .i32⟩
  | .hbm, ⟨2, _⟩ => ⟨S32x1280, .i32⟩
  | .hbm, ⟨3, _⟩ => ⟨S1x1280, .f32⟩
  | .hbm, ⟨4, _⟩ => ⟨S1x1203, .f32⟩
  | .hbm, ⟨5, _⟩ => ⟨S1203, .f32⟩
  | .local .tc .vmem, ⟨0, _⟩ => ⟨S32x1280, .i32⟩
  | .local .tc .vmem, ⟨1, _⟩ => ⟨S1x1280, .f32⟩
  | .local .scVector .vmem, ⟨0, _⟩ => ⟨S25600, .i32⟩
  | .local .scVector .vmem, ⟨1, _⟩ => ⟨S19456, .i32⟩
  | .local .scVector .vmem, ⟨2, _⟩ => ⟨S19456, .i32⟩
  | .local .scVector .vmem, ⟨3, _⟩ => ⟨S19456, .i32⟩
  | .local .scVector .vmem, ⟨4, _⟩ => ⟨S19456, .i32⟩
  | .local .scVector .vmem, ⟨5, _⟩ => ⟨S1280, .i32⟩
  | _, _ => ⟨S16384x50, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_1 : BitVec 32 := 0#32
  let c152_i32 : BitVec 32 := 152#32
  let v9 : BitVec 32 := Scalar.addi c0_i32_1 c152_i32
  let c1_i32_2 : BitVec 32 := 1#32
  ⟨c0_i32_1, v9, c1_i32_2⟩
def k0_off2 (k0_t1 : Fin k0_t1_loop.trips) (c0_i32_12 : BitVec 32) : Fin 1 → Nat :=
  let c0_i32_1 : BitVec 32 := 0#32
  let c1_i32_2 : BitVec 32 := 1#32
  let arg11 : BitVec 32 := Scf.iv c0_i32_1 c1_i32_2 k0_t1
  let c128_i32 : BitVec 32 := 128#32
  let v16 : BitVec 32 := Scalar.muli arg11 c128_i32
  let v17 : BitVec 32 := Scalar.addi v16 c0_i32_12
  let v18 : Index := Scalar.indexCast v17
  ![v18.toNat]
@[reducible] def k0_t2_loop : Scf.Loop 32 :=
  let c0_i32_5 : BitVec 32 := 0#32
  let c10_i32 : BitVec 32 := 10#32
  let v10 : BitVec 32 := Scalar.addi c0_i32_5 c10_i32
  let c1_i32_6 : BitVec 32 := 1#32
  ⟨c0_i32_5, v10, c1_i32_6⟩
def k0_off3 (k0_t2 : Fin k0_t2_loop.trips) (c0_i32_12 : BitVec 32) : Fin 1 → Nat :=
  let c0_i32_5 : BitVec 32 := 0#32
  let c1_i32_6 : BitVec 32 := 1#32
  let arg11 : BitVec 32 := Scf.iv c0_i32_5 c1_i32_6 k0_t2
  let c128_i32 : BitVec 32 := 128#32
  let v16 : BitVec 32 := Scalar.muli arg11 c128_i32
  let v17 : BitVec 32 := Scalar.addi v16 c0_i32_12
  let v18 : Index := Scalar.indexCast v17
  ![v18.toNat]
@[reducible] def k0_t3_loop : Scf.Loop 32 :=
  let c0_i32_9 : BitVec 32 := 0#32
  let c8_i32 : BitVec 32 := 8#32
  let v15 : BitVec 32 := Scalar.addi c0_i32_9 c8_i32
  let c1_i32_10 : BitVec 32 := 1#32
  ⟨c0_i32_9, v15, c1_i32_10⟩

def k0_chk1 (v41 : IVec S16 32) : Prop :=
  (∀ a x, ((![v41] : Fin 1 → IVec S16 32) a x).toNat < S25600.size a)
theorem k0_idx1_inb : ∀ (v41 : IVec S16 32) (k0_hw1 : k0_chk1 v41), ∀ a x, ((![v41] : Fin 1 → IVec S16 32) a x).toNat < S25600.size a := fun v41 k0_hw1 => k0_hw1

def k0_chk2 (v44 : IVec S16 32) : Prop :=
  (∀ a x, ((![v44] : Fin 1 → IVec S16 32) a x).toNat < S25600.size a)
theorem k0_idx2_inb : ∀ (v44 : IVec S16 32) (k0_hw2 : k0_chk2 v44), ∀ a x, ((![v44] : Fin 1 → IVec S16 32) a x).toNat < S25600.size a := fun v44 k0_hw2 => k0_hw2

def k0_chk3 (v47 : IVec S16 32) : Prop :=
  (∀ a x, ((![v47] : Fin 1 → IVec S16 32) a x).toNat < S25600.size a)
theorem k0_idx3_inb : ∀ (v47 : IVec S16 32) (k0_hw3 : k0_chk3 v47), ∀ a x, ((![v47] : Fin 1 → IVec S16 32) a x).toNat < S25600.size a := fun v47 k0_hw3 => k0_hw3

def k0_chk4 (v50 : IVec S16 32) : Prop :=
  (∀ a x, ((![v50] : Fin 1 → IVec S16 32) a x).toNat < S25600.size a)
theorem k0_idx4_inb : ∀ (v50 : IVec S16 32) (k0_hw4 : k0_chk4 v50), ∀ a x, ((![v50] : Fin 1 → IVec S16 32) a x).toNat < S25600.size a := fun v50 k0_hw4 => k0_hw4

def k0_chk9 (v42 : IVec S16 32) : Prop :=
  (∀ a x, ((![v42] : Fin 1 → IVec S16 32) a x).toNat < S1280.size a)
theorem k0_idx9_inb : ∀ (v42 : IVec S16 32) (k0_hw9 : k0_chk9 v42), ∀ a x, ((![v42] : Fin 1 → IVec S16 32) a x).toNat < S1280.size a := fun v42 k0_hw9 => k0_hw9

def k0_chk5 (v54 : IVec S16 32) : Prop :=
  (∀ a x, ((![v54] : Fin 1 → IVec S16 32) a x).toNat < S19456.size a) ∧
  (∀ a x, ((![v54] : Fin 1 → IVec S16 32) a x).toNat < S19456.size a)
theorem k0_idx5_inb : ∀ (v54 : IVec S16 32) (k0_hw5 : k0_chk5 v54), ∀ a x, ((![v54] : Fin 1 → IVec S16 32) a x).toNat < S19456.size a := fun v54 k0_hw5 => k0_hw5.1
theorem k0_idx10_inb : ∀ (v54 : IVec S16 32) (k0_hw5 : k0_chk5 v54), ∀ a x, ((![v54] : Fin 1 → IVec S16 32) a x).toNat < S19456.size a := fun v54 k0_hw5 => k0_hw5.2

def k0_chk10 (v45 : IVec S16 32) : Prop :=
  (∀ a x, ((![v45] : Fin 1 → IVec S16 32) a x).toNat < S1280.size a)
theorem k0_idx11_inb : ∀ (v45 : IVec S16 32) (k0_hw10 : k0_chk10 v45), ∀ a x, ((![v45] : Fin 1 → IVec S16 32) a x).toNat < S1280.size a := fun v45 k0_hw10 => k0_hw10

def k0_chk6 (v57 : IVec S16 32) : Prop :=
  (∀ a x, ((![v57] : Fin 1 → IVec S16 32) a x).toNat < S19456.size a) ∧
  (∀ a x, ((![v57] : Fin 1 → IVec S16 32) a x).toNat < S19456.size a)
theorem k0_idx6_inb : ∀ (v57 : IVec S16 32) (k0_hw6 : k0_chk6 v57), ∀ a x, ((![v57] : Fin 1 → IVec S16 32) a x).toNat < S19456.size a := fun v57 k0_hw6 => k0_hw6.1
theorem k0_idx12_inb : ∀ (v57 : IVec S16 32) (k0_hw6 : k0_chk6 v57), ∀ a x, ((![v57] : Fin 1 → IVec S16 32) a x).toNat < S19456.size a := fun v57 k0_hw6 => k0_hw6.2

def k0_chk11 (v48 : IVec S16 32) : Prop :=
  (∀ a x, ((![v48] : Fin 1 → IVec S16 32) a x).toNat < S1280.size a)
theorem k0_idx13_inb : ∀ (v48 : IVec S16 32) (k0_hw11 : k0_chk11 v48), ∀ a x, ((![v48] : Fin 1 → IVec S16 32) a x).toNat < S1280.size a := fun v48 k0_hw11 => k0_hw11

def k0_chk7 (v60 : IVec S16 32) : Prop :=
  (∀ a x, ((![v60] : Fin 1 → IVec S16 32) a x).toNat < S19456.size a) ∧
  (∀ a x, ((![v60] : Fin 1 → IVec S16 32) a x).toNat < S19456.size a)
theorem k0_idx7_inb : ∀ (v60 : IVec S16 32) (k0_hw7 : k0_chk7 v60), ∀ a x, ((![v60] : Fin 1 → IVec S16 32) a x).toNat < S19456.size a := fun v60 k0_hw7 => k0_hw7.1
theorem k0_idx14_inb : ∀ (v60 : IVec S16 32) (k0_hw7 : k0_chk7 v60), ∀ a x, ((![v60] : Fin 1 → IVec S16 32) a x).toNat < S19456.size a := fun v60 k0_hw7 => k0_hw7.2

def k0_chk12 (v51 : IVec S16 32) : Prop :=
  (∀ a x, ((![v51] : Fin 1 → IVec S16 32) a x).toNat < S1280.size a)
theorem k0_idx15_inb : ∀ (v51 : IVec S16 32) (k0_hw12 : k0_chk12 v51), ∀ a x, ((![v51] : Fin 1 → IVec S16 32) a x).toNat < S1280.size a := fun v51 k0_hw12 => k0_hw12

def k0_chk8 (v63 : IVec S16 32) : Prop :=
  (∀ a x, ((![v63] : Fin 1 → IVec S16 32) a x).toNat < S19456.size a) ∧
  (∀ a x, ((![v63] : Fin 1 → IVec S16 32) a x).toNat < S19456.size a)
theorem k0_idx8_inb : ∀ (v63 : IVec S16 32) (k0_hw8 : k0_chk8 v63), ∀ a x, ((![v63] : Fin 1 → IVec S16 32) a x).toNat < S19456.size a := fun v63 k0_hw8 => k0_hw8.1
theorem k0_idx16_inb : ∀ (v63 : IVec S16 32) (k0_hw8 : k0_chk8 v63), ∀ a x, ((![v63] : Fin 1 → IVec S16 32) a x).toNat < S19456.size a := fun v63 k0_hw8 => k0_hw8.2

def k0_chk13 (v73 : IVec S16 32) : Prop :=
  (∀ a x, ((![v73] : Fin 1 → IVec S16 32) a x).toNat < S25600.size a)
theorem k0_idx17_inb : ∀ (v73 : IVec S16 32) (k0_hw13 : k0_chk13 v73), ∀ a x, ((![v73] : Fin 1 → IVec S16 32) a x).toNat < S25600.size a := fun v73 k0_hw13 => k0_hw13

def k0_chk14 (v76 : IVec S16 32) : Prop :=
  (∀ a x, ((![v76] : Fin 1 → IVec S16 32) a x).toNat < S25600.size a)
theorem k0_idx18_inb : ∀ (v76 : IVec S16 32) (k0_hw14 : k0_chk14 v76), ∀ a x, ((![v76] : Fin 1 → IVec S16 32) a x).toNat < S25600.size a := fun v76 k0_hw14 => k0_hw14

def k0_chk15 (v79 : IVec S16 32) : Prop :=
  (∀ a x, ((![v79] : Fin 1 → IVec S16 32) a x).toNat < S25600.size a)
theorem k0_idx19_inb : ∀ (v79 : IVec S16 32) (k0_hw15 : k0_chk15 v79), ∀ a x, ((![v79] : Fin 1 → IVec S16 32) a x).toNat < S25600.size a := fun v79 k0_hw15 => k0_hw15

def k0_chk16 (v82 : IVec S16 32) : Prop :=
  (∀ a x, ((![v82] : Fin 1 → IVec S16 32) a x).toNat < S25600.size a)
theorem k0_idx20_inb : ∀ (v82 : IVec S16 32) (k0_hw16 : k0_chk16 v82), ∀ a x, ((![v82] : Fin 1 → IVec S16 32) a x).toNat < S25600.size a := fun v82 k0_hw16 => k0_hw16

def k0_chk21 (v74 : IVec S16 32) : Prop :=
  (∀ a x, ((![v74] : Fin 1 → IVec S16 32) a x).toNat < S1280.size a)
theorem k0_idx25_inb : ∀ (v74 : IVec S16 32) (k0_hw21 : k0_chk21 v74), ∀ a x, ((![v74] : Fin 1 → IVec S16 32) a x).toNat < S1280.size a := fun v74 k0_hw21 => k0_hw21

def k0_chk17 (v86 : IVec S16 32) : Prop :=
  (∀ a x, ((![v86] : Fin 1 → IVec S16 32) a x).toNat < S19456.size a) ∧
  (∀ a x, ((![v86] : Fin 1 → IVec S16 32) a x).toNat < S19456.size a)
theorem k0_idx21_inb : ∀ (v86 : IVec S16 32) (k0_hw17 : k0_chk17 v86), ∀ a x, ((![v86] : Fin 1 → IVec S16 32) a x).toNat < S19456.size a := fun v86 k0_hw17 => k0_hw17.1
theorem k0_idx26_inb : ∀ (v86 : IVec S16 32) (k0_hw17 : k0_chk17 v86), ∀ a x, ((![v86] : Fin 1 → IVec S16 32) a x).toNat < S19456.size a := fun v86 k0_hw17 => k0_hw17.2

def k0_chk22 (v77 : IVec S16 32) : Prop :=
  (∀ a x, ((![v77] : Fin 1 → IVec S16 32) a x).toNat < S1280.size a)
theorem k0_idx27_inb : ∀ (v77 : IVec S16 32) (k0_hw22 : k0_chk22 v77), ∀ a x, ((![v77] : Fin 1 → IVec S16 32) a x).toNat < S1280.size a := fun v77 k0_hw22 => k0_hw22

def k0_chk18 (v89 : IVec S16 32) : Prop :=
  (∀ a x, ((![v89] : Fin 1 → IVec S16 32) a x).toNat < S19456.size a) ∧
  (∀ a x, ((![v89] : Fin 1 → IVec S16 32) a x).toNat < S19456.size a)
theorem k0_idx22_inb : ∀ (v89 : IVec S16 32) (k0_hw18 : k0_chk18 v89), ∀ a x, ((![v89] : Fin 1 → IVec S16 32) a x).toNat < S19456.size a := fun v89 k0_hw18 => k0_hw18.1
theorem k0_idx28_inb : ∀ (v89 : IVec S16 32) (k0_hw18 : k0_chk18 v89), ∀ a x, ((![v89] : Fin 1 → IVec S16 32) a x).toNat < S19456.size a := fun v89 k0_hw18 => k0_hw18.2

def k0_chk23 (v80 : IVec S16 32) : Prop :=
  (∀ a x, ((![v80] : Fin 1 → IVec S16 32) a x).toNat < S1280.size a)
theorem k0_idx29_inb : ∀ (v80 : IVec S16 32) (k0_hw23 : k0_chk23 v80), ∀ a x, ((![v80] : Fin 1 → IVec S16 32) a x).toNat < S1280.size a := fun v80 k0_hw23 => k0_hw23

def k0_chk19 (v92 : IVec S16 32) : Prop :=
  (∀ a x, ((![v92] : Fin 1 → IVec S16 32) a x).toNat < S19456.size a) ∧
  (∀ a x, ((![v92] : Fin 1 → IVec S16 32) a x).toNat < S19456.size a)
theorem k0_idx23_inb : ∀ (v92 : IVec S16 32) (k0_hw19 : k0_chk19 v92), ∀ a x, ((![v92] : Fin 1 → IVec S16 32) a x).toNat < S19456.size a := fun v92 k0_hw19 => k0_hw19.1
theorem k0_idx30_inb : ∀ (v92 : IVec S16 32) (k0_hw19 : k0_chk19 v92), ∀ a x, ((![v92] : Fin 1 → IVec S16 32) a x).toNat < S19456.size a := fun v92 k0_hw19 => k0_hw19.2

def k0_chk24 (v83 : IVec S16 32) : Prop :=
  (∀ a x, ((![v83] : Fin 1 → IVec S16 32) a x).toNat < S1280.size a)
theorem k0_idx31_inb : ∀ (v83 : IVec S16 32) (k0_hw24 : k0_chk24 v83), ∀ a x, ((![v83] : Fin 1 → IVec S16 32) a x).toNat < S1280.size a := fun v83 k0_hw24 => k0_hw24

def k0_chk20 (v95 : IVec S16 32) : Prop :=
  (∀ a x, ((![v95] : Fin 1 → IVec S16 32) a x).toNat < S19456.size a) ∧
  (∀ a x, ((![v95] : Fin 1 → IVec S16 32) a x).toNat < S19456.size a)
theorem k0_idx24_inb : ∀ (v95 : IVec S16 32) (k0_hw20 : k0_chk20 v95), ∀ a x, ((![v95] : Fin 1 → IVec S16 32) a x).toNat < S19456.size a := fun v95 k0_hw20 => k0_hw20.1
theorem k0_idx32_inb : ∀ (v95 : IVec S16 32) (k0_hw20 : k0_chk20 v95), ∀ a x, ((![v95] : Fin 1 → IVec S16 32) a x).toNat < S19456.size a := fun v95 k0_hw20 => k0_hw20.2

def k0_chk25 (v105 : IVec S16 32) : Prop :=
  (∀ a x, ((![v105] : Fin 1 → IVec S16 32) a x).toNat < S25600.size a)
theorem k0_idx33_inb : ∀ (v105 : IVec S16 32) (k0_hw25 : k0_chk25 v105), ∀ a x, ((![v105] : Fin 1 → IVec S16 32) a x).toNat < S25600.size a := fun v105 k0_hw25 => k0_hw25

def k0_chk26 (v108 : IVec S16 32) : Prop :=
  (∀ a x, ((![v108] : Fin 1 → IVec S16 32) a x).toNat < S25600.size a)
theorem k0_idx34_inb : ∀ (v108 : IVec S16 32) (k0_hw26 : k0_chk26 v108), ∀ a x, ((![v108] : Fin 1 → IVec S16 32) a x).toNat < S25600.size a := fun v108 k0_hw26 => k0_hw26

def k0_chk27 (v111 : IVec S16 32) : Prop :=
  (∀ a x, ((![v111] : Fin 1 → IVec S16 32) a x).toNat < S25600.size a)
theorem k0_idx35_inb : ∀ (v111 : IVec S16 32) (k0_hw27 : k0_chk27 v111), ∀ a x, ((![v111] : Fin 1 → IVec S16 32) a x).toNat < S25600.size a := fun v111 k0_hw27 => k0_hw27

def k0_chk28 (v114 : IVec S16 32) : Prop :=
  (∀ a x, ((![v114] : Fin 1 → IVec S16 32) a x).toNat < S25600.size a)
theorem k0_idx36_inb : ∀ (v114 : IVec S16 32) (k0_hw28 : k0_chk28 v114), ∀ a x, ((![v114] : Fin 1 → IVec S16 32) a x).toNat < S25600.size a := fun v114 k0_hw28 => k0_hw28

def k0_chk33 (v106 : IVec S16 32) : Prop :=
  (∀ a x, ((![v106] : Fin 1 → IVec S16 32) a x).toNat < S1280.size a)
theorem k0_idx41_inb : ∀ (v106 : IVec S16 32) (k0_hw33 : k0_chk33 v106), ∀ a x, ((![v106] : Fin 1 → IVec S16 32) a x).toNat < S1280.size a := fun v106 k0_hw33 => k0_hw33

def k0_chk29 (v118 : IVec S16 32) : Prop :=
  (∀ a x, ((![v118] : Fin 1 → IVec S16 32) a x).toNat < S19456.size a) ∧
  (∀ a x, ((![v118] : Fin 1 → IVec S16 32) a x).toNat < S19456.size a)
theorem k0_idx37_inb : ∀ (v118 : IVec S16 32) (k0_hw29 : k0_chk29 v118), ∀ a x, ((![v118] : Fin 1 → IVec S16 32) a x).toNat < S19456.size a := fun v118 k0_hw29 => k0_hw29.1
theorem k0_idx42_inb : ∀ (v118 : IVec S16 32) (k0_hw29 : k0_chk29 v118), ∀ a x, ((![v118] : Fin 1 → IVec S16 32) a x).toNat < S19456.size a := fun v118 k0_hw29 => k0_hw29.2

def k0_chk34 (v109 : IVec S16 32) : Prop :=
  (∀ a x, ((![v109] : Fin 1 → IVec S16 32) a x).toNat < S1280.size a)
theorem k0_idx43_inb : ∀ (v109 : IVec S16 32) (k0_hw34 : k0_chk34 v109), ∀ a x, ((![v109] : Fin 1 → IVec S16 32) a x).toNat < S1280.size a := fun v109 k0_hw34 => k0_hw34

def k0_chk30 (v121 : IVec S16 32) : Prop :=
  (∀ a x, ((![v121] : Fin 1 → IVec S16 32) a x).toNat < S19456.size a) ∧
  (∀ a x, ((![v121] : Fin 1 → IVec S16 32) a x).toNat < S19456.size a)
theorem k0_idx38_inb : ∀ (v121 : IVec S16 32) (k0_hw30 : k0_chk30 v121), ∀ a x, ((![v121] : Fin 1 → IVec S16 32) a x).toNat < S19456.size a := fun v121 k0_hw30 => k0_hw30.1
theorem k0_idx44_inb : ∀ (v121 : IVec S16 32) (k0_hw30 : k0_chk30 v121), ∀ a x, ((![v121] : Fin 1 → IVec S16 32) a x).toNat < S19456.size a := fun v121 k0_hw30 => k0_hw30.2

def k0_chk35 (v112 : IVec S16 32) : Prop :=
  (∀ a x, ((![v112] : Fin 1 → IVec S16 32) a x).toNat < S1280.size a)
theorem k0_idx45_inb : ∀ (v112 : IVec S16 32) (k0_hw35 : k0_chk35 v112), ∀ a x, ((![v112] : Fin 1 → IVec S16 32) a x).toNat < S1280.size a := fun v112 k0_hw35 => k0_hw35

def k0_chk31 (v124 : IVec S16 32) : Prop :=
  (∀ a x, ((![v124] : Fin 1 → IVec S16 32) a x).toNat < S19456.size a) ∧
  (∀ a x, ((![v124] : Fin 1 → IVec S16 32) a x).toNat < S19456.size a)
theorem k0_idx39_inb : ∀ (v124 : IVec S16 32) (k0_hw31 : k0_chk31 v124), ∀ a x, ((![v124] : Fin 1 → IVec S16 32) a x).toNat < S19456.size a := fun v124 k0_hw31 => k0_hw31.1
theorem k0_idx46_inb : ∀ (v124 : IVec S16 32) (k0_hw31 : k0_chk31 v124), ∀ a x, ((![v124] : Fin 1 → IVec S16 32) a x).toNat < S19456.size a := fun v124 k0_hw31 => k0_hw31.2

def k0_chk36 (v115 : IVec S16 32) : Prop :=
  (∀ a x, ((![v115] : Fin 1 → IVec S16 32) a x).toNat < S1280.size a)
theorem k0_idx47_inb : ∀ (v115 : IVec S16 32) (k0_hw36 : k0_chk36 v115), ∀ a x, ((![v115] : Fin 1 → IVec S16 32) a x).toNat < S1280.size a := fun v115 k0_hw36 => k0_hw36

def k0_chk32 (v127 : IVec S16 32) : Prop :=
  (∀ a x, ((![v127] : Fin 1 → IVec S16 32) a x).toNat < S19456.size a) ∧
  (∀ a x, ((![v127] : Fin 1 → IVec S16 32) a x).toNat < S19456.size a)
theorem k0_idx40_inb : ∀ (v127 : IVec S16 32) (k0_hw32 : k0_chk32 v127), ∀ a x, ((![v127] : Fin 1 → IVec S16 32) a x).toNat < S19456.size a := fun v127 k0_hw32 => k0_hw32.1
theorem k0_idx48_inb : ∀ (v127 : IVec S16 32) (k0_hw32 : k0_chk32 v127), ∀ a x, ((![v127] : Fin 1 → IVec S16 32) a x).toNat < S19456.size a := fun v127 k0_hw32 => k0_hw32.2

def k0_chk37 (v137 : IVec S16 32) : Prop :=
  (∀ a x, ((![v137] : Fin 1 → IVec S16 32) a x).toNat < S25600.size a)
theorem k0_idx49_inb : ∀ (v137 : IVec S16 32) (k0_hw37 : k0_chk37 v137), ∀ a x, ((![v137] : Fin 1 → IVec S16 32) a x).toNat < S25600.size a := fun v137 k0_hw37 => k0_hw37

def k0_chk38 (v140 : IVec S16 32) : Prop :=
  (∀ a x, ((![v140] : Fin 1 → IVec S16 32) a x).toNat < S25600.size a)
theorem k0_idx50_inb : ∀ (v140 : IVec S16 32) (k0_hw38 : k0_chk38 v140), ∀ a x, ((![v140] : Fin 1 → IVec S16 32) a x).toNat < S25600.size a := fun v140 k0_hw38 => k0_hw38

def k0_chk39 (v143 : IVec S16 32) : Prop :=
  (∀ a x, ((![v143] : Fin 1 → IVec S16 32) a x).toNat < S25600.size a)
theorem k0_idx51_inb : ∀ (v143 : IVec S16 32) (k0_hw39 : k0_chk39 v143), ∀ a x, ((![v143] : Fin 1 → IVec S16 32) a x).toNat < S25600.size a := fun v143 k0_hw39 => k0_hw39

def k0_chk40 (v146 : IVec S16 32) : Prop :=
  (∀ a x, ((![v146] : Fin 1 → IVec S16 32) a x).toNat < S25600.size a)
theorem k0_idx52_inb : ∀ (v146 : IVec S16 32) (k0_hw40 : k0_chk40 v146), ∀ a x, ((![v146] : Fin 1 → IVec S16 32) a x).toNat < S25600.size a := fun v146 k0_hw40 => k0_hw40

def k0_chk45 (v138 : IVec S16 32) : Prop :=
  (∀ a x, ((![v138] : Fin 1 → IVec S16 32) a x).toNat < S1280.size a)
theorem k0_idx57_inb : ∀ (v138 : IVec S16 32) (k0_hw45 : k0_chk45 v138), ∀ a x, ((![v138] : Fin 1 → IVec S16 32) a x).toNat < S1280.size a := fun v138 k0_hw45 => k0_hw45

def k0_chk41 (v150 : IVec S16 32) : Prop :=
  (∀ a x, ((![v150] : Fin 1 → IVec S16 32) a x).toNat < S19456.size a) ∧
  (∀ a x, ((![v150] : Fin 1 → IVec S16 32) a x).toNat < S19456.size a)
theorem k0_idx53_inb : ∀ (v150 : IVec S16 32) (k0_hw41 : k0_chk41 v150), ∀ a x, ((![v150] : Fin 1 → IVec S16 32) a x).toNat < S19456.size a := fun v150 k0_hw41 => k0_hw41.1
theorem k0_idx58_inb : ∀ (v150 : IVec S16 32) (k0_hw41 : k0_chk41 v150), ∀ a x, ((![v150] : Fin 1 → IVec S16 32) a x).toNat < S19456.size a := fun v150 k0_hw41 => k0_hw41.2

def k0_chk46 (v141 : IVec S16 32) : Prop :=
  (∀ a x, ((![v141] : Fin 1 → IVec S16 32) a x).toNat < S1280.size a)
theorem k0_idx59_inb : ∀ (v141 : IVec S16 32) (k0_hw46 : k0_chk46 v141), ∀ a x, ((![v141] : Fin 1 → IVec S16 32) a x).toNat < S1280.size a := fun v141 k0_hw46 => k0_hw46

def k0_chk42 (v153 : IVec S16 32) : Prop :=
  (∀ a x, ((![v153] : Fin 1 → IVec S16 32) a x).toNat < S19456.size a) ∧
  (∀ a x, ((![v153] : Fin 1 → IVec S16 32) a x).toNat < S19456.size a)
theorem k0_idx54_inb : ∀ (v153 : IVec S16 32) (k0_hw42 : k0_chk42 v153), ∀ a x, ((![v153] : Fin 1 → IVec S16 32) a x).toNat < S19456.size a := fun v153 k0_hw42 => k0_hw42.1
theorem k0_idx60_inb : ∀ (v153 : IVec S16 32) (k0_hw42 : k0_chk42 v153), ∀ a x, ((![v153] : Fin 1 → IVec S16 32) a x).toNat < S19456.size a := fun v153 k0_hw42 => k0_hw42.2

def k0_chk47 (v144 : IVec S16 32) : Prop :=
  (∀ a x, ((![v144] : Fin 1 → IVec S16 32) a x).toNat < S1280.size a)
theorem k0_idx61_inb : ∀ (v144 : IVec S16 32) (k0_hw47 : k0_chk47 v144), ∀ a x, ((![v144] : Fin 1 → IVec S16 32) a x).toNat < S1280.size a := fun v144 k0_hw47 => k0_hw47

def k0_chk43 (v156 : IVec S16 32) : Prop :=
  (∀ a x, ((![v156] : Fin 1 → IVec S16 32) a x).toNat < S19456.size a) ∧
  (∀ a x, ((![v156] : Fin 1 → IVec S16 32) a x).toNat < S19456.size a)
theorem k0_idx55_inb : ∀ (v156 : IVec S16 32) (k0_hw43 : k0_chk43 v156), ∀ a x, ((![v156] : Fin 1 → IVec S16 32) a x).toNat < S19456.size a := fun v156 k0_hw43 => k0_hw43.1
theorem k0_idx62_inb : ∀ (v156 : IVec S16 32) (k0_hw43 : k0_chk43 v156), ∀ a x, ((![v156] : Fin 1 → IVec S16 32) a x).toNat < S19456.size a := fun v156 k0_hw43 => k0_hw43.2

def k0_chk48 (v147 : IVec S16 32) : Prop :=
  (∀ a x, ((![v147] : Fin 1 → IVec S16 32) a x).toNat < S1280.size a)
theorem k0_idx63_inb : ∀ (v147 : IVec S16 32) (k0_hw48 : k0_chk48 v147), ∀ a x, ((![v147] : Fin 1 → IVec S16 32) a x).toNat < S1280.size a := fun v147 k0_hw48 => k0_hw48

def k0_chk44 (v159 : IVec S16 32) : Prop :=
  (∀ a x, ((![v159] : Fin 1 → IVec S16 32) a x).toNat < S19456.size a) ∧
  (∀ a x, ((![v159] : Fin 1 → IVec S16 32) a x).toNat < S19456.size a)
theorem k0_idx56_inb : ∀ (v159 : IVec S16 32) (k0_hw44 : k0_chk44 v159), ∀ a x, ((![v159] : Fin 1 → IVec S16 32) a x).toNat < S19456.size a := fun v159 k0_hw44 => k0_hw44.1
theorem k0_idx64_inb : ∀ (v159 : IVec S16 32) (k0_hw44 : k0_chk44 v159), ∀ a x, ((![v159] : Fin 1 → IVec S16 32) a x).toNat < S19456.size a := fun v159 k0_hw44 => k0_hw44.2

def k0_chk49 (v169 : IVec S16 32) : Prop :=
  (∀ a x, ((![v169] : Fin 1 → IVec S16 32) a x).toNat < S25600.size a)
theorem k0_idx65_inb : ∀ (v169 : IVec S16 32) (k0_hw49 : k0_chk49 v169), ∀ a x, ((![v169] : Fin 1 → IVec S16 32) a x).toNat < S25600.size a := fun v169 k0_hw49 => k0_hw49

def k0_chk50 (v172 : IVec S16 32) : Prop :=
  (∀ a x, ((![v172] : Fin 1 → IVec S16 32) a x).toNat < S25600.size a)
theorem k0_idx66_inb : ∀ (v172 : IVec S16 32) (k0_hw50 : k0_chk50 v172), ∀ a x, ((![v172] : Fin 1 → IVec S16 32) a x).toNat < S25600.size a := fun v172 k0_hw50 => k0_hw50

def k0_chk51 (v175 : IVec S16 32) : Prop :=
  (∀ a x, ((![v175] : Fin 1 → IVec S16 32) a x).toNat < S25600.size a)
theorem k0_idx67_inb : ∀ (v175 : IVec S16 32) (k0_hw51 : k0_chk51 v175), ∀ a x, ((![v175] : Fin 1 → IVec S16 32) a x).toNat < S25600.size a := fun v175 k0_hw51 => k0_hw51

def k0_chk52 (v178 : IVec S16 32) : Prop :=
  (∀ a x, ((![v178] : Fin 1 → IVec S16 32) a x).toNat < S25600.size a)
theorem k0_idx68_inb : ∀ (v178 : IVec S16 32) (k0_hw52 : k0_chk52 v178), ∀ a x, ((![v178] : Fin 1 → IVec S16 32) a x).toNat < S25600.size a := fun v178 k0_hw52 => k0_hw52

def k0_chk57 (v170 : IVec S16 32) : Prop :=
  (∀ a x, ((![v170] : Fin 1 → IVec S16 32) a x).toNat < S1280.size a)
theorem k0_idx73_inb : ∀ (v170 : IVec S16 32) (k0_hw57 : k0_chk57 v170), ∀ a x, ((![v170] : Fin 1 → IVec S16 32) a x).toNat < S1280.size a := fun v170 k0_hw57 => k0_hw57

def k0_chk53 (v182 : IVec S16 32) : Prop :=
  (∀ a x, ((![v182] : Fin 1 → IVec S16 32) a x).toNat < S19456.size a) ∧
  (∀ a x, ((![v182] : Fin 1 → IVec S16 32) a x).toNat < S19456.size a)
theorem k0_idx69_inb : ∀ (v182 : IVec S16 32) (k0_hw53 : k0_chk53 v182), ∀ a x, ((![v182] : Fin 1 → IVec S16 32) a x).toNat < S19456.size a := fun v182 k0_hw53 => k0_hw53.1
theorem k0_idx74_inb : ∀ (v182 : IVec S16 32) (k0_hw53 : k0_chk53 v182), ∀ a x, ((![v182] : Fin 1 → IVec S16 32) a x).toNat < S19456.size a := fun v182 k0_hw53 => k0_hw53.2

def k0_chk58 (v173 : IVec S16 32) : Prop :=
  (∀ a x, ((![v173] : Fin 1 → IVec S16 32) a x).toNat < S1280.size a)
theorem k0_idx75_inb : ∀ (v173 : IVec S16 32) (k0_hw58 : k0_chk58 v173), ∀ a x, ((![v173] : Fin 1 → IVec S16 32) a x).toNat < S1280.size a := fun v173 k0_hw58 => k0_hw58

def k0_chk54 (v185 : IVec S16 32) : Prop :=
  (∀ a x, ((![v185] : Fin 1 → IVec S16 32) a x).toNat < S19456.size a) ∧
  (∀ a x, ((![v185] : Fin 1 → IVec S16 32) a x).toNat < S19456.size a)
theorem k0_idx70_inb : ∀ (v185 : IVec S16 32) (k0_hw54 : k0_chk54 v185), ∀ a x, ((![v185] : Fin 1 → IVec S16 32) a x).toNat < S19456.size a := fun v185 k0_hw54 => k0_hw54.1
theorem k0_idx76_inb : ∀ (v185 : IVec S16 32) (k0_hw54 : k0_chk54 v185), ∀ a x, ((![v185] : Fin 1 → IVec S16 32) a x).toNat < S19456.size a := fun v185 k0_hw54 => k0_hw54.2

def k0_chk59 (v176 : IVec S16 32) : Prop :=
  (∀ a x, ((![v176] : Fin 1 → IVec S16 32) a x).toNat < S1280.size a)
theorem k0_idx77_inb : ∀ (v176 : IVec S16 32) (k0_hw59 : k0_chk59 v176), ∀ a x, ((![v176] : Fin 1 → IVec S16 32) a x).toNat < S1280.size a := fun v176 k0_hw59 => k0_hw59

def k0_chk55 (v188 : IVec S16 32) : Prop :=
  (∀ a x, ((![v188] : Fin 1 → IVec S16 32) a x).toNat < S19456.size a) ∧
  (∀ a x, ((![v188] : Fin 1 → IVec S16 32) a x).toNat < S19456.size a)
theorem k0_idx71_inb : ∀ (v188 : IVec S16 32) (k0_hw55 : k0_chk55 v188), ∀ a x, ((![v188] : Fin 1 → IVec S16 32) a x).toNat < S19456.size a := fun v188 k0_hw55 => k0_hw55.1
theorem k0_idx78_inb : ∀ (v188 : IVec S16 32) (k0_hw55 : k0_chk55 v188), ∀ a x, ((![v188] : Fin 1 → IVec S16 32) a x).toNat < S19456.size a := fun v188 k0_hw55 => k0_hw55.2

def k0_chk60 (v179 : IVec S16 32) : Prop :=
  (∀ a x, ((![v179] : Fin 1 → IVec S16 32) a x).toNat < S1280.size a)
theorem k0_idx79_inb : ∀ (v179 : IVec S16 32) (k0_hw60 : k0_chk60 v179), ∀ a x, ((![v179] : Fin 1 → IVec S16 32) a x).toNat < S1280.size a := fun v179 k0_hw60 => k0_hw60

def k0_chk56 (v191 : IVec S16 32) : Prop :=
  (∀ a x, ((![v191] : Fin 1 → IVec S16 32) a x).toNat < S19456.size a) ∧
  (∀ a x, ((![v191] : Fin 1 → IVec S16 32) a x).toNat < S19456.size a)
theorem k0_idx72_inb : ∀ (v191 : IVec S16 32) (k0_hw56 : k0_chk56 v191), ∀ a x, ((![v191] : Fin 1 → IVec S16 32) a x).toNat < S19456.size a := fun v191 k0_hw56 => k0_hw56.1
theorem k0_idx80_inb : ∀ (v191 : IVec S16 32) (k0_hw56 : k0_chk56 v191), ∀ a x, ((![v191] : Fin 1 → IVec S16 32) a x).toNat < S19456.size a := fun v191 k0_hw56 => k0_hw56.2

def k0_chk61 (v201 : IVec S16 32) : Prop :=
  (∀ a x, ((![v201] : Fin 1 → IVec S16 32) a x).toNat < S25600.size a)
theorem k0_idx81_inb : ∀ (v201 : IVec S16 32) (k0_hw61 : k0_chk61 v201), ∀ a x, ((![v201] : Fin 1 → IVec S16 32) a x).toNat < S25600.size a := fun v201 k0_hw61 => k0_hw61

def k0_chk62 (v204 : IVec S16 32) : Prop :=
  (∀ a x, ((![v204] : Fin 1 → IVec S16 32) a x).toNat < S25600.size a)
theorem k0_idx82_inb : ∀ (v204 : IVec S16 32) (k0_hw62 : k0_chk62 v204), ∀ a x, ((![v204] : Fin 1 → IVec S16 32) a x).toNat < S25600.size a := fun v204 k0_hw62 => k0_hw62

def k0_chk63 (v207 : IVec S16 32) : Prop :=
  (∀ a x, ((![v207] : Fin 1 → IVec S16 32) a x).toNat < S25600.size a)
theorem k0_idx83_inb : ∀ (v207 : IVec S16 32) (k0_hw63 : k0_chk63 v207), ∀ a x, ((![v207] : Fin 1 → IVec S16 32) a x).toNat < S25600.size a := fun v207 k0_hw63 => k0_hw63

def k0_chk64 (v210 : IVec S16 32) : Prop :=
  (∀ a x, ((![v210] : Fin 1 → IVec S16 32) a x).toNat < S25600.size a)
theorem k0_idx84_inb : ∀ (v210 : IVec S16 32) (k0_hw64 : k0_chk64 v210), ∀ a x, ((![v210] : Fin 1 → IVec S16 32) a x).toNat < S25600.size a := fun v210 k0_hw64 => k0_hw64

def k0_chk69 (v202 : IVec S16 32) : Prop :=
  (∀ a x, ((![v202] : Fin 1 → IVec S16 32) a x).toNat < S1280.size a)
theorem k0_idx89_inb : ∀ (v202 : IVec S16 32) (k0_hw69 : k0_chk69 v202), ∀ a x, ((![v202] : Fin 1 → IVec S16 32) a x).toNat < S1280.size a := fun v202 k0_hw69 => k0_hw69

def k0_chk65 (v214 : IVec S16 32) : Prop :=
  (∀ a x, ((![v214] : Fin 1 → IVec S16 32) a x).toNat < S19456.size a) ∧
  (∀ a x, ((![v214] : Fin 1 → IVec S16 32) a x).toNat < S19456.size a)
theorem k0_idx85_inb : ∀ (v214 : IVec S16 32) (k0_hw65 : k0_chk65 v214), ∀ a x, ((![v214] : Fin 1 → IVec S16 32) a x).toNat < S19456.size a := fun v214 k0_hw65 => k0_hw65.1
theorem k0_idx90_inb : ∀ (v214 : IVec S16 32) (k0_hw65 : k0_chk65 v214), ∀ a x, ((![v214] : Fin 1 → IVec S16 32) a x).toNat < S19456.size a := fun v214 k0_hw65 => k0_hw65.2

def k0_chk70 (v205 : IVec S16 32) : Prop :=
  (∀ a x, ((![v205] : Fin 1 → IVec S16 32) a x).toNat < S1280.size a)
theorem k0_idx91_inb : ∀ (v205 : IVec S16 32) (k0_hw70 : k0_chk70 v205), ∀ a x, ((![v205] : Fin 1 → IVec S16 32) a x).toNat < S1280.size a := fun v205 k0_hw70 => k0_hw70

def k0_chk66 (v217 : IVec S16 32) : Prop :=
  (∀ a x, ((![v217] : Fin 1 → IVec S16 32) a x).toNat < S19456.size a) ∧
  (∀ a x, ((![v217] : Fin 1 → IVec S16 32) a x).toNat < S19456.size a)
theorem k0_idx86_inb : ∀ (v217 : IVec S16 32) (k0_hw66 : k0_chk66 v217), ∀ a x, ((![v217] : Fin 1 → IVec S16 32) a x).toNat < S19456.size a := fun v217 k0_hw66 => k0_hw66.1
theorem k0_idx92_inb : ∀ (v217 : IVec S16 32) (k0_hw66 : k0_chk66 v217), ∀ a x, ((![v217] : Fin 1 → IVec S16 32) a x).toNat < S19456.size a := fun v217 k0_hw66 => k0_hw66.2

def k0_chk71 (v208 : IVec S16 32) : Prop :=
  (∀ a x, ((![v208] : Fin 1 → IVec S16 32) a x).toNat < S1280.size a)
theorem k0_idx93_inb : ∀ (v208 : IVec S16 32) (k0_hw71 : k0_chk71 v208), ∀ a x, ((![v208] : Fin 1 → IVec S16 32) a x).toNat < S1280.size a := fun v208 k0_hw71 => k0_hw71

def k0_chk67 (v220 : IVec S16 32) : Prop :=
  (∀ a x, ((![v220] : Fin 1 → IVec S16 32) a x).toNat < S19456.size a) ∧
  (∀ a x, ((![v220] : Fin 1 → IVec S16 32) a x).toNat < S19456.size a)
theorem k0_idx87_inb : ∀ (v220 : IVec S16 32) (k0_hw67 : k0_chk67 v220), ∀ a x, ((![v220] : Fin 1 → IVec S16 32) a x).toNat < S19456.size a := fun v220 k0_hw67 => k0_hw67.1
theorem k0_idx94_inb : ∀ (v220 : IVec S16 32) (k0_hw67 : k0_chk67 v220), ∀ a x, ((![v220] : Fin 1 → IVec S16 32) a x).toNat < S19456.size a := fun v220 k0_hw67 => k0_hw67.2

def k0_chk72 (v211 : IVec S16 32) : Prop :=
  (∀ a x, ((![v211] : Fin 1 → IVec S16 32) a x).toNat < S1280.size a)
theorem k0_idx95_inb : ∀ (v211 : IVec S16 32) (k0_hw72 : k0_chk72 v211), ∀ a x, ((![v211] : Fin 1 → IVec S16 32) a x).toNat < S1280.size a := fun v211 k0_hw72 => k0_hw72

def k0_chk68 (v223 : IVec S16 32) : Prop :=
  (∀ a x, ((![v223] : Fin 1 → IVec S16 32) a x).toNat < S19456.size a) ∧
  (∀ a x, ((![v223] : Fin 1 → IVec S16 32) a x).toNat < S19456.size a)
theorem k0_idx88_inb : ∀ (v223 : IVec S16 32) (k0_hw68 : k0_chk68 v223), ∀ a x, ((![v223] : Fin 1 → IVec S16 32) a x).toNat < S19456.size a := fun v223 k0_hw68 => k0_hw68.1
theorem k0_idx96_inb : ∀ (v223 : IVec S16 32) (k0_hw68 : k0_chk68 v223), ∀ a x, ((![v223] : Fin 1 → IVec S16 32) a x).toNat < S19456.size a := fun v223 k0_hw68 => k0_hw68.2

def k0_chk73 (v233 : IVec S16 32) : Prop :=
  (∀ a x, ((![v233] : Fin 1 → IVec S16 32) a x).toNat < S25600.size a)
theorem k0_idx97_inb : ∀ (v233 : IVec S16 32) (k0_hw73 : k0_chk73 v233), ∀ a x, ((![v233] : Fin 1 → IVec S16 32) a x).toNat < S25600.size a := fun v233 k0_hw73 => k0_hw73

def k0_chk74 (v236 : IVec S16 32) : Prop :=
  (∀ a x, ((![v236] : Fin 1 → IVec S16 32) a x).toNat < S25600.size a)
theorem k0_idx98_inb : ∀ (v236 : IVec S16 32) (k0_hw74 : k0_chk74 v236), ∀ a x, ((![v236] : Fin 1 → IVec S16 32) a x).toNat < S25600.size a := fun v236 k0_hw74 => k0_hw74

def k0_chk75 (v239 : IVec S16 32) : Prop :=
  (∀ a x, ((![v239] : Fin 1 → IVec S16 32) a x).toNat < S25600.size a)
theorem k0_idx99_inb : ∀ (v239 : IVec S16 32) (k0_hw75 : k0_chk75 v239), ∀ a x, ((![v239] : Fin 1 → IVec S16 32) a x).toNat < S25600.size a := fun v239 k0_hw75 => k0_hw75

def k0_chk76 (v242 : IVec S16 32) : Prop :=
  (∀ a x, ((![v242] : Fin 1 → IVec S16 32) a x).toNat < S25600.size a)
theorem k0_idx100_inb : ∀ (v242 : IVec S16 32) (k0_hw76 : k0_chk76 v242), ∀ a x, ((![v242] : Fin 1 → IVec S16 32) a x).toNat < S25600.size a := fun v242 k0_hw76 => k0_hw76

def k0_chk81 (v234 : IVec S16 32) : Prop :=
  (∀ a x, ((![v234] : Fin 1 → IVec S16 32) a x).toNat < S1280.size a)
theorem k0_idx105_inb : ∀ (v234 : IVec S16 32) (k0_hw81 : k0_chk81 v234), ∀ a x, ((![v234] : Fin 1 → IVec S16 32) a x).toNat < S1280.size a := fun v234 k0_hw81 => k0_hw81

def k0_chk77 (v246 : IVec S16 32) : Prop :=
  (∀ a x, ((![v246] : Fin 1 → IVec S16 32) a x).toNat < S19456.size a) ∧
  (∀ a x, ((![v246] : Fin 1 → IVec S16 32) a x).toNat < S19456.size a)
theorem k0_idx101_inb : ∀ (v246 : IVec S16 32) (k0_hw77 : k0_chk77 v246), ∀ a x, ((![v246] : Fin 1 → IVec S16 32) a x).toNat < S19456.size a := fun v246 k0_hw77 => k0_hw77.1
theorem k0_idx106_inb : ∀ (v246 : IVec S16 32) (k0_hw77 : k0_chk77 v246), ∀ a x, ((![v246] : Fin 1 → IVec S16 32) a x).toNat < S19456.size a := fun v246 k0_hw77 => k0_hw77.2

def k0_chk82 (v237 : IVec S16 32) : Prop :=
  (∀ a x, ((![v237] : Fin 1 → IVec S16 32) a x).toNat < S1280.size a)
theorem k0_idx107_inb : ∀ (v237 : IVec S16 32) (k0_hw82 : k0_chk82 v237), ∀ a x, ((![v237] : Fin 1 → IVec S16 32) a x).toNat < S1280.size a := fun v237 k0_hw82 => k0_hw82

def k0_chk78 (v249 : IVec S16 32) : Prop :=
  (∀ a x, ((![v249] : Fin 1 → IVec S16 32) a x).toNat < S19456.size a) ∧
  (∀ a x, ((![v249] : Fin 1 → IVec S16 32) a x).toNat < S19456.size a)
theorem k0_idx102_inb : ∀ (v249 : IVec S16 32) (k0_hw78 : k0_chk78 v249), ∀ a x, ((![v249] : Fin 1 → IVec S16 32) a x).toNat < S19456.size a := fun v249 k0_hw78 => k0_hw78.1
theorem k0_idx108_inb : ∀ (v249 : IVec S16 32) (k0_hw78 : k0_chk78 v249), ∀ a x, ((![v249] : Fin 1 → IVec S16 32) a x).toNat < S19456.size a := fun v249 k0_hw78 => k0_hw78.2

def k0_chk83 (v240 : IVec S16 32) : Prop :=
  (∀ a x, ((![v240] : Fin 1 → IVec S16 32) a x).toNat < S1280.size a)
theorem k0_idx109_inb : ∀ (v240 : IVec S16 32) (k0_hw83 : k0_chk83 v240), ∀ a x, ((![v240] : Fin 1 → IVec S16 32) a x).toNat < S1280.size a := fun v240 k0_hw83 => k0_hw83

def k0_chk79 (v252 : IVec S16 32) : Prop :=
  (∀ a x, ((![v252] : Fin 1 → IVec S16 32) a x).toNat < S19456.size a) ∧
  (∀ a x, ((![v252] : Fin 1 → IVec S16 32) a x).toNat < S19456.size a)
theorem k0_idx103_inb : ∀ (v252 : IVec S16 32) (k0_hw79 : k0_chk79 v252), ∀ a x, ((![v252] : Fin 1 → IVec S16 32) a x).toNat < S19456.size a := fun v252 k0_hw79 => k0_hw79.1
theorem k0_idx110_inb : ∀ (v252 : IVec S16 32) (k0_hw79 : k0_chk79 v252), ∀ a x, ((![v252] : Fin 1 → IVec S16 32) a x).toNat < S19456.size a := fun v252 k0_hw79 => k0_hw79.2

def k0_chk84 (v243 : IVec S16 32) : Prop :=
  (∀ a x, ((![v243] : Fin 1 → IVec S16 32) a x).toNat < S1280.size a)
theorem k0_idx111_inb : ∀ (v243 : IVec S16 32) (k0_hw84 : k0_chk84 v243), ∀ a x, ((![v243] : Fin 1 → IVec S16 32) a x).toNat < S1280.size a := fun v243 k0_hw84 => k0_hw84

def k0_chk80 (v255 : IVec S16 32) : Prop :=
  (∀ a x, ((![v255] : Fin 1 → IVec S16 32) a x).toNat < S19456.size a) ∧
  (∀ a x, ((![v255] : Fin 1 → IVec S16 32) a x).toNat < S19456.size a)
theorem k0_idx104_inb : ∀ (v255 : IVec S16 32) (k0_hw80 : k0_chk80 v255), ∀ a x, ((![v255] : Fin 1 → IVec S16 32) a x).toNat < S19456.size a := fun v255 k0_hw80 => k0_hw80.1
theorem k0_idx112_inb : ∀ (v255 : IVec S16 32) (k0_hw80 : k0_chk80 v255), ∀ a x, ((![v255] : Fin 1 → IVec S16 32) a x).toNat < S19456.size a := fun v255 k0_hw80 => k0_hw80.2

def k0_chk85 (v265 : IVec S16 32) : Prop :=
  (∀ a x, ((![v265] : Fin 1 → IVec S16 32) a x).toNat < S25600.size a)
theorem k0_idx113_inb : ∀ (v265 : IVec S16 32) (k0_hw85 : k0_chk85 v265), ∀ a x, ((![v265] : Fin 1 → IVec S16 32) a x).toNat < S25600.size a := fun v265 k0_hw85 => k0_hw85

def k0_chk86 (v268 : IVec S16 32) : Prop :=
  (∀ a x, ((![v268] : Fin 1 → IVec S16 32) a x).toNat < S25600.size a)
theorem k0_idx114_inb : ∀ (v268 : IVec S16 32) (k0_hw86 : k0_chk86 v268), ∀ a x, ((![v268] : Fin 1 → IVec S16 32) a x).toNat < S25600.size a := fun v268 k0_hw86 => k0_hw86

def k0_chk87 (v271 : IVec S16 32) : Prop :=
  (∀ a x, ((![v271] : Fin 1 → IVec S16 32) a x).toNat < S25600.size a)
theorem k0_idx115_inb : ∀ (v271 : IVec S16 32) (k0_hw87 : k0_chk87 v271), ∀ a x, ((![v271] : Fin 1 → IVec S16 32) a x).toNat < S25600.size a := fun v271 k0_hw87 => k0_hw87

def k0_chk88 (v274 : IVec S16 32) : Prop :=
  (∀ a x, ((![v274] : Fin 1 → IVec S16 32) a x).toNat < S25600.size a)
theorem k0_idx116_inb : ∀ (v274 : IVec S16 32) (k0_hw88 : k0_chk88 v274), ∀ a x, ((![v274] : Fin 1 → IVec S16 32) a x).toNat < S25600.size a := fun v274 k0_hw88 => k0_hw88

def k0_chk93 (v266 : IVec S16 32) : Prop :=
  (∀ a x, ((![v266] : Fin 1 → IVec S16 32) a x).toNat < S1280.size a)
theorem k0_idx121_inb : ∀ (v266 : IVec S16 32) (k0_hw93 : k0_chk93 v266), ∀ a x, ((![v266] : Fin 1 → IVec S16 32) a x).toNat < S1280.size a := fun v266 k0_hw93 => k0_hw93

def k0_chk89 (v278 : IVec S16 32) : Prop :=
  (∀ a x, ((![v278] : Fin 1 → IVec S16 32) a x).toNat < S19456.size a) ∧
  (∀ a x, ((![v278] : Fin 1 → IVec S16 32) a x).toNat < S19456.size a)
theorem k0_idx117_inb : ∀ (v278 : IVec S16 32) (k0_hw89 : k0_chk89 v278), ∀ a x, ((![v278] : Fin 1 → IVec S16 32) a x).toNat < S19456.size a := fun v278 k0_hw89 => k0_hw89.1
theorem k0_idx122_inb : ∀ (v278 : IVec S16 32) (k0_hw89 : k0_chk89 v278), ∀ a x, ((![v278] : Fin 1 → IVec S16 32) a x).toNat < S19456.size a := fun v278 k0_hw89 => k0_hw89.2

def k0_chk94 (v269 : IVec S16 32) : Prop :=
  (∀ a x, ((![v269] : Fin 1 → IVec S16 32) a x).toNat < S1280.size a)
theorem k0_idx123_inb : ∀ (v269 : IVec S16 32) (k0_hw94 : k0_chk94 v269), ∀ a x, ((![v269] : Fin 1 → IVec S16 32) a x).toNat < S1280.size a := fun v269 k0_hw94 => k0_hw94

def k0_chk90 (v281 : IVec S16 32) : Prop :=
  (∀ a x, ((![v281] : Fin 1 → IVec S16 32) a x).toNat < S19456.size a) ∧
  (∀ a x, ((![v281] : Fin 1 → IVec S16 32) a x).toNat < S19456.size a)
theorem k0_idx118_inb : ∀ (v281 : IVec S16 32) (k0_hw90 : k0_chk90 v281), ∀ a x, ((![v281] : Fin 1 → IVec S16 32) a x).toNat < S19456.size a := fun v281 k0_hw90 => k0_hw90.1
theorem k0_idx124_inb : ∀ (v281 : IVec S16 32) (k0_hw90 : k0_chk90 v281), ∀ a x, ((![v281] : Fin 1 → IVec S16 32) a x).toNat < S19456.size a := fun v281 k0_hw90 => k0_hw90.2

def k0_chk95 (v272 : IVec S16 32) : Prop :=
  (∀ a x, ((![v272] : Fin 1 → IVec S16 32) a x).toNat < S1280.size a)
theorem k0_idx125_inb : ∀ (v272 : IVec S16 32) (k0_hw95 : k0_chk95 v272), ∀ a x, ((![v272] : Fin 1 → IVec S16 32) a x).toNat < S1280.size a := fun v272 k0_hw95 => k0_hw95

def k0_chk91 (v284 : IVec S16 32) : Prop :=
  (∀ a x, ((![v284] : Fin 1 → IVec S16 32) a x).toNat < S19456.size a) ∧
  (∀ a x, ((![v284] : Fin 1 → IVec S16 32) a x).toNat < S19456.size a)
theorem k0_idx119_inb : ∀ (v284 : IVec S16 32) (k0_hw91 : k0_chk91 v284), ∀ a x, ((![v284] : Fin 1 → IVec S16 32) a x).toNat < S19456.size a := fun v284 k0_hw91 => k0_hw91.1
theorem k0_idx126_inb : ∀ (v284 : IVec S16 32) (k0_hw91 : k0_chk91 v284), ∀ a x, ((![v284] : Fin 1 → IVec S16 32) a x).toNat < S19456.size a := fun v284 k0_hw91 => k0_hw91.2

def k0_chk96 (v275 : IVec S16 32) : Prop :=
  (∀ a x, ((![v275] : Fin 1 → IVec S16 32) a x).toNat < S1280.size a)
theorem k0_idx127_inb : ∀ (v275 : IVec S16 32) (k0_hw96 : k0_chk96 v275), ∀ a x, ((![v275] : Fin 1 → IVec S16 32) a x).toNat < S1280.size a := fun v275 k0_hw96 => k0_hw96

def k0_chk92 (v287 : IVec S16 32) : Prop :=
  (∀ a x, ((![v287] : Fin 1 → IVec S16 32) a x).toNat < S19456.size a) ∧
  (∀ a x, ((![v287] : Fin 1 → IVec S16 32) a x).toNat < S19456.size a)
theorem k0_idx120_inb : ∀ (v287 : IVec S16 32) (k0_hw92 : k0_chk92 v287), ∀ a x, ((![v287] : Fin 1 → IVec S16 32) a x).toNat < S19456.size a := fun v287 k0_hw92 => k0_hw92.1
theorem k0_idx128_inb : ∀ (v287 : IVec S16 32) (k0_hw92 : k0_chk92 v287), ∀ a x, ((![v287] : Fin 1 → IVec S16 32) a x).toNat < S19456.size a := fun v287 k0_hw92 => k0_hw92.2

def k0_chk97 (v297 : IVec S16 32) : Prop :=
  (∀ a x, ((![v297] : Fin 1 → IVec S16 32) a x).toNat < S25600.size a)
theorem k0_idx129_inb : ∀ (v297 : IVec S16 32) (k0_hw97 : k0_chk97 v297), ∀ a x, ((![v297] : Fin 1 → IVec S16 32) a x).toNat < S25600.size a := fun v297 k0_hw97 => k0_hw97

def k0_chk98 (v300 : IVec S16 32) : Prop :=
  (∀ a x, ((![v300] : Fin 1 → IVec S16 32) a x).toNat < S25600.size a)
theorem k0_idx130_inb : ∀ (v300 : IVec S16 32) (k0_hw98 : k0_chk98 v300), ∀ a x, ((![v300] : Fin 1 → IVec S16 32) a x).toNat < S25600.size a := fun v300 k0_hw98 => k0_hw98

def k0_chk99 (v303 : IVec S16 32) : Prop :=
  (∀ a x, ((![v303] : Fin 1 → IVec S16 32) a x).toNat < S25600.size a)
theorem k0_idx131_inb : ∀ (v303 : IVec S16 32) (k0_hw99 : k0_chk99 v303), ∀ a x, ((![v303] : Fin 1 → IVec S16 32) a x).toNat < S25600.size a := fun v303 k0_hw99 => k0_hw99

def k0_chk100 (v306 : IVec S16 32) : Prop :=
  (∀ a x, ((![v306] : Fin 1 → IVec S16 32) a x).toNat < S25600.size a)
theorem k0_idx132_inb : ∀ (v306 : IVec S16 32) (k0_hw100 : k0_chk100 v306), ∀ a x, ((![v306] : Fin 1 → IVec S16 32) a x).toNat < S25600.size a := fun v306 k0_hw100 => k0_hw100

def k0_chk105 (v298 : IVec S16 32) : Prop :=
  (∀ a x, ((![v298] : Fin 1 → IVec S16 32) a x).toNat < S1280.size a)
theorem k0_idx137_inb : ∀ (v298 : IVec S16 32) (k0_hw105 : k0_chk105 v298), ∀ a x, ((![v298] : Fin 1 → IVec S16 32) a x).toNat < S1280.size a := fun v298 k0_hw105 => k0_hw105

def k0_chk101 (v310 : IVec S16 32) : Prop :=
  (∀ a x, ((![v310] : Fin 1 → IVec S16 32) a x).toNat < S19456.size a) ∧
  (∀ a x, ((![v310] : Fin 1 → IVec S16 32) a x).toNat < S19456.size a)
theorem k0_idx133_inb : ∀ (v310 : IVec S16 32) (k0_hw101 : k0_chk101 v310), ∀ a x, ((![v310] : Fin 1 → IVec S16 32) a x).toNat < S19456.size a := fun v310 k0_hw101 => k0_hw101.1
theorem k0_idx138_inb : ∀ (v310 : IVec S16 32) (k0_hw101 : k0_chk101 v310), ∀ a x, ((![v310] : Fin 1 → IVec S16 32) a x).toNat < S19456.size a := fun v310 k0_hw101 => k0_hw101.2

def k0_chk106 (v301 : IVec S16 32) : Prop :=
  (∀ a x, ((![v301] : Fin 1 → IVec S16 32) a x).toNat < S1280.size a)
theorem k0_idx139_inb : ∀ (v301 : IVec S16 32) (k0_hw106 : k0_chk106 v301), ∀ a x, ((![v301] : Fin 1 → IVec S16 32) a x).toNat < S1280.size a := fun v301 k0_hw106 => k0_hw106

def k0_chk102 (v313 : IVec S16 32) : Prop :=
  (∀ a x, ((![v313] : Fin 1 → IVec S16 32) a x).toNat < S19456.size a) ∧
  (∀ a x, ((![v313] : Fin 1 → IVec S16 32) a x).toNat < S19456.size a)
theorem k0_idx134_inb : ∀ (v313 : IVec S16 32) (k0_hw102 : k0_chk102 v313), ∀ a x, ((![v313] : Fin 1 → IVec S16 32) a x).toNat < S19456.size a := fun v313 k0_hw102 => k0_hw102.1
theorem k0_idx140_inb : ∀ (v313 : IVec S16 32) (k0_hw102 : k0_chk102 v313), ∀ a x, ((![v313] : Fin 1 → IVec S16 32) a x).toNat < S19456.size a := fun v313 k0_hw102 => k0_hw102.2

def k0_chk107 (v304 : IVec S16 32) : Prop :=
  (∀ a x, ((![v304] : Fin 1 → IVec S16 32) a x).toNat < S1280.size a)
theorem k0_idx141_inb : ∀ (v304 : IVec S16 32) (k0_hw107 : k0_chk107 v304), ∀ a x, ((![v304] : Fin 1 → IVec S16 32) a x).toNat < S1280.size a := fun v304 k0_hw107 => k0_hw107

def k0_chk103 (v316 : IVec S16 32) : Prop :=
  (∀ a x, ((![v316] : Fin 1 → IVec S16 32) a x).toNat < S19456.size a) ∧
  (∀ a x, ((![v316] : Fin 1 → IVec S16 32) a x).toNat < S19456.size a)
theorem k0_idx135_inb : ∀ (v316 : IVec S16 32) (k0_hw103 : k0_chk103 v316), ∀ a x, ((![v316] : Fin 1 → IVec S16 32) a x).toNat < S19456.size a := fun v316 k0_hw103 => k0_hw103.1
theorem k0_idx142_inb : ∀ (v316 : IVec S16 32) (k0_hw103 : k0_chk103 v316), ∀ a x, ((![v316] : Fin 1 → IVec S16 32) a x).toNat < S19456.size a := fun v316 k0_hw103 => k0_hw103.2

def k0_chk108 (v307 : IVec S16 32) : Prop :=
  (∀ a x, ((![v307] : Fin 1 → IVec S16 32) a x).toNat < S1280.size a)
theorem k0_idx143_inb : ∀ (v307 : IVec S16 32) (k0_hw108 : k0_chk108 v307), ∀ a x, ((![v307] : Fin 1 → IVec S16 32) a x).toNat < S1280.size a := fun v307 k0_hw108 => k0_hw108

def k0_chk104 (v319 : IVec S16 32) : Prop :=
  (∀ a x, ((![v319] : Fin 1 → IVec S16 32) a x).toNat < S19456.size a) ∧
  (∀ a x, ((![v319] : Fin 1 → IVec S16 32) a x).toNat < S19456.size a)
theorem k0_idx136_inb : ∀ (v319 : IVec S16 32) (k0_hw104 : k0_chk104 v319), ∀ a x, ((![v319] : Fin 1 → IVec S16 32) a x).toNat < S19456.size a := fun v319 k0_hw104 => k0_hw104.1
theorem k0_idx144_inb : ∀ (v319 : IVec S16 32) (k0_hw104 : k0_chk104 v319), ∀ a x, ((![v319] : Fin 1 → IVec S16 32) a x).toNat < S19456.size a := fun v319 k0_hw104 => k0_hw104.2

def k0_chk109 (v329 : IVec S16 32) : Prop :=
  (∀ a x, ((![v329] : Fin 1 → IVec S16 32) a x).toNat < S25600.size a)
theorem k0_idx145_inb : ∀ (v329 : IVec S16 32) (k0_hw109 : k0_chk109 v329), ∀ a x, ((![v329] : Fin 1 → IVec S16 32) a x).toNat < S25600.size a := fun v329 k0_hw109 => k0_hw109

def k0_chk110 (v332 : IVec S16 32) : Prop :=
  (∀ a x, ((![v332] : Fin 1 → IVec S16 32) a x).toNat < S25600.size a)
theorem k0_idx146_inb : ∀ (v332 : IVec S16 32) (k0_hw110 : k0_chk110 v332), ∀ a x, ((![v332] : Fin 1 → IVec S16 32) a x).toNat < S25600.size a := fun v332 k0_hw110 => k0_hw110

def k0_chk111 (v335 : IVec S16 32) : Prop :=
  (∀ a x, ((![v335] : Fin 1 → IVec S16 32) a x).toNat < S25600.size a)
theorem k0_idx147_inb : ∀ (v335 : IVec S16 32) (k0_hw111 : k0_chk111 v335), ∀ a x, ((![v335] : Fin 1 → IVec S16 32) a x).toNat < S25600.size a := fun v335 k0_hw111 => k0_hw111

def k0_chk112 (v338 : IVec S16 32) : Prop :=
  (∀ a x, ((![v338] : Fin 1 → IVec S16 32) a x).toNat < S25600.size a)
theorem k0_idx148_inb : ∀ (v338 : IVec S16 32) (k0_hw112 : k0_chk112 v338), ∀ a x, ((![v338] : Fin 1 → IVec S16 32) a x).toNat < S25600.size a := fun v338 k0_hw112 => k0_hw112

def k0_chk117 (v330 : IVec S16 32) : Prop :=
  (∀ a x, ((![v330] : Fin 1 → IVec S16 32) a x).toNat < S1280.size a)
theorem k0_idx153_inb : ∀ (v330 : IVec S16 32) (k0_hw117 : k0_chk117 v330), ∀ a x, ((![v330] : Fin 1 → IVec S16 32) a x).toNat < S1280.size a := fun v330 k0_hw117 => k0_hw117

def k0_chk113 (v342 : IVec S16 32) : Prop :=
  (∀ a x, ((![v342] : Fin 1 → IVec S16 32) a x).toNat < S19456.size a) ∧
  (∀ a x, ((![v342] : Fin 1 → IVec S16 32) a x).toNat < S19456.size a)
theorem k0_idx149_inb : ∀ (v342 : IVec S16 32) (k0_hw113 : k0_chk113 v342), ∀ a x, ((![v342] : Fin 1 → IVec S16 32) a x).toNat < S19456.size a := fun v342 k0_hw113 => k0_hw113.1
theorem k0_idx154_inb : ∀ (v342 : IVec S16 32) (k0_hw113 : k0_chk113 v342), ∀ a x, ((![v342] : Fin 1 → IVec S16 32) a x).toNat < S19456.size a := fun v342 k0_hw113 => k0_hw113.2

def k0_chk118 (v333 : IVec S16 32) : Prop :=
  (∀ a x, ((![v333] : Fin 1 → IVec S16 32) a x).toNat < S1280.size a)
theorem k0_idx155_inb : ∀ (v333 : IVec S16 32) (k0_hw118 : k0_chk118 v333), ∀ a x, ((![v333] : Fin 1 → IVec S16 32) a x).toNat < S1280.size a := fun v333 k0_hw118 => k0_hw118

def k0_chk114 (v345 : IVec S16 32) : Prop :=
  (∀ a x, ((![v345] : Fin 1 → IVec S16 32) a x).toNat < S19456.size a) ∧
  (∀ a x, ((![v345] : Fin 1 → IVec S16 32) a x).toNat < S19456.size a)
theorem k0_idx150_inb : ∀ (v345 : IVec S16 32) (k0_hw114 : k0_chk114 v345), ∀ a x, ((![v345] : Fin 1 → IVec S16 32) a x).toNat < S19456.size a := fun v345 k0_hw114 => k0_hw114.1
theorem k0_idx156_inb : ∀ (v345 : IVec S16 32) (k0_hw114 : k0_chk114 v345), ∀ a x, ((![v345] : Fin 1 → IVec S16 32) a x).toNat < S19456.size a := fun v345 k0_hw114 => k0_hw114.2

def k0_chk119 (v336 : IVec S16 32) : Prop :=
  (∀ a x, ((![v336] : Fin 1 → IVec S16 32) a x).toNat < S1280.size a)
theorem k0_idx157_inb : ∀ (v336 : IVec S16 32) (k0_hw119 : k0_chk119 v336), ∀ a x, ((![v336] : Fin 1 → IVec S16 32) a x).toNat < S1280.size a := fun v336 k0_hw119 => k0_hw119

def k0_chk115 (v348 : IVec S16 32) : Prop :=
  (∀ a x, ((![v348] : Fin 1 → IVec S16 32) a x).toNat < S19456.size a) ∧
  (∀ a x, ((![v348] : Fin 1 → IVec S16 32) a x).toNat < S19456.size a)
theorem k0_idx151_inb : ∀ (v348 : IVec S16 32) (k0_hw115 : k0_chk115 v348), ∀ a x, ((![v348] : Fin 1 → IVec S16 32) a x).toNat < S19456.size a := fun v348 k0_hw115 => k0_hw115.1
theorem k0_idx158_inb : ∀ (v348 : IVec S16 32) (k0_hw115 : k0_chk115 v348), ∀ a x, ((![v348] : Fin 1 → IVec S16 32) a x).toNat < S19456.size a := fun v348 k0_hw115 => k0_hw115.2

def k0_chk120 (v339 : IVec S16 32) : Prop :=
  (∀ a x, ((![v339] : Fin 1 → IVec S16 32) a x).toNat < S1280.size a)
theorem k0_idx159_inb : ∀ (v339 : IVec S16 32) (k0_hw120 : k0_chk120 v339), ∀ a x, ((![v339] : Fin 1 → IVec S16 32) a x).toNat < S1280.size a := fun v339 k0_hw120 => k0_hw120

def k0_chk116 (v351 : IVec S16 32) : Prop :=
  (∀ a x, ((![v351] : Fin 1 → IVec S16 32) a x).toNat < S19456.size a) ∧
  (∀ a x, ((![v351] : Fin 1 → IVec S16 32) a x).toNat < S19456.size a)
theorem k0_idx152_inb : ∀ (v351 : IVec S16 32) (k0_hw116 : k0_chk116 v351), ∀ a x, ((![v351] : Fin 1 → IVec S16 32) a x).toNat < S19456.size a := fun v351 k0_hw116 => k0_hw116.1
theorem k0_idx160_inb : ∀ (v351 : IVec S16 32) (k0_hw116 : k0_chk116 v351), ∀ a x, ((![v351] : Fin 1 → IVec S16 32) a x).toNat < S19456.size a := fun v351 k0_hw116 => k0_hw116.2

def k0_chk121 (v361 : IVec S16 32) : Prop :=
  (∀ a x, ((![v361] : Fin 1 → IVec S16 32) a x).toNat < S25600.size a)
theorem k0_idx161_inb : ∀ (v361 : IVec S16 32) (k0_hw121 : k0_chk121 v361), ∀ a x, ((![v361] : Fin 1 → IVec S16 32) a x).toNat < S25600.size a := fun v361 k0_hw121 => k0_hw121

def k0_chk122 (v364 : IVec S16 32) : Prop :=
  (∀ a x, ((![v364] : Fin 1 → IVec S16 32) a x).toNat < S25600.size a)
theorem k0_idx162_inb : ∀ (v364 : IVec S16 32) (k0_hw122 : k0_chk122 v364), ∀ a x, ((![v364] : Fin 1 → IVec S16 32) a x).toNat < S25600.size a := fun v364 k0_hw122 => k0_hw122

def k0_chk123 (v367 : IVec S16 32) : Prop :=
  (∀ a x, ((![v367] : Fin 1 → IVec S16 32) a x).toNat < S25600.size a)
theorem k0_idx163_inb : ∀ (v367 : IVec S16 32) (k0_hw123 : k0_chk123 v367), ∀ a x, ((![v367] : Fin 1 → IVec S16 32) a x).toNat < S25600.size a := fun v367 k0_hw123 => k0_hw123

def k0_chk124 (v370 : IVec S16 32) : Prop :=
  (∀ a x, ((![v370] : Fin 1 → IVec S16 32) a x).toNat < S25600.size a)
theorem k0_idx164_inb : ∀ (v370 : IVec S16 32) (k0_hw124 : k0_chk124 v370), ∀ a x, ((![v370] : Fin 1 → IVec S16 32) a x).toNat < S25600.size a := fun v370 k0_hw124 => k0_hw124

def k0_chk129 (v362 : IVec S16 32) : Prop :=
  (∀ a x, ((![v362] : Fin 1 → IVec S16 32) a x).toNat < S1280.size a)
theorem k0_idx169_inb : ∀ (v362 : IVec S16 32) (k0_hw129 : k0_chk129 v362), ∀ a x, ((![v362] : Fin 1 → IVec S16 32) a x).toNat < S1280.size a := fun v362 k0_hw129 => k0_hw129

def k0_chk125 (v374 : IVec S16 32) : Prop :=
  (∀ a x, ((![v374] : Fin 1 → IVec S16 32) a x).toNat < S19456.size a) ∧
  (∀ a x, ((![v374] : Fin 1 → IVec S16 32) a x).toNat < S19456.size a)
theorem k0_idx165_inb : ∀ (v374 : IVec S16 32) (k0_hw125 : k0_chk125 v374), ∀ a x, ((![v374] : Fin 1 → IVec S16 32) a x).toNat < S19456.size a := fun v374 k0_hw125 => k0_hw125.1
theorem k0_idx170_inb : ∀ (v374 : IVec S16 32) (k0_hw125 : k0_chk125 v374), ∀ a x, ((![v374] : Fin 1 → IVec S16 32) a x).toNat < S19456.size a := fun v374 k0_hw125 => k0_hw125.2

def k0_chk130 (v365 : IVec S16 32) : Prop :=
  (∀ a x, ((![v365] : Fin 1 → IVec S16 32) a x).toNat < S1280.size a)
theorem k0_idx171_inb : ∀ (v365 : IVec S16 32) (k0_hw130 : k0_chk130 v365), ∀ a x, ((![v365] : Fin 1 → IVec S16 32) a x).toNat < S1280.size a := fun v365 k0_hw130 => k0_hw130

def k0_chk126 (v377 : IVec S16 32) : Prop :=
  (∀ a x, ((![v377] : Fin 1 → IVec S16 32) a x).toNat < S19456.size a) ∧
  (∀ a x, ((![v377] : Fin 1 → IVec S16 32) a x).toNat < S19456.size a)
theorem k0_idx166_inb : ∀ (v377 : IVec S16 32) (k0_hw126 : k0_chk126 v377), ∀ a x, ((![v377] : Fin 1 → IVec S16 32) a x).toNat < S19456.size a := fun v377 k0_hw126 => k0_hw126.1
theorem k0_idx172_inb : ∀ (v377 : IVec S16 32) (k0_hw126 : k0_chk126 v377), ∀ a x, ((![v377] : Fin 1 → IVec S16 32) a x).toNat < S19456.size a := fun v377 k0_hw126 => k0_hw126.2

def k0_chk131 (v368 : IVec S16 32) : Prop :=
  (∀ a x, ((![v368] : Fin 1 → IVec S16 32) a x).toNat < S1280.size a)
theorem k0_idx173_inb : ∀ (v368 : IVec S16 32) (k0_hw131 : k0_chk131 v368), ∀ a x, ((![v368] : Fin 1 → IVec S16 32) a x).toNat < S1280.size a := fun v368 k0_hw131 => k0_hw131

def k0_chk127 (v380 : IVec S16 32) : Prop :=
  (∀ a x, ((![v380] : Fin 1 → IVec S16 32) a x).toNat < S19456.size a) ∧
  (∀ a x, ((![v380] : Fin 1 → IVec S16 32) a x).toNat < S19456.size a)
theorem k0_idx167_inb : ∀ (v380 : IVec S16 32) (k0_hw127 : k0_chk127 v380), ∀ a x, ((![v380] : Fin 1 → IVec S16 32) a x).toNat < S19456.size a := fun v380 k0_hw127 => k0_hw127.1
theorem k0_idx174_inb : ∀ (v380 : IVec S16 32) (k0_hw127 : k0_chk127 v380), ∀ a x, ((![v380] : Fin 1 → IVec S16 32) a x).toNat < S19456.size a := fun v380 k0_hw127 => k0_hw127.2

def k0_chk132 (v371 : IVec S16 32) : Prop :=
  (∀ a x, ((![v371] : Fin 1 → IVec S16 32) a x).toNat < S1280.size a)
theorem k0_idx175_inb : ∀ (v371 : IVec S16 32) (k0_hw132 : k0_chk132 v371), ∀ a x, ((![v371] : Fin 1 → IVec S16 32) a x).toNat < S1280.size a := fun v371 k0_hw132 => k0_hw132

def k0_chk128 (v383 : IVec S16 32) : Prop :=
  (∀ a x, ((![v383] : Fin 1 → IVec S16 32) a x).toNat < S19456.size a) ∧
  (∀ a x, ((![v383] : Fin 1 → IVec S16 32) a x).toNat < S19456.size a)
theorem k0_idx168_inb : ∀ (v383 : IVec S16 32) (k0_hw128 : k0_chk128 v383), ∀ a x, ((![v383] : Fin 1 → IVec S16 32) a x).toNat < S19456.size a := fun v383 k0_hw128 => k0_hw128.1
theorem k0_idx176_inb : ∀ (v383 : IVec S16 32) (k0_hw128 : k0_chk128 v383), ∀ a x, ((![v383] : Fin 1 → IVec S16 32) a x).toNat < S19456.size a := fun v383 k0_hw128 => k0_hw128.2

def k0_chk133 (v393 : IVec S16 32) : Prop :=
  (∀ a x, ((![v393] : Fin 1 → IVec S16 32) a x).toNat < S25600.size a)
theorem k0_idx177_inb : ∀ (v393 : IVec S16 32) (k0_hw133 : k0_chk133 v393), ∀ a x, ((![v393] : Fin 1 → IVec S16 32) a x).toNat < S25600.size a := fun v393 k0_hw133 => k0_hw133

def k0_chk134 (v396 : IVec S16 32) : Prop :=
  (∀ a x, ((![v396] : Fin 1 → IVec S16 32) a x).toNat < S25600.size a)
theorem k0_idx178_inb : ∀ (v396 : IVec S16 32) (k0_hw134 : k0_chk134 v396), ∀ a x, ((![v396] : Fin 1 → IVec S16 32) a x).toNat < S25600.size a := fun v396 k0_hw134 => k0_hw134

def k0_chk135 (v399 : IVec S16 32) : Prop :=
  (∀ a x, ((![v399] : Fin 1 → IVec S16 32) a x).toNat < S25600.size a)
theorem k0_idx179_inb : ∀ (v399 : IVec S16 32) (k0_hw135 : k0_chk135 v399), ∀ a x, ((![v399] : Fin 1 → IVec S16 32) a x).toNat < S25600.size a := fun v399 k0_hw135 => k0_hw135

def k0_chk136 (v402 : IVec S16 32) : Prop :=
  (∀ a x, ((![v402] : Fin 1 → IVec S16 32) a x).toNat < S25600.size a)
theorem k0_idx180_inb : ∀ (v402 : IVec S16 32) (k0_hw136 : k0_chk136 v402), ∀ a x, ((![v402] : Fin 1 → IVec S16 32) a x).toNat < S25600.size a := fun v402 k0_hw136 => k0_hw136

def k0_chk141 (v394 : IVec S16 32) : Prop :=
  (∀ a x, ((![v394] : Fin 1 → IVec S16 32) a x).toNat < S1280.size a)
theorem k0_idx185_inb : ∀ (v394 : IVec S16 32) (k0_hw141 : k0_chk141 v394), ∀ a x, ((![v394] : Fin 1 → IVec S16 32) a x).toNat < S1280.size a := fun v394 k0_hw141 => k0_hw141

def k0_chk137 (v406 : IVec S16 32) : Prop :=
  (∀ a x, ((![v406] : Fin 1 → IVec S16 32) a x).toNat < S19456.size a) ∧
  (∀ a x, ((![v406] : Fin 1 → IVec S16 32) a x).toNat < S19456.size a)
theorem k0_idx181_inb : ∀ (v406 : IVec S16 32) (k0_hw137 : k0_chk137 v406), ∀ a x, ((![v406] : Fin 1 → IVec S16 32) a x).toNat < S19456.size a := fun v406 k0_hw137 => k0_hw137.1
theorem k0_idx186_inb : ∀ (v406 : IVec S16 32) (k0_hw137 : k0_chk137 v406), ∀ a x, ((![v406] : Fin 1 → IVec S16 32) a x).toNat < S19456.size a := fun v406 k0_hw137 => k0_hw137.2

def k0_chk142 (v397 : IVec S16 32) : Prop :=
  (∀ a x, ((![v397] : Fin 1 → IVec S16 32) a x).toNat < S1280.size a)
theorem k0_idx187_inb : ∀ (v397 : IVec S16 32) (k0_hw142 : k0_chk142 v397), ∀ a x, ((![v397] : Fin 1 → IVec S16 32) a x).toNat < S1280.size a := fun v397 k0_hw142 => k0_hw142

def k0_chk138 (v409 : IVec S16 32) : Prop :=
  (∀ a x, ((![v409] : Fin 1 → IVec S16 32) a x).toNat < S19456.size a) ∧
  (∀ a x, ((![v409] : Fin 1 → IVec S16 32) a x).toNat < S19456.size a)
theorem k0_idx182_inb : ∀ (v409 : IVec S16 32) (k0_hw138 : k0_chk138 v409), ∀ a x, ((![v409] : Fin 1 → IVec S16 32) a x).toNat < S19456.size a := fun v409 k0_hw138 => k0_hw138.1
theorem k0_idx188_inb : ∀ (v409 : IVec S16 32) (k0_hw138 : k0_chk138 v409), ∀ a x, ((![v409] : Fin 1 → IVec S16 32) a x).toNat < S19456.size a := fun v409 k0_hw138 => k0_hw138.2

def k0_chk143 (v400 : IVec S16 32) : Prop :=
  (∀ a x, ((![v400] : Fin 1 → IVec S16 32) a x).toNat < S1280.size a)
theorem k0_idx189_inb : ∀ (v400 : IVec S16 32) (k0_hw143 : k0_chk143 v400), ∀ a x, ((![v400] : Fin 1 → IVec S16 32) a x).toNat < S1280.size a := fun v400 k0_hw143 => k0_hw143

def k0_chk139 (v412 : IVec S16 32) : Prop :=
  (∀ a x, ((![v412] : Fin 1 → IVec S16 32) a x).toNat < S19456.size a) ∧
  (∀ a x, ((![v412] : Fin 1 → IVec S16 32) a x).toNat < S19456.size a)
theorem k0_idx183_inb : ∀ (v412 : IVec S16 32) (k0_hw139 : k0_chk139 v412), ∀ a x, ((![v412] : Fin 1 → IVec S16 32) a x).toNat < S19456.size a := fun v412 k0_hw139 => k0_hw139.1
theorem k0_idx190_inb : ∀ (v412 : IVec S16 32) (k0_hw139 : k0_chk139 v412), ∀ a x, ((![v412] : Fin 1 → IVec S16 32) a x).toNat < S19456.size a := fun v412 k0_hw139 => k0_hw139.2

def k0_chk144 (v403 : IVec S16 32) : Prop :=
  (∀ a x, ((![v403] : Fin 1 → IVec S16 32) a x).toNat < S1280.size a)
theorem k0_idx191_inb : ∀ (v403 : IVec S16 32) (k0_hw144 : k0_chk144 v403), ∀ a x, ((![v403] : Fin 1 → IVec S16 32) a x).toNat < S1280.size a := fun v403 k0_hw144 => k0_hw144

def k0_chk140 (v415 : IVec S16 32) : Prop :=
  (∀ a x, ((![v415] : Fin 1 → IVec S16 32) a x).toNat < S19456.size a) ∧
  (∀ a x, ((![v415] : Fin 1 → IVec S16 32) a x).toNat < S19456.size a)
theorem k0_idx184_inb : ∀ (v415 : IVec S16 32) (k0_hw140 : k0_chk140 v415), ∀ a x, ((![v415] : Fin 1 → IVec S16 32) a x).toNat < S19456.size a := fun v415 k0_hw140 => k0_hw140.1
theorem k0_idx192_inb : ∀ (v415 : IVec S16 32) (k0_hw140 : k0_chk140 v415), ∀ a x, ((![v415] : Fin 1 → IVec S16 32) a x).toNat < S19456.size a := fun v415 k0_hw140 => k0_hw140.2

def k0_chk145 (v425 : IVec S16 32) : Prop :=
  (∀ a x, ((![v425] : Fin 1 → IVec S16 32) a x).toNat < S25600.size a)
theorem k0_idx193_inb : ∀ (v425 : IVec S16 32) (k0_hw145 : k0_chk145 v425), ∀ a x, ((![v425] : Fin 1 → IVec S16 32) a x).toNat < S25600.size a := fun v425 k0_hw145 => k0_hw145

def k0_chk146 (v428 : IVec S16 32) : Prop :=
  (∀ a x, ((![v428] : Fin 1 → IVec S16 32) a x).toNat < S25600.size a)
theorem k0_idx194_inb : ∀ (v428 : IVec S16 32) (k0_hw146 : k0_chk146 v428), ∀ a x, ((![v428] : Fin 1 → IVec S16 32) a x).toNat < S25600.size a := fun v428 k0_hw146 => k0_hw146

def k0_chk147 (v431 : IVec S16 32) : Prop :=
  (∀ a x, ((![v431] : Fin 1 → IVec S16 32) a x).toNat < S25600.size a)
theorem k0_idx195_inb : ∀ (v431 : IVec S16 32) (k0_hw147 : k0_chk147 v431), ∀ a x, ((![v431] : Fin 1 → IVec S16 32) a x).toNat < S25600.size a := fun v431 k0_hw147 => k0_hw147

def k0_chk148 (v434 : IVec S16 32) : Prop :=
  (∀ a x, ((![v434] : Fin 1 → IVec S16 32) a x).toNat < S25600.size a)
theorem k0_idx196_inb : ∀ (v434 : IVec S16 32) (k0_hw148 : k0_chk148 v434), ∀ a x, ((![v434] : Fin 1 → IVec S16 32) a x).toNat < S25600.size a := fun v434 k0_hw148 => k0_hw148

def k0_chk153 (v426 : IVec S16 32) : Prop :=
  (∀ a x, ((![v426] : Fin 1 → IVec S16 32) a x).toNat < S1280.size a)
theorem k0_idx201_inb : ∀ (v426 : IVec S16 32) (k0_hw153 : k0_chk153 v426), ∀ a x, ((![v426] : Fin 1 → IVec S16 32) a x).toNat < S1280.size a := fun v426 k0_hw153 => k0_hw153

def k0_chk149 (v438 : IVec S16 32) : Prop :=
  (∀ a x, ((![v438] : Fin 1 → IVec S16 32) a x).toNat < S19456.size a) ∧
  (∀ a x, ((![v438] : Fin 1 → IVec S16 32) a x).toNat < S19456.size a)
theorem k0_idx197_inb : ∀ (v438 : IVec S16 32) (k0_hw149 : k0_chk149 v438), ∀ a x, ((![v438] : Fin 1 → IVec S16 32) a x).toNat < S19456.size a := fun v438 k0_hw149 => k0_hw149.1
theorem k0_idx202_inb : ∀ (v438 : IVec S16 32) (k0_hw149 : k0_chk149 v438), ∀ a x, ((![v438] : Fin 1 → IVec S16 32) a x).toNat < S19456.size a := fun v438 k0_hw149 => k0_hw149.2

def k0_chk154 (v429 : IVec S16 32) : Prop :=
  (∀ a x, ((![v429] : Fin 1 → IVec S16 32) a x).toNat < S1280.size a)
theorem k0_idx203_inb : ∀ (v429 : IVec S16 32) (k0_hw154 : k0_chk154 v429), ∀ a x, ((![v429] : Fin 1 → IVec S16 32) a x).toNat < S1280.size a := fun v429 k0_hw154 => k0_hw154

def k0_chk150 (v441 : IVec S16 32) : Prop :=
  (∀ a x, ((![v441] : Fin 1 → IVec S16 32) a x).toNat < S19456.size a) ∧
  (∀ a x, ((![v441] : Fin 1 → IVec S16 32) a x).toNat < S19456.size a)
theorem k0_idx198_inb : ∀ (v441 : IVec S16 32) (k0_hw150 : k0_chk150 v441), ∀ a x, ((![v441] : Fin 1 → IVec S16 32) a x).toNat < S19456.size a := fun v441 k0_hw150 => k0_hw150.1
theorem k0_idx204_inb : ∀ (v441 : IVec S16 32) (k0_hw150 : k0_chk150 v441), ∀ a x, ((![v441] : Fin 1 → IVec S16 32) a x).toNat < S19456.size a := fun v441 k0_hw150 => k0_hw150.2

def k0_chk155 (v432 : IVec S16 32) : Prop :=
  (∀ a x, ((![v432] : Fin 1 → IVec S16 32) a x).toNat < S1280.size a)
theorem k0_idx205_inb : ∀ (v432 : IVec S16 32) (k0_hw155 : k0_chk155 v432), ∀ a x, ((![v432] : Fin 1 → IVec S16 32) a x).toNat < S1280.size a := fun v432 k0_hw155 => k0_hw155

def k0_chk151 (v444 : IVec S16 32) : Prop :=
  (∀ a x, ((![v444] : Fin 1 → IVec S16 32) a x).toNat < S19456.size a) ∧
  (∀ a x, ((![v444] : Fin 1 → IVec S16 32) a x).toNat < S19456.size a)
theorem k0_idx199_inb : ∀ (v444 : IVec S16 32) (k0_hw151 : k0_chk151 v444), ∀ a x, ((![v444] : Fin 1 → IVec S16 32) a x).toNat < S19456.size a := fun v444 k0_hw151 => k0_hw151.1
theorem k0_idx206_inb : ∀ (v444 : IVec S16 32) (k0_hw151 : k0_chk151 v444), ∀ a x, ((![v444] : Fin 1 → IVec S16 32) a x).toNat < S19456.size a := fun v444 k0_hw151 => k0_hw151.2

def k0_chk156 (v435 : IVec S16 32) : Prop :=
  (∀ a x, ((![v435] : Fin 1 → IVec S16 32) a x).toNat < S1280.size a)
theorem k0_idx207_inb : ∀ (v435 : IVec S16 32) (k0_hw156 : k0_chk156 v435), ∀ a x, ((![v435] : Fin 1 → IVec S16 32) a x).toNat < S1280.size a := fun v435 k0_hw156 => k0_hw156

def k0_chk152 (v447 : IVec S16 32) : Prop :=
  (∀ a x, ((![v447] : Fin 1 → IVec S16 32) a x).toNat < S19456.size a) ∧
  (∀ a x, ((![v447] : Fin 1 → IVec S16 32) a x).toNat < S19456.size a)
theorem k0_idx200_inb : ∀ (v447 : IVec S16 32) (k0_hw152 : k0_chk152 v447), ∀ a x, ((![v447] : Fin 1 → IVec S16 32) a x).toNat < S19456.size a := fun v447 k0_hw152 => k0_hw152.1
theorem k0_idx208_inb : ∀ (v447 : IVec S16 32) (k0_hw152 : k0_chk152 v447), ∀ a x, ((![v447] : Fin 1 → IVec S16 32) a x).toNat < S19456.size a := fun v447 k0_hw152 => k0_hw152.2

def k0_chk157 (v457 : IVec S16 32) : Prop :=
  (∀ a x, ((![v457] : Fin 1 → IVec S16 32) a x).toNat < S25600.size a)
theorem k0_idx209_inb : ∀ (v457 : IVec S16 32) (k0_hw157 : k0_chk157 v457), ∀ a x, ((![v457] : Fin 1 → IVec S16 32) a x).toNat < S25600.size a := fun v457 k0_hw157 => k0_hw157

def k0_chk158 (v460 : IVec S16 32) : Prop :=
  (∀ a x, ((![v460] : Fin 1 → IVec S16 32) a x).toNat < S25600.size a)
theorem k0_idx210_inb : ∀ (v460 : IVec S16 32) (k0_hw158 : k0_chk158 v460), ∀ a x, ((![v460] : Fin 1 → IVec S16 32) a x).toNat < S25600.size a := fun v460 k0_hw158 => k0_hw158

def k0_chk159 (v463 : IVec S16 32) : Prop :=
  (∀ a x, ((![v463] : Fin 1 → IVec S16 32) a x).toNat < S25600.size a)
theorem k0_idx211_inb : ∀ (v463 : IVec S16 32) (k0_hw159 : k0_chk159 v463), ∀ a x, ((![v463] : Fin 1 → IVec S16 32) a x).toNat < S25600.size a := fun v463 k0_hw159 => k0_hw159

def k0_chk160 (v466 : IVec S16 32) : Prop :=
  (∀ a x, ((![v466] : Fin 1 → IVec S16 32) a x).toNat < S25600.size a)
theorem k0_idx212_inb : ∀ (v466 : IVec S16 32) (k0_hw160 : k0_chk160 v466), ∀ a x, ((![v466] : Fin 1 → IVec S16 32) a x).toNat < S25600.size a := fun v466 k0_hw160 => k0_hw160

def k0_chk165 (v458 : IVec S16 32) : Prop :=
  (∀ a x, ((![v458] : Fin 1 → IVec S16 32) a x).toNat < S1280.size a)
theorem k0_idx217_inb : ∀ (v458 : IVec S16 32) (k0_hw165 : k0_chk165 v458), ∀ a x, ((![v458] : Fin 1 → IVec S16 32) a x).toNat < S1280.size a := fun v458 k0_hw165 => k0_hw165

def k0_chk161 (v470 : IVec S16 32) : Prop :=
  (∀ a x, ((![v470] : Fin 1 → IVec S16 32) a x).toNat < S19456.size a) ∧
  (∀ a x, ((![v470] : Fin 1 → IVec S16 32) a x).toNat < S19456.size a)
theorem k0_idx213_inb : ∀ (v470 : IVec S16 32) (k0_hw161 : k0_chk161 v470), ∀ a x, ((![v470] : Fin 1 → IVec S16 32) a x).toNat < S19456.size a := fun v470 k0_hw161 => k0_hw161.1
theorem k0_idx218_inb : ∀ (v470 : IVec S16 32) (k0_hw161 : k0_chk161 v470), ∀ a x, ((![v470] : Fin 1 → IVec S16 32) a x).toNat < S19456.size a := fun v470 k0_hw161 => k0_hw161.2

def k0_chk166 (v461 : IVec S16 32) : Prop :=
  (∀ a x, ((![v461] : Fin 1 → IVec S16 32) a x).toNat < S1280.size a)
theorem k0_idx219_inb : ∀ (v461 : IVec S16 32) (k0_hw166 : k0_chk166 v461), ∀ a x, ((![v461] : Fin 1 → IVec S16 32) a x).toNat < S1280.size a := fun v461 k0_hw166 => k0_hw166

def k0_chk162 (v473 : IVec S16 32) : Prop :=
  (∀ a x, ((![v473] : Fin 1 → IVec S16 32) a x).toNat < S19456.size a) ∧
  (∀ a x, ((![v473] : Fin 1 → IVec S16 32) a x).toNat < S19456.size a)
theorem k0_idx214_inb : ∀ (v473 : IVec S16 32) (k0_hw162 : k0_chk162 v473), ∀ a x, ((![v473] : Fin 1 → IVec S16 32) a x).toNat < S19456.size a := fun v473 k0_hw162 => k0_hw162.1
theorem k0_idx220_inb : ∀ (v473 : IVec S16 32) (k0_hw162 : k0_chk162 v473), ∀ a x, ((![v473] : Fin 1 → IVec S16 32) a x).toNat < S19456.size a := fun v473 k0_hw162 => k0_hw162.2

def k0_chk167 (v464 : IVec S16 32) : Prop :=
  (∀ a x, ((![v464] : Fin 1 → IVec S16 32) a x).toNat < S1280.size a)
theorem k0_idx221_inb : ∀ (v464 : IVec S16 32) (k0_hw167 : k0_chk167 v464), ∀ a x, ((![v464] : Fin 1 → IVec S16 32) a x).toNat < S1280.size a := fun v464 k0_hw167 => k0_hw167

def k0_chk163 (v476 : IVec S16 32) : Prop :=
  (∀ a x, ((![v476] : Fin 1 → IVec S16 32) a x).toNat < S19456.size a) ∧
  (∀ a x, ((![v476] : Fin 1 → IVec S16 32) a x).toNat < S19456.size a)
theorem k0_idx215_inb : ∀ (v476 : IVec S16 32) (k0_hw163 : k0_chk163 v476), ∀ a x, ((![v476] : Fin 1 → IVec S16 32) a x).toNat < S19456.size a := fun v476 k0_hw163 => k0_hw163.1
theorem k0_idx222_inb : ∀ (v476 : IVec S16 32) (k0_hw163 : k0_chk163 v476), ∀ a x, ((![v476] : Fin 1 → IVec S16 32) a x).toNat < S19456.size a := fun v476 k0_hw163 => k0_hw163.2

def k0_chk168 (v467 : IVec S16 32) : Prop :=
  (∀ a x, ((![v467] : Fin 1 → IVec S16 32) a x).toNat < S1280.size a)
theorem k0_idx223_inb : ∀ (v467 : IVec S16 32) (k0_hw168 : k0_chk168 v467), ∀ a x, ((![v467] : Fin 1 → IVec S16 32) a x).toNat < S1280.size a := fun v467 k0_hw168 => k0_hw168

def k0_chk164 (v479 : IVec S16 32) : Prop :=
  (∀ a x, ((![v479] : Fin 1 → IVec S16 32) a x).toNat < S19456.size a) ∧
  (∀ a x, ((![v479] : Fin 1 → IVec S16 32) a x).toNat < S19456.size a)
theorem k0_idx216_inb : ∀ (v479 : IVec S16 32) (k0_hw164 : k0_chk164 v479), ∀ a x, ((![v479] : Fin 1 → IVec S16 32) a x).toNat < S19456.size a := fun v479 k0_hw164 => k0_hw164.1
theorem k0_idx224_inb : ∀ (v479 : IVec S16 32) (k0_hw164 : k0_chk164 v479), ∀ a x, ((![v479] : Fin 1 → IVec S16 32) a x).toNat < S19456.size a := fun v479 k0_hw164 => k0_hw164.2

def k0_chk169 (v489 : IVec S16 32) : Prop :=
  (∀ a x, ((![v489] : Fin 1 → IVec S16 32) a x).toNat < S25600.size a)
theorem k0_idx225_inb : ∀ (v489 : IVec S16 32) (k0_hw169 : k0_chk169 v489), ∀ a x, ((![v489] : Fin 1 → IVec S16 32) a x).toNat < S25600.size a := fun v489 k0_hw169 => k0_hw169

def k0_chk170 (v492 : IVec S16 32) : Prop :=
  (∀ a x, ((![v492] : Fin 1 → IVec S16 32) a x).toNat < S25600.size a)
theorem k0_idx226_inb : ∀ (v492 : IVec S16 32) (k0_hw170 : k0_chk170 v492), ∀ a x, ((![v492] : Fin 1 → IVec S16 32) a x).toNat < S25600.size a := fun v492 k0_hw170 => k0_hw170

def k0_chk171 (v495 : IVec S16 32) : Prop :=
  (∀ a x, ((![v495] : Fin 1 → IVec S16 32) a x).toNat < S25600.size a)
theorem k0_idx227_inb : ∀ (v495 : IVec S16 32) (k0_hw171 : k0_chk171 v495), ∀ a x, ((![v495] : Fin 1 → IVec S16 32) a x).toNat < S25600.size a := fun v495 k0_hw171 => k0_hw171

def k0_chk172 (v498 : IVec S16 32) : Prop :=
  (∀ a x, ((![v498] : Fin 1 → IVec S16 32) a x).toNat < S25600.size a)
theorem k0_idx228_inb : ∀ (v498 : IVec S16 32) (k0_hw172 : k0_chk172 v498), ∀ a x, ((![v498] : Fin 1 → IVec S16 32) a x).toNat < S25600.size a := fun v498 k0_hw172 => k0_hw172

def k0_chk177 (v490 : IVec S16 32) : Prop :=
  (∀ a x, ((![v490] : Fin 1 → IVec S16 32) a x).toNat < S1280.size a)
theorem k0_idx233_inb : ∀ (v490 : IVec S16 32) (k0_hw177 : k0_chk177 v490), ∀ a x, ((![v490] : Fin 1 → IVec S16 32) a x).toNat < S1280.size a := fun v490 k0_hw177 => k0_hw177

def k0_chk173 (v502 : IVec S16 32) : Prop :=
  (∀ a x, ((![v502] : Fin 1 → IVec S16 32) a x).toNat < S19456.size a) ∧
  (∀ a x, ((![v502] : Fin 1 → IVec S16 32) a x).toNat < S19456.size a)
theorem k0_idx229_inb : ∀ (v502 : IVec S16 32) (k0_hw173 : k0_chk173 v502), ∀ a x, ((![v502] : Fin 1 → IVec S16 32) a x).toNat < S19456.size a := fun v502 k0_hw173 => k0_hw173.1
theorem k0_idx234_inb : ∀ (v502 : IVec S16 32) (k0_hw173 : k0_chk173 v502), ∀ a x, ((![v502] : Fin 1 → IVec S16 32) a x).toNat < S19456.size a := fun v502 k0_hw173 => k0_hw173.2

def k0_chk178 (v493 : IVec S16 32) : Prop :=
  (∀ a x, ((![v493] : Fin 1 → IVec S16 32) a x).toNat < S1280.size a)
theorem k0_idx235_inb : ∀ (v493 : IVec S16 32) (k0_hw178 : k0_chk178 v493), ∀ a x, ((![v493] : Fin 1 → IVec S16 32) a x).toNat < S1280.size a := fun v493 k0_hw178 => k0_hw178

def k0_chk174 (v505 : IVec S16 32) : Prop :=
  (∀ a x, ((![v505] : Fin 1 → IVec S16 32) a x).toNat < S19456.size a) ∧
  (∀ a x, ((![v505] : Fin 1 → IVec S16 32) a x).toNat < S19456.size a)
theorem k0_idx230_inb : ∀ (v505 : IVec S16 32) (k0_hw174 : k0_chk174 v505), ∀ a x, ((![v505] : Fin 1 → IVec S16 32) a x).toNat < S19456.size a := fun v505 k0_hw174 => k0_hw174.1
theorem k0_idx236_inb : ∀ (v505 : IVec S16 32) (k0_hw174 : k0_chk174 v505), ∀ a x, ((![v505] : Fin 1 → IVec S16 32) a x).toNat < S19456.size a := fun v505 k0_hw174 => k0_hw174.2

def k0_chk179 (v496 : IVec S16 32) : Prop :=
  (∀ a x, ((![v496] : Fin 1 → IVec S16 32) a x).toNat < S1280.size a)
theorem k0_idx237_inb : ∀ (v496 : IVec S16 32) (k0_hw179 : k0_chk179 v496), ∀ a x, ((![v496] : Fin 1 → IVec S16 32) a x).toNat < S1280.size a := fun v496 k0_hw179 => k0_hw179

def k0_chk175 (v508 : IVec S16 32) : Prop :=
  (∀ a x, ((![v508] : Fin 1 → IVec S16 32) a x).toNat < S19456.size a) ∧
  (∀ a x, ((![v508] : Fin 1 → IVec S16 32) a x).toNat < S19456.size a)
theorem k0_idx231_inb : ∀ (v508 : IVec S16 32) (k0_hw175 : k0_chk175 v508), ∀ a x, ((![v508] : Fin 1 → IVec S16 32) a x).toNat < S19456.size a := fun v508 k0_hw175 => k0_hw175.1
theorem k0_idx238_inb : ∀ (v508 : IVec S16 32) (k0_hw175 : k0_chk175 v508), ∀ a x, ((![v508] : Fin 1 → IVec S16 32) a x).toNat < S19456.size a := fun v508 k0_hw175 => k0_hw175.2

def k0_chk180 (v499 : IVec S16 32) : Prop :=
  (∀ a x, ((![v499] : Fin 1 → IVec S16 32) a x).toNat < S1280.size a)
theorem k0_idx239_inb : ∀ (v499 : IVec S16 32) (k0_hw180 : k0_chk180 v499), ∀ a x, ((![v499] : Fin 1 → IVec S16 32) a x).toNat < S1280.size a := fun v499 k0_hw180 => k0_hw180

def k0_chk176 (v511 : IVec S16 32) : Prop :=
  (∀ a x, ((![v511] : Fin 1 → IVec S16 32) a x).toNat < S19456.size a) ∧
  (∀ a x, ((![v511] : Fin 1 → IVec S16 32) a x).toNat < S19456.size a)
theorem k0_idx232_inb : ∀ (v511 : IVec S16 32) (k0_hw176 : k0_chk176 v511), ∀ a x, ((![v511] : Fin 1 → IVec S16 32) a x).toNat < S19456.size a := fun v511 k0_hw176 => k0_hw176.1
theorem k0_idx240_inb : ∀ (v511 : IVec S16 32) (k0_hw176 : k0_chk176 v511), ∀ a x, ((![v511] : Fin 1 → IVec S16 32) a x).toNat < S19456.size a := fun v511 k0_hw176 => k0_hw176.2

def k0_chk181 (v521 : IVec S16 32) : Prop :=
  (∀ a x, ((![v521] : Fin 1 → IVec S16 32) a x).toNat < S25600.size a)
theorem k0_idx241_inb : ∀ (v521 : IVec S16 32) (k0_hw181 : k0_chk181 v521), ∀ a x, ((![v521] : Fin 1 → IVec S16 32) a x).toNat < S25600.size a := fun v521 k0_hw181 => k0_hw181

def k0_chk182 (v524 : IVec S16 32) : Prop :=
  (∀ a x, ((![v524] : Fin 1 → IVec S16 32) a x).toNat < S25600.size a)
theorem k0_idx242_inb : ∀ (v524 : IVec S16 32) (k0_hw182 : k0_chk182 v524), ∀ a x, ((![v524] : Fin 1 → IVec S16 32) a x).toNat < S25600.size a := fun v524 k0_hw182 => k0_hw182

def k0_chk183 (v527 : IVec S16 32) : Prop :=
  (∀ a x, ((![v527] : Fin 1 → IVec S16 32) a x).toNat < S25600.size a)
theorem k0_idx243_inb : ∀ (v527 : IVec S16 32) (k0_hw183 : k0_chk183 v527), ∀ a x, ((![v527] : Fin 1 → IVec S16 32) a x).toNat < S25600.size a := fun v527 k0_hw183 => k0_hw183

def k0_chk184 (v530 : IVec S16 32) : Prop :=
  (∀ a x, ((![v530] : Fin 1 → IVec S16 32) a x).toNat < S25600.size a)
theorem k0_idx244_inb : ∀ (v530 : IVec S16 32) (k0_hw184 : k0_chk184 v530), ∀ a x, ((![v530] : Fin 1 → IVec S16 32) a x).toNat < S25600.size a := fun v530 k0_hw184 => k0_hw184

def k0_chk189 (v522 : IVec S16 32) : Prop :=
  (∀ a x, ((![v522] : Fin 1 → IVec S16 32) a x).toNat < S1280.size a)
theorem k0_idx249_inb : ∀ (v522 : IVec S16 32) (k0_hw189 : k0_chk189 v522), ∀ a x, ((![v522] : Fin 1 → IVec S16 32) a x).toNat < S1280.size a := fun v522 k0_hw189 => k0_hw189

def k0_chk185 (v534 : IVec S16 32) : Prop :=
  (∀ a x, ((![v534] : Fin 1 → IVec S16 32) a x).toNat < S19456.size a) ∧
  (∀ a x, ((![v534] : Fin 1 → IVec S16 32) a x).toNat < S19456.size a)
theorem k0_idx245_inb : ∀ (v534 : IVec S16 32) (k0_hw185 : k0_chk185 v534), ∀ a x, ((![v534] : Fin 1 → IVec S16 32) a x).toNat < S19456.size a := fun v534 k0_hw185 => k0_hw185.1
theorem k0_idx250_inb : ∀ (v534 : IVec S16 32) (k0_hw185 : k0_chk185 v534), ∀ a x, ((![v534] : Fin 1 → IVec S16 32) a x).toNat < S19456.size a := fun v534 k0_hw185 => k0_hw185.2

def k0_chk190 (v525 : IVec S16 32) : Prop :=
  (∀ a x, ((![v525] : Fin 1 → IVec S16 32) a x).toNat < S1280.size a)
theorem k0_idx251_inb : ∀ (v525 : IVec S16 32) (k0_hw190 : k0_chk190 v525), ∀ a x, ((![v525] : Fin 1 → IVec S16 32) a x).toNat < S1280.size a := fun v525 k0_hw190 => k0_hw190

def k0_chk186 (v537 : IVec S16 32) : Prop :=
  (∀ a x, ((![v537] : Fin 1 → IVec S16 32) a x).toNat < S19456.size a) ∧
  (∀ a x, ((![v537] : Fin 1 → IVec S16 32) a x).toNat < S19456.size a)
theorem k0_idx246_inb : ∀ (v537 : IVec S16 32) (k0_hw186 : k0_chk186 v537), ∀ a x, ((![v537] : Fin 1 → IVec S16 32) a x).toNat < S19456.size a := fun v537 k0_hw186 => k0_hw186.1
theorem k0_idx252_inb : ∀ (v537 : IVec S16 32) (k0_hw186 : k0_chk186 v537), ∀ a x, ((![v537] : Fin 1 → IVec S16 32) a x).toNat < S19456.size a := fun v537 k0_hw186 => k0_hw186.2

def k0_chk191 (v528 : IVec S16 32) : Prop :=
  (∀ a x, ((![v528] : Fin 1 → IVec S16 32) a x).toNat < S1280.size a)
theorem k0_idx253_inb : ∀ (v528 : IVec S16 32) (k0_hw191 : k0_chk191 v528), ∀ a x, ((![v528] : Fin 1 → IVec S16 32) a x).toNat < S1280.size a := fun v528 k0_hw191 => k0_hw191

def k0_chk187 (v540 : IVec S16 32) : Prop :=
  (∀ a x, ((![v540] : Fin 1 → IVec S16 32) a x).toNat < S19456.size a) ∧
  (∀ a x, ((![v540] : Fin 1 → IVec S16 32) a x).toNat < S19456.size a)
theorem k0_idx247_inb : ∀ (v540 : IVec S16 32) (k0_hw187 : k0_chk187 v540), ∀ a x, ((![v540] : Fin 1 → IVec S16 32) a x).toNat < S19456.size a := fun v540 k0_hw187 => k0_hw187.1
theorem k0_idx254_inb : ∀ (v540 : IVec S16 32) (k0_hw187 : k0_chk187 v540), ∀ a x, ((![v540] : Fin 1 → IVec S16 32) a x).toNat < S19456.size a := fun v540 k0_hw187 => k0_hw187.2

def k0_chk192 (v531 : IVec S16 32) : Prop :=
  (∀ a x, ((![v531] : Fin 1 → IVec S16 32) a x).toNat < S1280.size a)
theorem k0_idx255_inb : ∀ (v531 : IVec S16 32) (k0_hw192 : k0_chk192 v531), ∀ a x, ((![v531] : Fin 1 → IVec S16 32) a x).toNat < S1280.size a := fun v531 k0_hw192 => k0_hw192

def k0_chk188 (v543 : IVec S16 32) : Prop :=
  (∀ a x, ((![v543] : Fin 1 → IVec S16 32) a x).toNat < S19456.size a) ∧
  (∀ a x, ((![v543] : Fin 1 → IVec S16 32) a x).toNat < S19456.size a)
theorem k0_idx248_inb : ∀ (v543 : IVec S16 32) (k0_hw188 : k0_chk188 v543), ∀ a x, ((![v543] : Fin 1 → IVec S16 32) a x).toNat < S19456.size a := fun v543 k0_hw188 => k0_hw188.1
theorem k0_idx256_inb : ∀ (v543 : IVec S16 32) (k0_hw188 : k0_chk188 v543), ∀ a x, ((![v543] : Fin 1 → IVec S16 32) a x).toNat < S19456.size a := fun v543 k0_hw188 => k0_hw188.2

def k0_chk193 (v553 : IVec S16 32) : Prop :=
  (∀ a x, ((![v553] : Fin 1 → IVec S16 32) a x).toNat < S25600.size a)
theorem k0_idx257_inb : ∀ (v553 : IVec S16 32) (k0_hw193 : k0_chk193 v553), ∀ a x, ((![v553] : Fin 1 → IVec S16 32) a x).toNat < S25600.size a := fun v553 k0_hw193 => k0_hw193

def k0_chk194 (v556 : IVec S16 32) : Prop :=
  (∀ a x, ((![v556] : Fin 1 → IVec S16 32) a x).toNat < S25600.size a)
theorem k0_idx258_inb : ∀ (v556 : IVec S16 32) (k0_hw194 : k0_chk194 v556), ∀ a x, ((![v556] : Fin 1 → IVec S16 32) a x).toNat < S25600.size a := fun v556 k0_hw194 => k0_hw194

def k0_chk195 (v559 : IVec S16 32) : Prop :=
  (∀ a x, ((![v559] : Fin 1 → IVec S16 32) a x).toNat < S25600.size a)
theorem k0_idx259_inb : ∀ (v559 : IVec S16 32) (k0_hw195 : k0_chk195 v559), ∀ a x, ((![v559] : Fin 1 → IVec S16 32) a x).toNat < S25600.size a := fun v559 k0_hw195 => k0_hw195

def k0_chk196 (v562 : IVec S16 32) : Prop :=
  (∀ a x, ((![v562] : Fin 1 → IVec S16 32) a x).toNat < S25600.size a)
theorem k0_idx260_inb : ∀ (v562 : IVec S16 32) (k0_hw196 : k0_chk196 v562), ∀ a x, ((![v562] : Fin 1 → IVec S16 32) a x).toNat < S25600.size a := fun v562 k0_hw196 => k0_hw196

def k0_chk201 (v554 : IVec S16 32) : Prop :=
  (∀ a x, ((![v554] : Fin 1 → IVec S16 32) a x).toNat < S1280.size a)
theorem k0_idx265_inb : ∀ (v554 : IVec S16 32) (k0_hw201 : k0_chk201 v554), ∀ a x, ((![v554] : Fin 1 → IVec S16 32) a x).toNat < S1280.size a := fun v554 k0_hw201 => k0_hw201

def k0_chk197 (v566 : IVec S16 32) : Prop :=
  (∀ a x, ((![v566] : Fin 1 → IVec S16 32) a x).toNat < S19456.size a) ∧
  (∀ a x, ((![v566] : Fin 1 → IVec S16 32) a x).toNat < S19456.size a)
theorem k0_idx261_inb : ∀ (v566 : IVec S16 32) (k0_hw197 : k0_chk197 v566), ∀ a x, ((![v566] : Fin 1 → IVec S16 32) a x).toNat < S19456.size a := fun v566 k0_hw197 => k0_hw197.1
theorem k0_idx266_inb : ∀ (v566 : IVec S16 32) (k0_hw197 : k0_chk197 v566), ∀ a x, ((![v566] : Fin 1 → IVec S16 32) a x).toNat < S19456.size a := fun v566 k0_hw197 => k0_hw197.2

def k0_chk202 (v557 : IVec S16 32) : Prop :=
  (∀ a x, ((![v557] : Fin 1 → IVec S16 32) a x).toNat < S1280.size a)
theorem k0_idx267_inb : ∀ (v557 : IVec S16 32) (k0_hw202 : k0_chk202 v557), ∀ a x, ((![v557] : Fin 1 → IVec S16 32) a x).toNat < S1280.size a := fun v557 k0_hw202 => k0_hw202

def k0_chk198 (v569 : IVec S16 32) : Prop :=
  (∀ a x, ((![v569] : Fin 1 → IVec S16 32) a x).toNat < S19456.size a) ∧
  (∀ a x, ((![v569] : Fin 1 → IVec S16 32) a x).toNat < S19456.size a)
theorem k0_idx262_inb : ∀ (v569 : IVec S16 32) (k0_hw198 : k0_chk198 v569), ∀ a x, ((![v569] : Fin 1 → IVec S16 32) a x).toNat < S19456.size a := fun v569 k0_hw198 => k0_hw198.1
theorem k0_idx268_inb : ∀ (v569 : IVec S16 32) (k0_hw198 : k0_chk198 v569), ∀ a x, ((![v569] : Fin 1 → IVec S16 32) a x).toNat < S19456.size a := fun v569 k0_hw198 => k0_hw198.2

def k0_chk203 (v560 : IVec S16 32) : Prop :=
  (∀ a x, ((![v560] : Fin 1 → IVec S16 32) a x).toNat < S1280.size a)
theorem k0_idx269_inb : ∀ (v560 : IVec S16 32) (k0_hw203 : k0_chk203 v560), ∀ a x, ((![v560] : Fin 1 → IVec S16 32) a x).toNat < S1280.size a := fun v560 k0_hw203 => k0_hw203

def k0_chk199 (v572 : IVec S16 32) : Prop :=
  (∀ a x, ((![v572] : Fin 1 → IVec S16 32) a x).toNat < S19456.size a) ∧
  (∀ a x, ((![v572] : Fin 1 → IVec S16 32) a x).toNat < S19456.size a)
theorem k0_idx263_inb : ∀ (v572 : IVec S16 32) (k0_hw199 : k0_chk199 v572), ∀ a x, ((![v572] : Fin 1 → IVec S16 32) a x).toNat < S19456.size a := fun v572 k0_hw199 => k0_hw199.1
theorem k0_idx270_inb : ∀ (v572 : IVec S16 32) (k0_hw199 : k0_chk199 v572), ∀ a x, ((![v572] : Fin 1 → IVec S16 32) a x).toNat < S19456.size a := fun v572 k0_hw199 => k0_hw199.2

def k0_chk204 (v563 : IVec S16 32) : Prop :=
  (∀ a x, ((![v563] : Fin 1 → IVec S16 32) a x).toNat < S1280.size a)
theorem k0_idx271_inb : ∀ (v563 : IVec S16 32) (k0_hw204 : k0_chk204 v563), ∀ a x, ((![v563] : Fin 1 → IVec S16 32) a x).toNat < S1280.size a := fun v563 k0_hw204 => k0_hw204

def k0_chk200 (v575 : IVec S16 32) : Prop :=
  (∀ a x, ((![v575] : Fin 1 → IVec S16 32) a x).toNat < S19456.size a) ∧
  (∀ a x, ((![v575] : Fin 1 → IVec S16 32) a x).toNat < S19456.size a)
theorem k0_idx264_inb : ∀ (v575 : IVec S16 32) (k0_hw200 : k0_chk200 v575), ∀ a x, ((![v575] : Fin 1 → IVec S16 32) a x).toNat < S19456.size a := fun v575 k0_hw200 => k0_hw200.1
theorem k0_idx272_inb : ∀ (v575 : IVec S16 32) (k0_hw200 : k0_chk200 v575), ∀ a x, ((![v575] : Fin 1 → IVec S16 32) a x).toNat < S19456.size a := fun v575 k0_hw200 => k0_hw200.2

def k0_chk205 (v585 : IVec S16 32) : Prop :=
  (∀ a x, ((![v585] : Fin 1 → IVec S16 32) a x).toNat < S25600.size a)
theorem k0_idx273_inb : ∀ (v585 : IVec S16 32) (k0_hw205 : k0_chk205 v585), ∀ a x, ((![v585] : Fin 1 → IVec S16 32) a x).toNat < S25600.size a := fun v585 k0_hw205 => k0_hw205

def k0_chk206 (v588 : IVec S16 32) : Prop :=
  (∀ a x, ((![v588] : Fin 1 → IVec S16 32) a x).toNat < S25600.size a)
theorem k0_idx274_inb : ∀ (v588 : IVec S16 32) (k0_hw206 : k0_chk206 v588), ∀ a x, ((![v588] : Fin 1 → IVec S16 32) a x).toNat < S25600.size a := fun v588 k0_hw206 => k0_hw206

def k0_chk207 (v591 : IVec S16 32) : Prop :=
  (∀ a x, ((![v591] : Fin 1 → IVec S16 32) a x).toNat < S25600.size a)
theorem k0_idx275_inb : ∀ (v591 : IVec S16 32) (k0_hw207 : k0_chk207 v591), ∀ a x, ((![v591] : Fin 1 → IVec S16 32) a x).toNat < S25600.size a := fun v591 k0_hw207 => k0_hw207

def k0_chk208 (v594 : IVec S16 32) : Prop :=
  (∀ a x, ((![v594] : Fin 1 → IVec S16 32) a x).toNat < S25600.size a)
theorem k0_idx276_inb : ∀ (v594 : IVec S16 32) (k0_hw208 : k0_chk208 v594), ∀ a x, ((![v594] : Fin 1 → IVec S16 32) a x).toNat < S25600.size a := fun v594 k0_hw208 => k0_hw208

def k0_chk213 (v586 : IVec S16 32) : Prop :=
  (∀ a x, ((![v586] : Fin 1 → IVec S16 32) a x).toNat < S1280.size a)
theorem k0_idx281_inb : ∀ (v586 : IVec S16 32) (k0_hw213 : k0_chk213 v586), ∀ a x, ((![v586] : Fin 1 → IVec S16 32) a x).toNat < S1280.size a := fun v586 k0_hw213 => k0_hw213

def k0_chk209 (v598 : IVec S16 32) : Prop :=
  (∀ a x, ((![v598] : Fin 1 → IVec S16 32) a x).toNat < S19456.size a) ∧
  (∀ a x, ((![v598] : Fin 1 → IVec S16 32) a x).toNat < S19456.size a)
theorem k0_idx277_inb : ∀ (v598 : IVec S16 32) (k0_hw209 : k0_chk209 v598), ∀ a x, ((![v598] : Fin 1 → IVec S16 32) a x).toNat < S19456.size a := fun v598 k0_hw209 => k0_hw209.1
theorem k0_idx282_inb : ∀ (v598 : IVec S16 32) (k0_hw209 : k0_chk209 v598), ∀ a x, ((![v598] : Fin 1 → IVec S16 32) a x).toNat < S19456.size a := fun v598 k0_hw209 => k0_hw209.2

def k0_chk214 (v589 : IVec S16 32) : Prop :=
  (∀ a x, ((![v589] : Fin 1 → IVec S16 32) a x).toNat < S1280.size a)
theorem k0_idx283_inb : ∀ (v589 : IVec S16 32) (k0_hw214 : k0_chk214 v589), ∀ a x, ((![v589] : Fin 1 → IVec S16 32) a x).toNat < S1280.size a := fun v589 k0_hw214 => k0_hw214

def k0_chk210 (v601 : IVec S16 32) : Prop :=
  (∀ a x, ((![v601] : Fin 1 → IVec S16 32) a x).toNat < S19456.size a) ∧
  (∀ a x, ((![v601] : Fin 1 → IVec S16 32) a x).toNat < S19456.size a)
theorem k0_idx278_inb : ∀ (v601 : IVec S16 32) (k0_hw210 : k0_chk210 v601), ∀ a x, ((![v601] : Fin 1 → IVec S16 32) a x).toNat < S19456.size a := fun v601 k0_hw210 => k0_hw210.1
theorem k0_idx284_inb : ∀ (v601 : IVec S16 32) (k0_hw210 : k0_chk210 v601), ∀ a x, ((![v601] : Fin 1 → IVec S16 32) a x).toNat < S19456.size a := fun v601 k0_hw210 => k0_hw210.2

def k0_chk215 (v592 : IVec S16 32) : Prop :=
  (∀ a x, ((![v592] : Fin 1 → IVec S16 32) a x).toNat < S1280.size a)
theorem k0_idx285_inb : ∀ (v592 : IVec S16 32) (k0_hw215 : k0_chk215 v592), ∀ a x, ((![v592] : Fin 1 → IVec S16 32) a x).toNat < S1280.size a := fun v592 k0_hw215 => k0_hw215

def k0_chk211 (v604 : IVec S16 32) : Prop :=
  (∀ a x, ((![v604] : Fin 1 → IVec S16 32) a x).toNat < S19456.size a) ∧
  (∀ a x, ((![v604] : Fin 1 → IVec S16 32) a x).toNat < S19456.size a)
theorem k0_idx279_inb : ∀ (v604 : IVec S16 32) (k0_hw211 : k0_chk211 v604), ∀ a x, ((![v604] : Fin 1 → IVec S16 32) a x).toNat < S19456.size a := fun v604 k0_hw211 => k0_hw211.1
theorem k0_idx286_inb : ∀ (v604 : IVec S16 32) (k0_hw211 : k0_chk211 v604), ∀ a x, ((![v604] : Fin 1 → IVec S16 32) a x).toNat < S19456.size a := fun v604 k0_hw211 => k0_hw211.2

def k0_chk216 (v595 : IVec S16 32) : Prop :=
  (∀ a x, ((![v595] : Fin 1 → IVec S16 32) a x).toNat < S1280.size a)
theorem k0_idx287_inb : ∀ (v595 : IVec S16 32) (k0_hw216 : k0_chk216 v595), ∀ a x, ((![v595] : Fin 1 → IVec S16 32) a x).toNat < S1280.size a := fun v595 k0_hw216 => k0_hw216

def k0_chk212 (v607 : IVec S16 32) : Prop :=
  (∀ a x, ((![v607] : Fin 1 → IVec S16 32) a x).toNat < S19456.size a) ∧
  (∀ a x, ((![v607] : Fin 1 → IVec S16 32) a x).toNat < S19456.size a)
theorem k0_idx280_inb : ∀ (v607 : IVec S16 32) (k0_hw212 : k0_chk212 v607), ∀ a x, ((![v607] : Fin 1 → IVec S16 32) a x).toNat < S19456.size a := fun v607 k0_hw212 => k0_hw212.1
theorem k0_idx288_inb : ∀ (v607 : IVec S16 32) (k0_hw212 : k0_chk212 v607), ∀ a x, ((![v607] : Fin 1 → IVec S16 32) a x).toNat < S19456.size a := fun v607 k0_hw212 => k0_hw212.2

def k0_chk217 (v617 : IVec S16 32) : Prop :=
  (∀ a x, ((![v617] : Fin 1 → IVec S16 32) a x).toNat < S25600.size a)
theorem k0_idx289_inb : ∀ (v617 : IVec S16 32) (k0_hw217 : k0_chk217 v617), ∀ a x, ((![v617] : Fin 1 → IVec S16 32) a x).toNat < S25600.size a := fun v617 k0_hw217 => k0_hw217

def k0_chk218 (v620 : IVec S16 32) : Prop :=
  (∀ a x, ((![v620] : Fin 1 → IVec S16 32) a x).toNat < S25600.size a)
theorem k0_idx290_inb : ∀ (v620 : IVec S16 32) (k0_hw218 : k0_chk218 v620), ∀ a x, ((![v620] : Fin 1 → IVec S16 32) a x).toNat < S25600.size a := fun v620 k0_hw218 => k0_hw218

def k0_chk219 (v623 : IVec S16 32) : Prop :=
  (∀ a x, ((![v623] : Fin 1 → IVec S16 32) a x).toNat < S25600.size a)
theorem k0_idx291_inb : ∀ (v623 : IVec S16 32) (k0_hw219 : k0_chk219 v623), ∀ a x, ((![v623] : Fin 1 → IVec S16 32) a x).toNat < S25600.size a := fun v623 k0_hw219 => k0_hw219

def k0_chk220 (v626 : IVec S16 32) : Prop :=
  (∀ a x, ((![v626] : Fin 1 → IVec S16 32) a x).toNat < S25600.size a)
theorem k0_idx292_inb : ∀ (v626 : IVec S16 32) (k0_hw220 : k0_chk220 v626), ∀ a x, ((![v626] : Fin 1 → IVec S16 32) a x).toNat < S25600.size a := fun v626 k0_hw220 => k0_hw220

def k0_chk225 (v618 : IVec S16 32) : Prop :=
  (∀ a x, ((![v618] : Fin 1 → IVec S16 32) a x).toNat < S1280.size a)
theorem k0_idx297_inb : ∀ (v618 : IVec S16 32) (k0_hw225 : k0_chk225 v618), ∀ a x, ((![v618] : Fin 1 → IVec S16 32) a x).toNat < S1280.size a := fun v618 k0_hw225 => k0_hw225

def k0_chk221 (v630 : IVec S16 32) : Prop :=
  (∀ a x, ((![v630] : Fin 1 → IVec S16 32) a x).toNat < S19456.size a) ∧
  (∀ a x, ((![v630] : Fin 1 → IVec S16 32) a x).toNat < S19456.size a)
theorem k0_idx293_inb : ∀ (v630 : IVec S16 32) (k0_hw221 : k0_chk221 v630), ∀ a x, ((![v630] : Fin 1 → IVec S16 32) a x).toNat < S19456.size a := fun v630 k0_hw221 => k0_hw221.1
theorem k0_idx298_inb : ∀ (v630 : IVec S16 32) (k0_hw221 : k0_chk221 v630), ∀ a x, ((![v630] : Fin 1 → IVec S16 32) a x).toNat < S19456.size a := fun v630 k0_hw221 => k0_hw221.2

def k0_chk226 (v621 : IVec S16 32) : Prop :=
  (∀ a x, ((![v621] : Fin 1 → IVec S16 32) a x).toNat < S1280.size a)
theorem k0_idx299_inb : ∀ (v621 : IVec S16 32) (k0_hw226 : k0_chk226 v621), ∀ a x, ((![v621] : Fin 1 → IVec S16 32) a x).toNat < S1280.size a := fun v621 k0_hw226 => k0_hw226

def k0_chk222 (v633 : IVec S16 32) : Prop :=
  (∀ a x, ((![v633] : Fin 1 → IVec S16 32) a x).toNat < S19456.size a) ∧
  (∀ a x, ((![v633] : Fin 1 → IVec S16 32) a x).toNat < S19456.size a)
theorem k0_idx294_inb : ∀ (v633 : IVec S16 32) (k0_hw222 : k0_chk222 v633), ∀ a x, ((![v633] : Fin 1 → IVec S16 32) a x).toNat < S19456.size a := fun v633 k0_hw222 => k0_hw222.1
theorem k0_idx300_inb : ∀ (v633 : IVec S16 32) (k0_hw222 : k0_chk222 v633), ∀ a x, ((![v633] : Fin 1 → IVec S16 32) a x).toNat < S19456.size a := fun v633 k0_hw222 => k0_hw222.2

def k0_chk227 (v624 : IVec S16 32) : Prop :=
  (∀ a x, ((![v624] : Fin 1 → IVec S16 32) a x).toNat < S1280.size a)
theorem k0_idx301_inb : ∀ (v624 : IVec S16 32) (k0_hw227 : k0_chk227 v624), ∀ a x, ((![v624] : Fin 1 → IVec S16 32) a x).toNat < S1280.size a := fun v624 k0_hw227 => k0_hw227

def k0_chk223 (v636 : IVec S16 32) : Prop :=
  (∀ a x, ((![v636] : Fin 1 → IVec S16 32) a x).toNat < S19456.size a) ∧
  (∀ a x, ((![v636] : Fin 1 → IVec S16 32) a x).toNat < S19456.size a)
theorem k0_idx295_inb : ∀ (v636 : IVec S16 32) (k0_hw223 : k0_chk223 v636), ∀ a x, ((![v636] : Fin 1 → IVec S16 32) a x).toNat < S19456.size a := fun v636 k0_hw223 => k0_hw223.1
theorem k0_idx302_inb : ∀ (v636 : IVec S16 32) (k0_hw223 : k0_chk223 v636), ∀ a x, ((![v636] : Fin 1 → IVec S16 32) a x).toNat < S19456.size a := fun v636 k0_hw223 => k0_hw223.2

def k0_chk228 (v627 : IVec S16 32) : Prop :=
  (∀ a x, ((![v627] : Fin 1 → IVec S16 32) a x).toNat < S1280.size a)
theorem k0_idx303_inb : ∀ (v627 : IVec S16 32) (k0_hw228 : k0_chk228 v627), ∀ a x, ((![v627] : Fin 1 → IVec S16 32) a x).toNat < S1280.size a := fun v627 k0_hw228 => k0_hw228

def k0_chk224 (v639 : IVec S16 32) : Prop :=
  (∀ a x, ((![v639] : Fin 1 → IVec S16 32) a x).toNat < S19456.size a) ∧
  (∀ a x, ((![v639] : Fin 1 → IVec S16 32) a x).toNat < S19456.size a)
theorem k0_idx296_inb : ∀ (v639 : IVec S16 32) (k0_hw224 : k0_chk224 v639), ∀ a x, ((![v639] : Fin 1 → IVec S16 32) a x).toNat < S19456.size a := fun v639 k0_hw224 => k0_hw224.1
theorem k0_idx304_inb : ∀ (v639 : IVec S16 32) (k0_hw224 : k0_chk224 v639), ∀ a x, ((![v639] : Fin 1 → IVec S16 32) a x).toNat < S19456.size a := fun v639 k0_hw224 => k0_hw224.2

def k0_chk229 (v649 : IVec S16 32) : Prop :=
  (∀ a x, ((![v649] : Fin 1 → IVec S16 32) a x).toNat < S25600.size a)
theorem k0_idx305_inb : ∀ (v649 : IVec S16 32) (k0_hw229 : k0_chk229 v649), ∀ a x, ((![v649] : Fin 1 → IVec S16 32) a x).toNat < S25600.size a := fun v649 k0_hw229 => k0_hw229

def k0_chk230 (v652 : IVec S16 32) : Prop :=
  (∀ a x, ((![v652] : Fin 1 → IVec S16 32) a x).toNat < S25600.size a)
theorem k0_idx306_inb : ∀ (v652 : IVec S16 32) (k0_hw230 : k0_chk230 v652), ∀ a x, ((![v652] : Fin 1 → IVec S16 32) a x).toNat < S25600.size a := fun v652 k0_hw230 => k0_hw230

def k0_chk231 (v655 : IVec S16 32) : Prop :=
  (∀ a x, ((![v655] : Fin 1 → IVec S16 32) a x).toNat < S25600.size a)
theorem k0_idx307_inb : ∀ (v655 : IVec S16 32) (k0_hw231 : k0_chk231 v655), ∀ a x, ((![v655] : Fin 1 → IVec S16 32) a x).toNat < S25600.size a := fun v655 k0_hw231 => k0_hw231

def k0_chk232 (v658 : IVec S16 32) : Prop :=
  (∀ a x, ((![v658] : Fin 1 → IVec S16 32) a x).toNat < S25600.size a)
theorem k0_idx308_inb : ∀ (v658 : IVec S16 32) (k0_hw232 : k0_chk232 v658), ∀ a x, ((![v658] : Fin 1 → IVec S16 32) a x).toNat < S25600.size a := fun v658 k0_hw232 => k0_hw232

def k0_chk237 (v650 : IVec S16 32) : Prop :=
  (∀ a x, ((![v650] : Fin 1 → IVec S16 32) a x).toNat < S1280.size a)
theorem k0_idx313_inb : ∀ (v650 : IVec S16 32) (k0_hw237 : k0_chk237 v650), ∀ a x, ((![v650] : Fin 1 → IVec S16 32) a x).toNat < S1280.size a := fun v650 k0_hw237 => k0_hw237

def k0_chk233 (v662 : IVec S16 32) : Prop :=
  (∀ a x, ((![v662] : Fin 1 → IVec S16 32) a x).toNat < S19456.size a) ∧
  (∀ a x, ((![v662] : Fin 1 → IVec S16 32) a x).toNat < S19456.size a)
theorem k0_idx309_inb : ∀ (v662 : IVec S16 32) (k0_hw233 : k0_chk233 v662), ∀ a x, ((![v662] : Fin 1 → IVec S16 32) a x).toNat < S19456.size a := fun v662 k0_hw233 => k0_hw233.1
theorem k0_idx314_inb : ∀ (v662 : IVec S16 32) (k0_hw233 : k0_chk233 v662), ∀ a x, ((![v662] : Fin 1 → IVec S16 32) a x).toNat < S19456.size a := fun v662 k0_hw233 => k0_hw233.2

def k0_chk238 (v653 : IVec S16 32) : Prop :=
  (∀ a x, ((![v653] : Fin 1 → IVec S16 32) a x).toNat < S1280.size a)
theorem k0_idx315_inb : ∀ (v653 : IVec S16 32) (k0_hw238 : k0_chk238 v653), ∀ a x, ((![v653] : Fin 1 → IVec S16 32) a x).toNat < S1280.size a := fun v653 k0_hw238 => k0_hw238

def k0_chk234 (v665 : IVec S16 32) : Prop :=
  (∀ a x, ((![v665] : Fin 1 → IVec S16 32) a x).toNat < S19456.size a) ∧
  (∀ a x, ((![v665] : Fin 1 → IVec S16 32) a x).toNat < S19456.size a)
theorem k0_idx310_inb : ∀ (v665 : IVec S16 32) (k0_hw234 : k0_chk234 v665), ∀ a x, ((![v665] : Fin 1 → IVec S16 32) a x).toNat < S19456.size a := fun v665 k0_hw234 => k0_hw234.1
theorem k0_idx316_inb : ∀ (v665 : IVec S16 32) (k0_hw234 : k0_chk234 v665), ∀ a x, ((![v665] : Fin 1 → IVec S16 32) a x).toNat < S19456.size a := fun v665 k0_hw234 => k0_hw234.2

def k0_chk239 (v656 : IVec S16 32) : Prop :=
  (∀ a x, ((![v656] : Fin 1 → IVec S16 32) a x).toNat < S1280.size a)
theorem k0_idx317_inb : ∀ (v656 : IVec S16 32) (k0_hw239 : k0_chk239 v656), ∀ a x, ((![v656] : Fin 1 → IVec S16 32) a x).toNat < S1280.size a := fun v656 k0_hw239 => k0_hw239

def k0_chk235 (v668 : IVec S16 32) : Prop :=
  (∀ a x, ((![v668] : Fin 1 → IVec S16 32) a x).toNat < S19456.size a) ∧
  (∀ a x, ((![v668] : Fin 1 → IVec S16 32) a x).toNat < S19456.size a)
theorem k0_idx311_inb : ∀ (v668 : IVec S16 32) (k0_hw235 : k0_chk235 v668), ∀ a x, ((![v668] : Fin 1 → IVec S16 32) a x).toNat < S19456.size a := fun v668 k0_hw235 => k0_hw235.1
theorem k0_idx318_inb : ∀ (v668 : IVec S16 32) (k0_hw235 : k0_chk235 v668), ∀ a x, ((![v668] : Fin 1 → IVec S16 32) a x).toNat < S19456.size a := fun v668 k0_hw235 => k0_hw235.2

def k0_chk240 (v659 : IVec S16 32) : Prop :=
  (∀ a x, ((![v659] : Fin 1 → IVec S16 32) a x).toNat < S1280.size a)
theorem k0_idx319_inb : ∀ (v659 : IVec S16 32) (k0_hw240 : k0_chk240 v659), ∀ a x, ((![v659] : Fin 1 → IVec S16 32) a x).toNat < S1280.size a := fun v659 k0_hw240 => k0_hw240

def k0_chk236 (v671 : IVec S16 32) : Prop :=
  (∀ a x, ((![v671] : Fin 1 → IVec S16 32) a x).toNat < S19456.size a) ∧
  (∀ a x, ((![v671] : Fin 1 → IVec S16 32) a x).toNat < S19456.size a)
theorem k0_idx312_inb : ∀ (v671 : IVec S16 32) (k0_hw236 : k0_chk236 v671), ∀ a x, ((![v671] : Fin 1 → IVec S16 32) a x).toNat < S19456.size a := fun v671 k0_hw236 => k0_hw236.1
theorem k0_idx320_inb : ∀ (v671 : IVec S16 32) (k0_hw236 : k0_chk236 v671), ∀ a x, ((![v671] : Fin 1 → IVec S16 32) a x).toNat < S19456.size a := fun v671 k0_hw236 => k0_hw236.2

def k0_chk241 (v681 : IVec S16 32) : Prop :=
  (∀ a x, ((![v681] : Fin 1 → IVec S16 32) a x).toNat < S25600.size a)
theorem k0_idx321_inb : ∀ (v681 : IVec S16 32) (k0_hw241 : k0_chk241 v681), ∀ a x, ((![v681] : Fin 1 → IVec S16 32) a x).toNat < S25600.size a := fun v681 k0_hw241 => k0_hw241

def k0_chk242 (v684 : IVec S16 32) : Prop :=
  (∀ a x, ((![v684] : Fin 1 → IVec S16 32) a x).toNat < S25600.size a)
theorem k0_idx322_inb : ∀ (v684 : IVec S16 32) (k0_hw242 : k0_chk242 v684), ∀ a x, ((![v684] : Fin 1 → IVec S16 32) a x).toNat < S25600.size a := fun v684 k0_hw242 => k0_hw242

def k0_chk243 (v687 : IVec S16 32) : Prop :=
  (∀ a x, ((![v687] : Fin 1 → IVec S16 32) a x).toNat < S25600.size a)
theorem k0_idx323_inb : ∀ (v687 : IVec S16 32) (k0_hw243 : k0_chk243 v687), ∀ a x, ((![v687] : Fin 1 → IVec S16 32) a x).toNat < S25600.size a := fun v687 k0_hw243 => k0_hw243

def k0_chk244 (v690 : IVec S16 32) : Prop :=
  (∀ a x, ((![v690] : Fin 1 → IVec S16 32) a x).toNat < S25600.size a)
theorem k0_idx324_inb : ∀ (v690 : IVec S16 32) (k0_hw244 : k0_chk244 v690), ∀ a x, ((![v690] : Fin 1 → IVec S16 32) a x).toNat < S25600.size a := fun v690 k0_hw244 => k0_hw244

def k0_chk249 (v682 : IVec S16 32) : Prop :=
  (∀ a x, ((![v682] : Fin 1 → IVec S16 32) a x).toNat < S1280.size a)
theorem k0_idx329_inb : ∀ (v682 : IVec S16 32) (k0_hw249 : k0_chk249 v682), ∀ a x, ((![v682] : Fin 1 → IVec S16 32) a x).toNat < S1280.size a := fun v682 k0_hw249 => k0_hw249

def k0_chk245 (v694 : IVec S16 32) : Prop :=
  (∀ a x, ((![v694] : Fin 1 → IVec S16 32) a x).toNat < S19456.size a) ∧
  (∀ a x, ((![v694] : Fin 1 → IVec S16 32) a x).toNat < S19456.size a)
theorem k0_idx325_inb : ∀ (v694 : IVec S16 32) (k0_hw245 : k0_chk245 v694), ∀ a x, ((![v694] : Fin 1 → IVec S16 32) a x).toNat < S19456.size a := fun v694 k0_hw245 => k0_hw245.1
theorem k0_idx330_inb : ∀ (v694 : IVec S16 32) (k0_hw245 : k0_chk245 v694), ∀ a x, ((![v694] : Fin 1 → IVec S16 32) a x).toNat < S19456.size a := fun v694 k0_hw245 => k0_hw245.2

def k0_chk250 (v685 : IVec S16 32) : Prop :=
  (∀ a x, ((![v685] : Fin 1 → IVec S16 32) a x).toNat < S1280.size a)
theorem k0_idx331_inb : ∀ (v685 : IVec S16 32) (k0_hw250 : k0_chk250 v685), ∀ a x, ((![v685] : Fin 1 → IVec S16 32) a x).toNat < S1280.size a := fun v685 k0_hw250 => k0_hw250

def k0_chk246 (v697 : IVec S16 32) : Prop :=
  (∀ a x, ((![v697] : Fin 1 → IVec S16 32) a x).toNat < S19456.size a) ∧
  (∀ a x, ((![v697] : Fin 1 → IVec S16 32) a x).toNat < S19456.size a)
theorem k0_idx326_inb : ∀ (v697 : IVec S16 32) (k0_hw246 : k0_chk246 v697), ∀ a x, ((![v697] : Fin 1 → IVec S16 32) a x).toNat < S19456.size a := fun v697 k0_hw246 => k0_hw246.1
theorem k0_idx332_inb : ∀ (v697 : IVec S16 32) (k0_hw246 : k0_chk246 v697), ∀ a x, ((![v697] : Fin 1 → IVec S16 32) a x).toNat < S19456.size a := fun v697 k0_hw246 => k0_hw246.2

def k0_chk251 (v688 : IVec S16 32) : Prop :=
  (∀ a x, ((![v688] : Fin 1 → IVec S16 32) a x).toNat < S1280.size a)
theorem k0_idx333_inb : ∀ (v688 : IVec S16 32) (k0_hw251 : k0_chk251 v688), ∀ a x, ((![v688] : Fin 1 → IVec S16 32) a x).toNat < S1280.size a := fun v688 k0_hw251 => k0_hw251

def k0_chk247 (v700 : IVec S16 32) : Prop :=
  (∀ a x, ((![v700] : Fin 1 → IVec S16 32) a x).toNat < S19456.size a) ∧
  (∀ a x, ((![v700] : Fin 1 → IVec S16 32) a x).toNat < S19456.size a)
theorem k0_idx327_inb : ∀ (v700 : IVec S16 32) (k0_hw247 : k0_chk247 v700), ∀ a x, ((![v700] : Fin 1 → IVec S16 32) a x).toNat < S19456.size a := fun v700 k0_hw247 => k0_hw247.1
theorem k0_idx334_inb : ∀ (v700 : IVec S16 32) (k0_hw247 : k0_chk247 v700), ∀ a x, ((![v700] : Fin 1 → IVec S16 32) a x).toNat < S19456.size a := fun v700 k0_hw247 => k0_hw247.2

def k0_chk252 (v691 : IVec S16 32) : Prop :=
  (∀ a x, ((![v691] : Fin 1 → IVec S16 32) a x).toNat < S1280.size a)
theorem k0_idx335_inb : ∀ (v691 : IVec S16 32) (k0_hw252 : k0_chk252 v691), ∀ a x, ((![v691] : Fin 1 → IVec S16 32) a x).toNat < S1280.size a := fun v691 k0_hw252 => k0_hw252

def k0_chk248 (v703 : IVec S16 32) : Prop :=
  (∀ a x, ((![v703] : Fin 1 → IVec S16 32) a x).toNat < S19456.size a) ∧
  (∀ a x, ((![v703] : Fin 1 → IVec S16 32) a x).toNat < S19456.size a)
theorem k0_idx328_inb : ∀ (v703 : IVec S16 32) (k0_hw248 : k0_chk248 v703), ∀ a x, ((![v703] : Fin 1 → IVec S16 32) a x).toNat < S19456.size a := fun v703 k0_hw248 => k0_hw248.1
theorem k0_idx336_inb : ∀ (v703 : IVec S16 32) (k0_hw248 : k0_chk248 v703), ∀ a x, ((![v703] : Fin 1 → IVec S16 32) a x).toNat < S19456.size a := fun v703 k0_hw248 => k0_hw248.2

def k0_chk253 (v713 : IVec S16 32) : Prop :=
  (∀ a x, ((![v713] : Fin 1 → IVec S16 32) a x).toNat < S25600.size a)
theorem k0_idx337_inb : ∀ (v713 : IVec S16 32) (k0_hw253 : k0_chk253 v713), ∀ a x, ((![v713] : Fin 1 → IVec S16 32) a x).toNat < S25600.size a := fun v713 k0_hw253 => k0_hw253

def k0_chk254 (v716 : IVec S16 32) : Prop :=
  (∀ a x, ((![v716] : Fin 1 → IVec S16 32) a x).toNat < S25600.size a)
theorem k0_idx338_inb : ∀ (v716 : IVec S16 32) (k0_hw254 : k0_chk254 v716), ∀ a x, ((![v716] : Fin 1 → IVec S16 32) a x).toNat < S25600.size a := fun v716 k0_hw254 => k0_hw254

def k0_chk255 (v719 : IVec S16 32) : Prop :=
  (∀ a x, ((![v719] : Fin 1 → IVec S16 32) a x).toNat < S25600.size a)
theorem k0_idx339_inb : ∀ (v719 : IVec S16 32) (k0_hw255 : k0_chk255 v719), ∀ a x, ((![v719] : Fin 1 → IVec S16 32) a x).toNat < S25600.size a := fun v719 k0_hw255 => k0_hw255

def k0_chk256 (v722 : IVec S16 32) : Prop :=
  (∀ a x, ((![v722] : Fin 1 → IVec S16 32) a x).toNat < S25600.size a)
theorem k0_idx340_inb : ∀ (v722 : IVec S16 32) (k0_hw256 : k0_chk256 v722), ∀ a x, ((![v722] : Fin 1 → IVec S16 32) a x).toNat < S25600.size a := fun v722 k0_hw256 => k0_hw256

def k0_chk261 (v714 : IVec S16 32) : Prop :=
  (∀ a x, ((![v714] : Fin 1 → IVec S16 32) a x).toNat < S1280.size a)
theorem k0_idx345_inb : ∀ (v714 : IVec S16 32) (k0_hw261 : k0_chk261 v714), ∀ a x, ((![v714] : Fin 1 → IVec S16 32) a x).toNat < S1280.size a := fun v714 k0_hw261 => k0_hw261

def k0_chk257 (v726 : IVec S16 32) : Prop :=
  (∀ a x, ((![v726] : Fin 1 → IVec S16 32) a x).toNat < S19456.size a) ∧
  (∀ a x, ((![v726] : Fin 1 → IVec S16 32) a x).toNat < S19456.size a)
theorem k0_idx341_inb : ∀ (v726 : IVec S16 32) (k0_hw257 : k0_chk257 v726), ∀ a x, ((![v726] : Fin 1 → IVec S16 32) a x).toNat < S19456.size a := fun v726 k0_hw257 => k0_hw257.1
theorem k0_idx346_inb : ∀ (v726 : IVec S16 32) (k0_hw257 : k0_chk257 v726), ∀ a x, ((![v726] : Fin 1 → IVec S16 32) a x).toNat < S19456.size a := fun v726 k0_hw257 => k0_hw257.2

def k0_chk262 (v717 : IVec S16 32) : Prop :=
  (∀ a x, ((![v717] : Fin 1 → IVec S16 32) a x).toNat < S1280.size a)
theorem k0_idx347_inb : ∀ (v717 : IVec S16 32) (k0_hw262 : k0_chk262 v717), ∀ a x, ((![v717] : Fin 1 → IVec S16 32) a x).toNat < S1280.size a := fun v717 k0_hw262 => k0_hw262

def k0_chk258 (v729 : IVec S16 32) : Prop :=
  (∀ a x, ((![v729] : Fin 1 → IVec S16 32) a x).toNat < S19456.size a) ∧
  (∀ a x, ((![v729] : Fin 1 → IVec S16 32) a x).toNat < S19456.size a)
theorem k0_idx342_inb : ∀ (v729 : IVec S16 32) (k0_hw258 : k0_chk258 v729), ∀ a x, ((![v729] : Fin 1 → IVec S16 32) a x).toNat < S19456.size a := fun v729 k0_hw258 => k0_hw258.1
theorem k0_idx348_inb : ∀ (v729 : IVec S16 32) (k0_hw258 : k0_chk258 v729), ∀ a x, ((![v729] : Fin 1 → IVec S16 32) a x).toNat < S19456.size a := fun v729 k0_hw258 => k0_hw258.2

def k0_chk263 (v720 : IVec S16 32) : Prop :=
  (∀ a x, ((![v720] : Fin 1 → IVec S16 32) a x).toNat < S1280.size a)
theorem k0_idx349_inb : ∀ (v720 : IVec S16 32) (k0_hw263 : k0_chk263 v720), ∀ a x, ((![v720] : Fin 1 → IVec S16 32) a x).toNat < S1280.size a := fun v720 k0_hw263 => k0_hw263

def k0_chk259 (v732 : IVec S16 32) : Prop :=
  (∀ a x, ((![v732] : Fin 1 → IVec S16 32) a x).toNat < S19456.size a) ∧
  (∀ a x, ((![v732] : Fin 1 → IVec S16 32) a x).toNat < S19456.size a)
theorem k0_idx343_inb : ∀ (v732 : IVec S16 32) (k0_hw259 : k0_chk259 v732), ∀ a x, ((![v732] : Fin 1 → IVec S16 32) a x).toNat < S19456.size a := fun v732 k0_hw259 => k0_hw259.1
theorem k0_idx350_inb : ∀ (v732 : IVec S16 32) (k0_hw259 : k0_chk259 v732), ∀ a x, ((![v732] : Fin 1 → IVec S16 32) a x).toNat < S19456.size a := fun v732 k0_hw259 => k0_hw259.2

def k0_chk264 (v723 : IVec S16 32) : Prop :=
  (∀ a x, ((![v723] : Fin 1 → IVec S16 32) a x).toNat < S1280.size a)
theorem k0_idx351_inb : ∀ (v723 : IVec S16 32) (k0_hw264 : k0_chk264 v723), ∀ a x, ((![v723] : Fin 1 → IVec S16 32) a x).toNat < S1280.size a := fun v723 k0_hw264 => k0_hw264

def k0_chk260 (v735 : IVec S16 32) : Prop :=
  (∀ a x, ((![v735] : Fin 1 → IVec S16 32) a x).toNat < S19456.size a) ∧
  (∀ a x, ((![v735] : Fin 1 → IVec S16 32) a x).toNat < S19456.size a)
theorem k0_idx344_inb : ∀ (v735 : IVec S16 32) (k0_hw260 : k0_chk260 v735), ∀ a x, ((![v735] : Fin 1 → IVec S16 32) a x).toNat < S19456.size a := fun v735 k0_hw260 => k0_hw260.1
theorem k0_idx352_inb : ∀ (v735 : IVec S16 32) (k0_hw260 : k0_chk260 v735), ∀ a x, ((![v735] : Fin 1 → IVec S16 32) a x).toNat < S19456.size a := fun v735 k0_hw260 => k0_hw260.2

def k0_chk265 (v745 : IVec S16 32) : Prop :=
  (∀ a x, ((![v745] : Fin 1 → IVec S16 32) a x).toNat < S25600.size a)
theorem k0_idx353_inb : ∀ (v745 : IVec S16 32) (k0_hw265 : k0_chk265 v745), ∀ a x, ((![v745] : Fin 1 → IVec S16 32) a x).toNat < S25600.size a := fun v745 k0_hw265 => k0_hw265

def k0_chk266 (v748 : IVec S16 32) : Prop :=
  (∀ a x, ((![v748] : Fin 1 → IVec S16 32) a x).toNat < S25600.size a)
theorem k0_idx354_inb : ∀ (v748 : IVec S16 32) (k0_hw266 : k0_chk266 v748), ∀ a x, ((![v748] : Fin 1 → IVec S16 32) a x).toNat < S25600.size a := fun v748 k0_hw266 => k0_hw266

def k0_chk267 (v751 : IVec S16 32) : Prop :=
  (∀ a x, ((![v751] : Fin 1 → IVec S16 32) a x).toNat < S25600.size a)
theorem k0_idx355_inb : ∀ (v751 : IVec S16 32) (k0_hw267 : k0_chk267 v751), ∀ a x, ((![v751] : Fin 1 → IVec S16 32) a x).toNat < S25600.size a := fun v751 k0_hw267 => k0_hw267

def k0_chk268 (v754 : IVec S16 32) : Prop :=
  (∀ a x, ((![v754] : Fin 1 → IVec S16 32) a x).toNat < S25600.size a)
theorem k0_idx356_inb : ∀ (v754 : IVec S16 32) (k0_hw268 : k0_chk268 v754), ∀ a x, ((![v754] : Fin 1 → IVec S16 32) a x).toNat < S25600.size a := fun v754 k0_hw268 => k0_hw268

def k0_chk273 (v746 : IVec S16 32) : Prop :=
  (∀ a x, ((![v746] : Fin 1 → IVec S16 32) a x).toNat < S1280.size a)
theorem k0_idx361_inb : ∀ (v746 : IVec S16 32) (k0_hw273 : k0_chk273 v746), ∀ a x, ((![v746] : Fin 1 → IVec S16 32) a x).toNat < S1280.size a := fun v746 k0_hw273 => k0_hw273

def k0_chk269 (v758 : IVec S16 32) : Prop :=
  (∀ a x, ((![v758] : Fin 1 → IVec S16 32) a x).toNat < S19456.size a) ∧
  (∀ a x, ((![v758] : Fin 1 → IVec S16 32) a x).toNat < S19456.size a)
theorem k0_idx357_inb : ∀ (v758 : IVec S16 32) (k0_hw269 : k0_chk269 v758), ∀ a x, ((![v758] : Fin 1 → IVec S16 32) a x).toNat < S19456.size a := fun v758 k0_hw269 => k0_hw269.1
theorem k0_idx362_inb : ∀ (v758 : IVec S16 32) (k0_hw269 : k0_chk269 v758), ∀ a x, ((![v758] : Fin 1 → IVec S16 32) a x).toNat < S19456.size a := fun v758 k0_hw269 => k0_hw269.2

def k0_chk274 (v749 : IVec S16 32) : Prop :=
  (∀ a x, ((![v749] : Fin 1 → IVec S16 32) a x).toNat < S1280.size a)
theorem k0_idx363_inb : ∀ (v749 : IVec S16 32) (k0_hw274 : k0_chk274 v749), ∀ a x, ((![v749] : Fin 1 → IVec S16 32) a x).toNat < S1280.size a := fun v749 k0_hw274 => k0_hw274

def k0_chk270 (v761 : IVec S16 32) : Prop :=
  (∀ a x, ((![v761] : Fin 1 → IVec S16 32) a x).toNat < S19456.size a) ∧
  (∀ a x, ((![v761] : Fin 1 → IVec S16 32) a x).toNat < S19456.size a)
theorem k0_idx358_inb : ∀ (v761 : IVec S16 32) (k0_hw270 : k0_chk270 v761), ∀ a x, ((![v761] : Fin 1 → IVec S16 32) a x).toNat < S19456.size a := fun v761 k0_hw270 => k0_hw270.1
theorem k0_idx364_inb : ∀ (v761 : IVec S16 32) (k0_hw270 : k0_chk270 v761), ∀ a x, ((![v761] : Fin 1 → IVec S16 32) a x).toNat < S19456.size a := fun v761 k0_hw270 => k0_hw270.2

def k0_chk275 (v752 : IVec S16 32) : Prop :=
  (∀ a x, ((![v752] : Fin 1 → IVec S16 32) a x).toNat < S1280.size a)
theorem k0_idx365_inb : ∀ (v752 : IVec S16 32) (k0_hw275 : k0_chk275 v752), ∀ a x, ((![v752] : Fin 1 → IVec S16 32) a x).toNat < S1280.size a := fun v752 k0_hw275 => k0_hw275

def k0_chk271 (v764 : IVec S16 32) : Prop :=
  (∀ a x, ((![v764] : Fin 1 → IVec S16 32) a x).toNat < S19456.size a) ∧
  (∀ a x, ((![v764] : Fin 1 → IVec S16 32) a x).toNat < S19456.size a)
theorem k0_idx359_inb : ∀ (v764 : IVec S16 32) (k0_hw271 : k0_chk271 v764), ∀ a x, ((![v764] : Fin 1 → IVec S16 32) a x).toNat < S19456.size a := fun v764 k0_hw271 => k0_hw271.1
theorem k0_idx366_inb : ∀ (v764 : IVec S16 32) (k0_hw271 : k0_chk271 v764), ∀ a x, ((![v764] : Fin 1 → IVec S16 32) a x).toNat < S19456.size a := fun v764 k0_hw271 => k0_hw271.2

def k0_chk276 (v755 : IVec S16 32) : Prop :=
  (∀ a x, ((![v755] : Fin 1 → IVec S16 32) a x).toNat < S1280.size a)
theorem k0_idx367_inb : ∀ (v755 : IVec S16 32) (k0_hw276 : k0_chk276 v755), ∀ a x, ((![v755] : Fin 1 → IVec S16 32) a x).toNat < S1280.size a := fun v755 k0_hw276 => k0_hw276

def k0_chk272 (v767 : IVec S16 32) : Prop :=
  (∀ a x, ((![v767] : Fin 1 → IVec S16 32) a x).toNat < S19456.size a) ∧
  (∀ a x, ((![v767] : Fin 1 → IVec S16 32) a x).toNat < S19456.size a)
theorem k0_idx360_inb : ∀ (v767 : IVec S16 32) (k0_hw272 : k0_chk272 v767), ∀ a x, ((![v767] : Fin 1 → IVec S16 32) a x).toNat < S19456.size a := fun v767 k0_hw272 => k0_hw272.1
theorem k0_idx368_inb : ∀ (v767 : IVec S16 32) (k0_hw272 : k0_chk272 v767), ∀ a x, ((![v767] : Fin 1 → IVec S16 32) a x).toNat < S19456.size a := fun v767 k0_hw272 => k0_hw272.2

def k0_chk277 (v777 : IVec S16 32) : Prop :=
  (∀ a x, ((![v777] : Fin 1 → IVec S16 32) a x).toNat < S25600.size a)
theorem k0_idx369_inb : ∀ (v777 : IVec S16 32) (k0_hw277 : k0_chk277 v777), ∀ a x, ((![v777] : Fin 1 → IVec S16 32) a x).toNat < S25600.size a := fun v777 k0_hw277 => k0_hw277

def k0_chk278 (v780 : IVec S16 32) : Prop :=
  (∀ a x, ((![v780] : Fin 1 → IVec S16 32) a x).toNat < S25600.size a)
theorem k0_idx370_inb : ∀ (v780 : IVec S16 32) (k0_hw278 : k0_chk278 v780), ∀ a x, ((![v780] : Fin 1 → IVec S16 32) a x).toNat < S25600.size a := fun v780 k0_hw278 => k0_hw278

def k0_chk279 (v783 : IVec S16 32) : Prop :=
  (∀ a x, ((![v783] : Fin 1 → IVec S16 32) a x).toNat < S25600.size a)
theorem k0_idx371_inb : ∀ (v783 : IVec S16 32) (k0_hw279 : k0_chk279 v783), ∀ a x, ((![v783] : Fin 1 → IVec S16 32) a x).toNat < S25600.size a := fun v783 k0_hw279 => k0_hw279

def k0_chk280 (v786 : IVec S16 32) : Prop :=
  (∀ a x, ((![v786] : Fin 1 → IVec S16 32) a x).toNat < S25600.size a)
theorem k0_idx372_inb : ∀ (v786 : IVec S16 32) (k0_hw280 : k0_chk280 v786), ∀ a x, ((![v786] : Fin 1 → IVec S16 32) a x).toNat < S25600.size a := fun v786 k0_hw280 => k0_hw280

def k0_chk285 (v778 : IVec S16 32) : Prop :=
  (∀ a x, ((![v778] : Fin 1 → IVec S16 32) a x).toNat < S1280.size a)
theorem k0_idx377_inb : ∀ (v778 : IVec S16 32) (k0_hw285 : k0_chk285 v778), ∀ a x, ((![v778] : Fin 1 → IVec S16 32) a x).toNat < S1280.size a := fun v778 k0_hw285 => k0_hw285

def k0_chk281 (v790 : IVec S16 32) : Prop :=
  (∀ a x, ((![v790] : Fin 1 → IVec S16 32) a x).toNat < S19456.size a) ∧
  (∀ a x, ((![v790] : Fin 1 → IVec S16 32) a x).toNat < S19456.size a)
theorem k0_idx373_inb : ∀ (v790 : IVec S16 32) (k0_hw281 : k0_chk281 v790), ∀ a x, ((![v790] : Fin 1 → IVec S16 32) a x).toNat < S19456.size a := fun v790 k0_hw281 => k0_hw281.1
theorem k0_idx378_inb : ∀ (v790 : IVec S16 32) (k0_hw281 : k0_chk281 v790), ∀ a x, ((![v790] : Fin 1 → IVec S16 32) a x).toNat < S19456.size a := fun v790 k0_hw281 => k0_hw281.2

def k0_chk286 (v781 : IVec S16 32) : Prop :=
  (∀ a x, ((![v781] : Fin 1 → IVec S16 32) a x).toNat < S1280.size a)
theorem k0_idx379_inb : ∀ (v781 : IVec S16 32) (k0_hw286 : k0_chk286 v781), ∀ a x, ((![v781] : Fin 1 → IVec S16 32) a x).toNat < S1280.size a := fun v781 k0_hw286 => k0_hw286

def k0_chk282 (v793 : IVec S16 32) : Prop :=
  (∀ a x, ((![v793] : Fin 1 → IVec S16 32) a x).toNat < S19456.size a) ∧
  (∀ a x, ((![v793] : Fin 1 → IVec S16 32) a x).toNat < S19456.size a)
theorem k0_idx374_inb : ∀ (v793 : IVec S16 32) (k0_hw282 : k0_chk282 v793), ∀ a x, ((![v793] : Fin 1 → IVec S16 32) a x).toNat < S19456.size a := fun v793 k0_hw282 => k0_hw282.1
theorem k0_idx380_inb : ∀ (v793 : IVec S16 32) (k0_hw282 : k0_chk282 v793), ∀ a x, ((![v793] : Fin 1 → IVec S16 32) a x).toNat < S19456.size a := fun v793 k0_hw282 => k0_hw282.2

def k0_chk287 (v784 : IVec S16 32) : Prop :=
  (∀ a x, ((![v784] : Fin 1 → IVec S16 32) a x).toNat < S1280.size a)
theorem k0_idx381_inb : ∀ (v784 : IVec S16 32) (k0_hw287 : k0_chk287 v784), ∀ a x, ((![v784] : Fin 1 → IVec S16 32) a x).toNat < S1280.size a := fun v784 k0_hw287 => k0_hw287

def k0_chk283 (v796 : IVec S16 32) : Prop :=
  (∀ a x, ((![v796] : Fin 1 → IVec S16 32) a x).toNat < S19456.size a) ∧
  (∀ a x, ((![v796] : Fin 1 → IVec S16 32) a x).toNat < S19456.size a)
theorem k0_idx375_inb : ∀ (v796 : IVec S16 32) (k0_hw283 : k0_chk283 v796), ∀ a x, ((![v796] : Fin 1 → IVec S16 32) a x).toNat < S19456.size a := fun v796 k0_hw283 => k0_hw283.1
theorem k0_idx382_inb : ∀ (v796 : IVec S16 32) (k0_hw283 : k0_chk283 v796), ∀ a x, ((![v796] : Fin 1 → IVec S16 32) a x).toNat < S19456.size a := fun v796 k0_hw283 => k0_hw283.2

def k0_chk288 (v787 : IVec S16 32) : Prop :=
  (∀ a x, ((![v787] : Fin 1 → IVec S16 32) a x).toNat < S1280.size a)
theorem k0_idx383_inb : ∀ (v787 : IVec S16 32) (k0_hw288 : k0_chk288 v787), ∀ a x, ((![v787] : Fin 1 → IVec S16 32) a x).toNat < S1280.size a := fun v787 k0_hw288 => k0_hw288

def k0_chk284 (v799 : IVec S16 32) : Prop :=
  (∀ a x, ((![v799] : Fin 1 → IVec S16 32) a x).toNat < S19456.size a) ∧
  (∀ a x, ((![v799] : Fin 1 → IVec S16 32) a x).toNat < S19456.size a)
theorem k0_idx376_inb : ∀ (v799 : IVec S16 32) (k0_hw284 : k0_chk284 v799), ∀ a x, ((![v799] : Fin 1 → IVec S16 32) a x).toNat < S19456.size a := fun v799 k0_hw284 => k0_hw284.1
theorem k0_idx384_inb : ∀ (v799 : IVec S16 32) (k0_hw284 : k0_chk284 v799), ∀ a x, ((![v799] : Fin 1 → IVec S16 32) a x).toNat < S19456.size a := fun v799 k0_hw284 => k0_hw284.2

def k0_chk289 (v809 : IVec S16 32) : Prop :=
  (∀ a x, ((![v809] : Fin 1 → IVec S16 32) a x).toNat < S25600.size a)
theorem k0_idx385_inb : ∀ (v809 : IVec S16 32) (k0_hw289 : k0_chk289 v809), ∀ a x, ((![v809] : Fin 1 → IVec S16 32) a x).toNat < S25600.size a := fun v809 k0_hw289 => k0_hw289

def k0_chk290 (v812 : IVec S16 32) : Prop :=
  (∀ a x, ((![v812] : Fin 1 → IVec S16 32) a x).toNat < S25600.size a)
theorem k0_idx386_inb : ∀ (v812 : IVec S16 32) (k0_hw290 : k0_chk290 v812), ∀ a x, ((![v812] : Fin 1 → IVec S16 32) a x).toNat < S25600.size a := fun v812 k0_hw290 => k0_hw290

def k0_chk291 (v815 : IVec S16 32) : Prop :=
  (∀ a x, ((![v815] : Fin 1 → IVec S16 32) a x).toNat < S25600.size a)
theorem k0_idx387_inb : ∀ (v815 : IVec S16 32) (k0_hw291 : k0_chk291 v815), ∀ a x, ((![v815] : Fin 1 → IVec S16 32) a x).toNat < S25600.size a := fun v815 k0_hw291 => k0_hw291

def k0_chk292 (v818 : IVec S16 32) : Prop :=
  (∀ a x, ((![v818] : Fin 1 → IVec S16 32) a x).toNat < S25600.size a)
theorem k0_idx388_inb : ∀ (v818 : IVec S16 32) (k0_hw292 : k0_chk292 v818), ∀ a x, ((![v818] : Fin 1 → IVec S16 32) a x).toNat < S25600.size a := fun v818 k0_hw292 => k0_hw292

def k0_chk297 (v810 : IVec S16 32) : Prop :=
  (∀ a x, ((![v810] : Fin 1 → IVec S16 32) a x).toNat < S1280.size a)
theorem k0_idx393_inb : ∀ (v810 : IVec S16 32) (k0_hw297 : k0_chk297 v810), ∀ a x, ((![v810] : Fin 1 → IVec S16 32) a x).toNat < S1280.size a := fun v810 k0_hw297 => k0_hw297

def k0_chk293 (v822 : IVec S16 32) : Prop :=
  (∀ a x, ((![v822] : Fin 1 → IVec S16 32) a x).toNat < S19456.size a) ∧
  (∀ a x, ((![v822] : Fin 1 → IVec S16 32) a x).toNat < S19456.size a)
theorem k0_idx389_inb : ∀ (v822 : IVec S16 32) (k0_hw293 : k0_chk293 v822), ∀ a x, ((![v822] : Fin 1 → IVec S16 32) a x).toNat < S19456.size a := fun v822 k0_hw293 => k0_hw293.1
theorem k0_idx394_inb : ∀ (v822 : IVec S16 32) (k0_hw293 : k0_chk293 v822), ∀ a x, ((![v822] : Fin 1 → IVec S16 32) a x).toNat < S19456.size a := fun v822 k0_hw293 => k0_hw293.2

def k0_chk298 (v813 : IVec S16 32) : Prop :=
  (∀ a x, ((![v813] : Fin 1 → IVec S16 32) a x).toNat < S1280.size a)
theorem k0_idx395_inb : ∀ (v813 : IVec S16 32) (k0_hw298 : k0_chk298 v813), ∀ a x, ((![v813] : Fin 1 → IVec S16 32) a x).toNat < S1280.size a := fun v813 k0_hw298 => k0_hw298

def k0_chk294 (v825 : IVec S16 32) : Prop :=
  (∀ a x, ((![v825] : Fin 1 → IVec S16 32) a x).toNat < S19456.size a) ∧
  (∀ a x, ((![v825] : Fin 1 → IVec S16 32) a x).toNat < S19456.size a)
theorem k0_idx390_inb : ∀ (v825 : IVec S16 32) (k0_hw294 : k0_chk294 v825), ∀ a x, ((![v825] : Fin 1 → IVec S16 32) a x).toNat < S19456.size a := fun v825 k0_hw294 => k0_hw294.1
theorem k0_idx396_inb : ∀ (v825 : IVec S16 32) (k0_hw294 : k0_chk294 v825), ∀ a x, ((![v825] : Fin 1 → IVec S16 32) a x).toNat < S19456.size a := fun v825 k0_hw294 => k0_hw294.2

def k0_chk299 (v816 : IVec S16 32) : Prop :=
  (∀ a x, ((![v816] : Fin 1 → IVec S16 32) a x).toNat < S1280.size a)
theorem k0_idx397_inb : ∀ (v816 : IVec S16 32) (k0_hw299 : k0_chk299 v816), ∀ a x, ((![v816] : Fin 1 → IVec S16 32) a x).toNat < S1280.size a := fun v816 k0_hw299 => k0_hw299

def k0_chk295 (v828 : IVec S16 32) : Prop :=
  (∀ a x, ((![v828] : Fin 1 → IVec S16 32) a x).toNat < S19456.size a) ∧
  (∀ a x, ((![v828] : Fin 1 → IVec S16 32) a x).toNat < S19456.size a)
theorem k0_idx391_inb : ∀ (v828 : IVec S16 32) (k0_hw295 : k0_chk295 v828), ∀ a x, ((![v828] : Fin 1 → IVec S16 32) a x).toNat < S19456.size a := fun v828 k0_hw295 => k0_hw295.1
theorem k0_idx398_inb : ∀ (v828 : IVec S16 32) (k0_hw295 : k0_chk295 v828), ∀ a x, ((![v828] : Fin 1 → IVec S16 32) a x).toNat < S19456.size a := fun v828 k0_hw295 => k0_hw295.2

def k0_chk300 (v819 : IVec S16 32) : Prop :=
  (∀ a x, ((![v819] : Fin 1 → IVec S16 32) a x).toNat < S1280.size a)
theorem k0_idx399_inb : ∀ (v819 : IVec S16 32) (k0_hw300 : k0_chk300 v819), ∀ a x, ((![v819] : Fin 1 → IVec S16 32) a x).toNat < S1280.size a := fun v819 k0_hw300 => k0_hw300

def k0_chk296 (v831 : IVec S16 32) : Prop :=
  (∀ a x, ((![v831] : Fin 1 → IVec S16 32) a x).toNat < S19456.size a) ∧
  (∀ a x, ((![v831] : Fin 1 → IVec S16 32) a x).toNat < S19456.size a)
theorem k0_idx392_inb : ∀ (v831 : IVec S16 32) (k0_hw296 : k0_chk296 v831), ∀ a x, ((![v831] : Fin 1 → IVec S16 32) a x).toNat < S19456.size a := fun v831 k0_hw296 => k0_hw296.1
theorem k0_idx400_inb : ∀ (v831 : IVec S16 32) (k0_hw296 : k0_chk296 v831), ∀ a x, ((![v831] : Fin 1 → IVec S16 32) a x).toNat < S19456.size a := fun v831 k0_hw296 => k0_hw296.2

def k0_chk301 (v841 : IVec S16 32) : Prop :=
  (∀ a x, ((![v841] : Fin 1 → IVec S16 32) a x).toNat < S25600.size a)
theorem k0_idx401_inb : ∀ (v841 : IVec S16 32) (k0_hw301 : k0_chk301 v841), ∀ a x, ((![v841] : Fin 1 → IVec S16 32) a x).toNat < S25600.size a := fun v841 k0_hw301 => k0_hw301

def k0_chk302 (v844 : IVec S16 32) : Prop :=
  (∀ a x, ((![v844] : Fin 1 → IVec S16 32) a x).toNat < S25600.size a)
theorem k0_idx402_inb : ∀ (v844 : IVec S16 32) (k0_hw302 : k0_chk302 v844), ∀ a x, ((![v844] : Fin 1 → IVec S16 32) a x).toNat < S25600.size a := fun v844 k0_hw302 => k0_hw302

def k0_chk303 (v847 : IVec S16 32) : Prop :=
  (∀ a x, ((![v847] : Fin 1 → IVec S16 32) a x).toNat < S25600.size a)
theorem k0_idx403_inb : ∀ (v847 : IVec S16 32) (k0_hw303 : k0_chk303 v847), ∀ a x, ((![v847] : Fin 1 → IVec S16 32) a x).toNat < S25600.size a := fun v847 k0_hw303 => k0_hw303

def k0_chk304 (v850 : IVec S16 32) : Prop :=
  (∀ a x, ((![v850] : Fin 1 → IVec S16 32) a x).toNat < S25600.size a)
theorem k0_idx404_inb : ∀ (v850 : IVec S16 32) (k0_hw304 : k0_chk304 v850), ∀ a x, ((![v850] : Fin 1 → IVec S16 32) a x).toNat < S25600.size a := fun v850 k0_hw304 => k0_hw304

def k0_chk309 (v842 : IVec S16 32) : Prop :=
  (∀ a x, ((![v842] : Fin 1 → IVec S16 32) a x).toNat < S1280.size a)
theorem k0_idx409_inb : ∀ (v842 : IVec S16 32) (k0_hw309 : k0_chk309 v842), ∀ a x, ((![v842] : Fin 1 → IVec S16 32) a x).toNat < S1280.size a := fun v842 k0_hw309 => k0_hw309

def k0_chk305 (v854 : IVec S16 32) : Prop :=
  (∀ a x, ((![v854] : Fin 1 → IVec S16 32) a x).toNat < S19456.size a) ∧
  (∀ a x, ((![v854] : Fin 1 → IVec S16 32) a x).toNat < S19456.size a)
theorem k0_idx405_inb : ∀ (v854 : IVec S16 32) (k0_hw305 : k0_chk305 v854), ∀ a x, ((![v854] : Fin 1 → IVec S16 32) a x).toNat < S19456.size a := fun v854 k0_hw305 => k0_hw305.1
theorem k0_idx410_inb : ∀ (v854 : IVec S16 32) (k0_hw305 : k0_chk305 v854), ∀ a x, ((![v854] : Fin 1 → IVec S16 32) a x).toNat < S19456.size a := fun v854 k0_hw305 => k0_hw305.2

def k0_chk310 (v845 : IVec S16 32) : Prop :=
  (∀ a x, ((![v845] : Fin 1 → IVec S16 32) a x).toNat < S1280.size a)
theorem k0_idx411_inb : ∀ (v845 : IVec S16 32) (k0_hw310 : k0_chk310 v845), ∀ a x, ((![v845] : Fin 1 → IVec S16 32) a x).toNat < S1280.size a := fun v845 k0_hw310 => k0_hw310

def k0_chk306 (v857 : IVec S16 32) : Prop :=
  (∀ a x, ((![v857] : Fin 1 → IVec S16 32) a x).toNat < S19456.size a) ∧
  (∀ a x, ((![v857] : Fin 1 → IVec S16 32) a x).toNat < S19456.size a)
theorem k0_idx406_inb : ∀ (v857 : IVec S16 32) (k0_hw306 : k0_chk306 v857), ∀ a x, ((![v857] : Fin 1 → IVec S16 32) a x).toNat < S19456.size a := fun v857 k0_hw306 => k0_hw306.1
theorem k0_idx412_inb : ∀ (v857 : IVec S16 32) (k0_hw306 : k0_chk306 v857), ∀ a x, ((![v857] : Fin 1 → IVec S16 32) a x).toNat < S19456.size a := fun v857 k0_hw306 => k0_hw306.2

def k0_chk311 (v848 : IVec S16 32) : Prop :=
  (∀ a x, ((![v848] : Fin 1 → IVec S16 32) a x).toNat < S1280.size a)
theorem k0_idx413_inb : ∀ (v848 : IVec S16 32) (k0_hw311 : k0_chk311 v848), ∀ a x, ((![v848] : Fin 1 → IVec S16 32) a x).toNat < S1280.size a := fun v848 k0_hw311 => k0_hw311

def k0_chk307 (v860 : IVec S16 32) : Prop :=
  (∀ a x, ((![v860] : Fin 1 → IVec S16 32) a x).toNat < S19456.size a) ∧
  (∀ a x, ((![v860] : Fin 1 → IVec S16 32) a x).toNat < S19456.size a)
theorem k0_idx407_inb : ∀ (v860 : IVec S16 32) (k0_hw307 : k0_chk307 v860), ∀ a x, ((![v860] : Fin 1 → IVec S16 32) a x).toNat < S19456.size a := fun v860 k0_hw307 => k0_hw307.1
theorem k0_idx414_inb : ∀ (v860 : IVec S16 32) (k0_hw307 : k0_chk307 v860), ∀ a x, ((![v860] : Fin 1 → IVec S16 32) a x).toNat < S19456.size a := fun v860 k0_hw307 => k0_hw307.2

def k0_chk312 (v851 : IVec S16 32) : Prop :=
  (∀ a x, ((![v851] : Fin 1 → IVec S16 32) a x).toNat < S1280.size a)
theorem k0_idx415_inb : ∀ (v851 : IVec S16 32) (k0_hw312 : k0_chk312 v851), ∀ a x, ((![v851] : Fin 1 → IVec S16 32) a x).toNat < S1280.size a := fun v851 k0_hw312 => k0_hw312

def k0_chk308 (v863 : IVec S16 32) : Prop :=
  (∀ a x, ((![v863] : Fin 1 → IVec S16 32) a x).toNat < S19456.size a) ∧
  (∀ a x, ((![v863] : Fin 1 → IVec S16 32) a x).toNat < S19456.size a)
theorem k0_idx408_inb : ∀ (v863 : IVec S16 32) (k0_hw308 : k0_chk308 v863), ∀ a x, ((![v863] : Fin 1 → IVec S16 32) a x).toNat < S19456.size a := fun v863 k0_hw308 => k0_hw308.1
theorem k0_idx416_inb : ∀ (v863 : IVec S16 32) (k0_hw308 : k0_chk308 v863), ∀ a x, ((![v863] : Fin 1 → IVec S16 32) a x).toNat < S19456.size a := fun v863 k0_hw308 => k0_hw308.2

def k0_chk313 (v873 : IVec S16 32) : Prop :=
  (∀ a x, ((![v873] : Fin 1 → IVec S16 32) a x).toNat < S25600.size a)
theorem k0_idx417_inb : ∀ (v873 : IVec S16 32) (k0_hw313 : k0_chk313 v873), ∀ a x, ((![v873] : Fin 1 → IVec S16 32) a x).toNat < S25600.size a := fun v873 k0_hw313 => k0_hw313

def k0_chk314 (v876 : IVec S16 32) : Prop :=
  (∀ a x, ((![v876] : Fin 1 → IVec S16 32) a x).toNat < S25600.size a)
theorem k0_idx418_inb : ∀ (v876 : IVec S16 32) (k0_hw314 : k0_chk314 v876), ∀ a x, ((![v876] : Fin 1 → IVec S16 32) a x).toNat < S25600.size a := fun v876 k0_hw314 => k0_hw314

def k0_chk315 (v879 : IVec S16 32) : Prop :=
  (∀ a x, ((![v879] : Fin 1 → IVec S16 32) a x).toNat < S25600.size a)
theorem k0_idx419_inb : ∀ (v879 : IVec S16 32) (k0_hw315 : k0_chk315 v879), ∀ a x, ((![v879] : Fin 1 → IVec S16 32) a x).toNat < S25600.size a := fun v879 k0_hw315 => k0_hw315

def k0_chk316 (v882 : IVec S16 32) : Prop :=
  (∀ a x, ((![v882] : Fin 1 → IVec S16 32) a x).toNat < S25600.size a)
theorem k0_idx420_inb : ∀ (v882 : IVec S16 32) (k0_hw316 : k0_chk316 v882), ∀ a x, ((![v882] : Fin 1 → IVec S16 32) a x).toNat < S25600.size a := fun v882 k0_hw316 => k0_hw316

def k0_chk321 (v874 : IVec S16 32) : Prop :=
  (∀ a x, ((![v874] : Fin 1 → IVec S16 32) a x).toNat < S1280.size a)
theorem k0_idx425_inb : ∀ (v874 : IVec S16 32) (k0_hw321 : k0_chk321 v874), ∀ a x, ((![v874] : Fin 1 → IVec S16 32) a x).toNat < S1280.size a := fun v874 k0_hw321 => k0_hw321

def k0_chk317 (v886 : IVec S16 32) : Prop :=
  (∀ a x, ((![v886] : Fin 1 → IVec S16 32) a x).toNat < S19456.size a) ∧
  (∀ a x, ((![v886] : Fin 1 → IVec S16 32) a x).toNat < S19456.size a)
theorem k0_idx421_inb : ∀ (v886 : IVec S16 32) (k0_hw317 : k0_chk317 v886), ∀ a x, ((![v886] : Fin 1 → IVec S16 32) a x).toNat < S19456.size a := fun v886 k0_hw317 => k0_hw317.1
theorem k0_idx426_inb : ∀ (v886 : IVec S16 32) (k0_hw317 : k0_chk317 v886), ∀ a x, ((![v886] : Fin 1 → IVec S16 32) a x).toNat < S19456.size a := fun v886 k0_hw317 => k0_hw317.2

def k0_chk322 (v877 : IVec S16 32) : Prop :=
  (∀ a x, ((![v877] : Fin 1 → IVec S16 32) a x).toNat < S1280.size a)
theorem k0_idx427_inb : ∀ (v877 : IVec S16 32) (k0_hw322 : k0_chk322 v877), ∀ a x, ((![v877] : Fin 1 → IVec S16 32) a x).toNat < S1280.size a := fun v877 k0_hw322 => k0_hw322

def k0_chk318 (v889 : IVec S16 32) : Prop :=
  (∀ a x, ((![v889] : Fin 1 → IVec S16 32) a x).toNat < S19456.size a) ∧
  (∀ a x, ((![v889] : Fin 1 → IVec S16 32) a x).toNat < S19456.size a)
theorem k0_idx422_inb : ∀ (v889 : IVec S16 32) (k0_hw318 : k0_chk318 v889), ∀ a x, ((![v889] : Fin 1 → IVec S16 32) a x).toNat < S19456.size a := fun v889 k0_hw318 => k0_hw318.1
theorem k0_idx428_inb : ∀ (v889 : IVec S16 32) (k0_hw318 : k0_chk318 v889), ∀ a x, ((![v889] : Fin 1 → IVec S16 32) a x).toNat < S19456.size a := fun v889 k0_hw318 => k0_hw318.2

def k0_chk323 (v880 : IVec S16 32) : Prop :=
  (∀ a x, ((![v880] : Fin 1 → IVec S16 32) a x).toNat < S1280.size a)
theorem k0_idx429_inb : ∀ (v880 : IVec S16 32) (k0_hw323 : k0_chk323 v880), ∀ a x, ((![v880] : Fin 1 → IVec S16 32) a x).toNat < S1280.size a := fun v880 k0_hw323 => k0_hw323

def k0_chk319 (v892 : IVec S16 32) : Prop :=
  (∀ a x, ((![v892] : Fin 1 → IVec S16 32) a x).toNat < S19456.size a) ∧
  (∀ a x, ((![v892] : Fin 1 → IVec S16 32) a x).toNat < S19456.size a)
theorem k0_idx423_inb : ∀ (v892 : IVec S16 32) (k0_hw319 : k0_chk319 v892), ∀ a x, ((![v892] : Fin 1 → IVec S16 32) a x).toNat < S19456.size a := fun v892 k0_hw319 => k0_hw319.1
theorem k0_idx430_inb : ∀ (v892 : IVec S16 32) (k0_hw319 : k0_chk319 v892), ∀ a x, ((![v892] : Fin 1 → IVec S16 32) a x).toNat < S19456.size a := fun v892 k0_hw319 => k0_hw319.2

def k0_chk324 (v883 : IVec S16 32) : Prop :=
  (∀ a x, ((![v883] : Fin 1 → IVec S16 32) a x).toNat < S1280.size a)
theorem k0_idx431_inb : ∀ (v883 : IVec S16 32) (k0_hw324 : k0_chk324 v883), ∀ a x, ((![v883] : Fin 1 → IVec S16 32) a x).toNat < S1280.size a := fun v883 k0_hw324 => k0_hw324

def k0_chk320 (v895 : IVec S16 32) : Prop :=
  (∀ a x, ((![v895] : Fin 1 → IVec S16 32) a x).toNat < S19456.size a) ∧
  (∀ a x, ((![v895] : Fin 1 → IVec S16 32) a x).toNat < S19456.size a)
theorem k0_idx424_inb : ∀ (v895 : IVec S16 32) (k0_hw320 : k0_chk320 v895), ∀ a x, ((![v895] : Fin 1 → IVec S16 32) a x).toNat < S19456.size a := fun v895 k0_hw320 => k0_hw320.1
theorem k0_idx432_inb : ∀ (v895 : IVec S16 32) (k0_hw320 : k0_chk320 v895), ∀ a x, ((![v895] : Fin 1 → IVec S16 32) a x).toNat < S19456.size a := fun v895 k0_hw320 => k0_hw320.2

def k0_chk325 (v905 : IVec S16 32) : Prop :=
  (∀ a x, ((![v905] : Fin 1 → IVec S16 32) a x).toNat < S25600.size a)
theorem k0_idx433_inb : ∀ (v905 : IVec S16 32) (k0_hw325 : k0_chk325 v905), ∀ a x, ((![v905] : Fin 1 → IVec S16 32) a x).toNat < S25600.size a := fun v905 k0_hw325 => k0_hw325

def k0_chk326 (v908 : IVec S16 32) : Prop :=
  (∀ a x, ((![v908] : Fin 1 → IVec S16 32) a x).toNat < S25600.size a)
theorem k0_idx434_inb : ∀ (v908 : IVec S16 32) (k0_hw326 : k0_chk326 v908), ∀ a x, ((![v908] : Fin 1 → IVec S16 32) a x).toNat < S25600.size a := fun v908 k0_hw326 => k0_hw326

def k0_chk327 (v911 : IVec S16 32) : Prop :=
  (∀ a x, ((![v911] : Fin 1 → IVec S16 32) a x).toNat < S25600.size a)
theorem k0_idx435_inb : ∀ (v911 : IVec S16 32) (k0_hw327 : k0_chk327 v911), ∀ a x, ((![v911] : Fin 1 → IVec S16 32) a x).toNat < S25600.size a := fun v911 k0_hw327 => k0_hw327

def k0_chk328 (v914 : IVec S16 32) : Prop :=
  (∀ a x, ((![v914] : Fin 1 → IVec S16 32) a x).toNat < S25600.size a)
theorem k0_idx436_inb : ∀ (v914 : IVec S16 32) (k0_hw328 : k0_chk328 v914), ∀ a x, ((![v914] : Fin 1 → IVec S16 32) a x).toNat < S25600.size a := fun v914 k0_hw328 => k0_hw328

def k0_chk333 (v906 : IVec S16 32) : Prop :=
  (∀ a x, ((![v906] : Fin 1 → IVec S16 32) a x).toNat < S1280.size a)
theorem k0_idx441_inb : ∀ (v906 : IVec S16 32) (k0_hw333 : k0_chk333 v906), ∀ a x, ((![v906] : Fin 1 → IVec S16 32) a x).toNat < S1280.size a := fun v906 k0_hw333 => k0_hw333

def k0_chk329 (v918 : IVec S16 32) : Prop :=
  (∀ a x, ((![v918] : Fin 1 → IVec S16 32) a x).toNat < S19456.size a) ∧
  (∀ a x, ((![v918] : Fin 1 → IVec S16 32) a x).toNat < S19456.size a)
theorem k0_idx437_inb : ∀ (v918 : IVec S16 32) (k0_hw329 : k0_chk329 v918), ∀ a x, ((![v918] : Fin 1 → IVec S16 32) a x).toNat < S19456.size a := fun v918 k0_hw329 => k0_hw329.1
theorem k0_idx442_inb : ∀ (v918 : IVec S16 32) (k0_hw329 : k0_chk329 v918), ∀ a x, ((![v918] : Fin 1 → IVec S16 32) a x).toNat < S19456.size a := fun v918 k0_hw329 => k0_hw329.2

def k0_chk334 (v909 : IVec S16 32) : Prop :=
  (∀ a x, ((![v909] : Fin 1 → IVec S16 32) a x).toNat < S1280.size a)
theorem k0_idx443_inb : ∀ (v909 : IVec S16 32) (k0_hw334 : k0_chk334 v909), ∀ a x, ((![v909] : Fin 1 → IVec S16 32) a x).toNat < S1280.size a := fun v909 k0_hw334 => k0_hw334

def k0_chk330 (v921 : IVec S16 32) : Prop :=
  (∀ a x, ((![v921] : Fin 1 → IVec S16 32) a x).toNat < S19456.size a) ∧
  (∀ a x, ((![v921] : Fin 1 → IVec S16 32) a x).toNat < S19456.size a)
theorem k0_idx438_inb : ∀ (v921 : IVec S16 32) (k0_hw330 : k0_chk330 v921), ∀ a x, ((![v921] : Fin 1 → IVec S16 32) a x).toNat < S19456.size a := fun v921 k0_hw330 => k0_hw330.1
theorem k0_idx444_inb : ∀ (v921 : IVec S16 32) (k0_hw330 : k0_chk330 v921), ∀ a x, ((![v921] : Fin 1 → IVec S16 32) a x).toNat < S19456.size a := fun v921 k0_hw330 => k0_hw330.2

def k0_chk335 (v912 : IVec S16 32) : Prop :=
  (∀ a x, ((![v912] : Fin 1 → IVec S16 32) a x).toNat < S1280.size a)
theorem k0_idx445_inb : ∀ (v912 : IVec S16 32) (k0_hw335 : k0_chk335 v912), ∀ a x, ((![v912] : Fin 1 → IVec S16 32) a x).toNat < S1280.size a := fun v912 k0_hw335 => k0_hw335

def k0_chk331 (v924 : IVec S16 32) : Prop :=
  (∀ a x, ((![v924] : Fin 1 → IVec S16 32) a x).toNat < S19456.size a) ∧
  (∀ a x, ((![v924] : Fin 1 → IVec S16 32) a x).toNat < S19456.size a)
theorem k0_idx439_inb : ∀ (v924 : IVec S16 32) (k0_hw331 : k0_chk331 v924), ∀ a x, ((![v924] : Fin 1 → IVec S16 32) a x).toNat < S19456.size a := fun v924 k0_hw331 => k0_hw331.1
theorem k0_idx446_inb : ∀ (v924 : IVec S16 32) (k0_hw331 : k0_chk331 v924), ∀ a x, ((![v924] : Fin 1 → IVec S16 32) a x).toNat < S19456.size a := fun v924 k0_hw331 => k0_hw331.2

def k0_chk336 (v915 : IVec S16 32) : Prop :=
  (∀ a x, ((![v915] : Fin 1 → IVec S16 32) a x).toNat < S1280.size a)
theorem k0_idx447_inb : ∀ (v915 : IVec S16 32) (k0_hw336 : k0_chk336 v915), ∀ a x, ((![v915] : Fin 1 → IVec S16 32) a x).toNat < S1280.size a := fun v915 k0_hw336 => k0_hw336

def k0_chk332 (v927 : IVec S16 32) : Prop :=
  (∀ a x, ((![v927] : Fin 1 → IVec S16 32) a x).toNat < S19456.size a) ∧
  (∀ a x, ((![v927] : Fin 1 → IVec S16 32) a x).toNat < S19456.size a)
theorem k0_idx440_inb : ∀ (v927 : IVec S16 32) (k0_hw332 : k0_chk332 v927), ∀ a x, ((![v927] : Fin 1 → IVec S16 32) a x).toNat < S19456.size a := fun v927 k0_hw332 => k0_hw332.1
theorem k0_idx448_inb : ∀ (v927 : IVec S16 32) (k0_hw332 : k0_chk332 v927), ∀ a x, ((![v927] : Fin 1 → IVec S16 32) a x).toNat < S19456.size a := fun v927 k0_hw332 => k0_hw332.2

def k0_chk337 (v937 : IVec S16 32) : Prop :=
  (∀ a x, ((![v937] : Fin 1 → IVec S16 32) a x).toNat < S25600.size a)
theorem k0_idx449_inb : ∀ (v937 : IVec S16 32) (k0_hw337 : k0_chk337 v937), ∀ a x, ((![v937] : Fin 1 → IVec S16 32) a x).toNat < S25600.size a := fun v937 k0_hw337 => k0_hw337

def k0_chk338 (v940 : IVec S16 32) : Prop :=
  (∀ a x, ((![v940] : Fin 1 → IVec S16 32) a x).toNat < S25600.size a)
theorem k0_idx450_inb : ∀ (v940 : IVec S16 32) (k0_hw338 : k0_chk338 v940), ∀ a x, ((![v940] : Fin 1 → IVec S16 32) a x).toNat < S25600.size a := fun v940 k0_hw338 => k0_hw338

def k0_chk339 (v943 : IVec S16 32) : Prop :=
  (∀ a x, ((![v943] : Fin 1 → IVec S16 32) a x).toNat < S25600.size a)
theorem k0_idx451_inb : ∀ (v943 : IVec S16 32) (k0_hw339 : k0_chk339 v943), ∀ a x, ((![v943] : Fin 1 → IVec S16 32) a x).toNat < S25600.size a := fun v943 k0_hw339 => k0_hw339

def k0_chk340 (v946 : IVec S16 32) : Prop :=
  (∀ a x, ((![v946] : Fin 1 → IVec S16 32) a x).toNat < S25600.size a)
theorem k0_idx452_inb : ∀ (v946 : IVec S16 32) (k0_hw340 : k0_chk340 v946), ∀ a x, ((![v946] : Fin 1 → IVec S16 32) a x).toNat < S25600.size a := fun v946 k0_hw340 => k0_hw340

def k0_chk345 (v938 : IVec S16 32) : Prop :=
  (∀ a x, ((![v938] : Fin 1 → IVec S16 32) a x).toNat < S1280.size a)
theorem k0_idx457_inb : ∀ (v938 : IVec S16 32) (k0_hw345 : k0_chk345 v938), ∀ a x, ((![v938] : Fin 1 → IVec S16 32) a x).toNat < S1280.size a := fun v938 k0_hw345 => k0_hw345

def k0_chk341 (v950 : IVec S16 32) : Prop :=
  (∀ a x, ((![v950] : Fin 1 → IVec S16 32) a x).toNat < S19456.size a) ∧
  (∀ a x, ((![v950] : Fin 1 → IVec S16 32) a x).toNat < S19456.size a)
theorem k0_idx453_inb : ∀ (v950 : IVec S16 32) (k0_hw341 : k0_chk341 v950), ∀ a x, ((![v950] : Fin 1 → IVec S16 32) a x).toNat < S19456.size a := fun v950 k0_hw341 => k0_hw341.1
theorem k0_idx458_inb : ∀ (v950 : IVec S16 32) (k0_hw341 : k0_chk341 v950), ∀ a x, ((![v950] : Fin 1 → IVec S16 32) a x).toNat < S19456.size a := fun v950 k0_hw341 => k0_hw341.2

def k0_chk346 (v941 : IVec S16 32) : Prop :=
  (∀ a x, ((![v941] : Fin 1 → IVec S16 32) a x).toNat < S1280.size a)
theorem k0_idx459_inb : ∀ (v941 : IVec S16 32) (k0_hw346 : k0_chk346 v941), ∀ a x, ((![v941] : Fin 1 → IVec S16 32) a x).toNat < S1280.size a := fun v941 k0_hw346 => k0_hw346

def k0_chk342 (v953 : IVec S16 32) : Prop :=
  (∀ a x, ((![v953] : Fin 1 → IVec S16 32) a x).toNat < S19456.size a) ∧
  (∀ a x, ((![v953] : Fin 1 → IVec S16 32) a x).toNat < S19456.size a)
theorem k0_idx454_inb : ∀ (v953 : IVec S16 32) (k0_hw342 : k0_chk342 v953), ∀ a x, ((![v953] : Fin 1 → IVec S16 32) a x).toNat < S19456.size a := fun v953 k0_hw342 => k0_hw342.1
theorem k0_idx460_inb : ∀ (v953 : IVec S16 32) (k0_hw342 : k0_chk342 v953), ∀ a x, ((![v953] : Fin 1 → IVec S16 32) a x).toNat < S19456.size a := fun v953 k0_hw342 => k0_hw342.2

def k0_chk347 (v944 : IVec S16 32) : Prop :=
  (∀ a x, ((![v944] : Fin 1 → IVec S16 32) a x).toNat < S1280.size a)
theorem k0_idx461_inb : ∀ (v944 : IVec S16 32) (k0_hw347 : k0_chk347 v944), ∀ a x, ((![v944] : Fin 1 → IVec S16 32) a x).toNat < S1280.size a := fun v944 k0_hw347 => k0_hw347

def k0_chk343 (v956 : IVec S16 32) : Prop :=
  (∀ a x, ((![v956] : Fin 1 → IVec S16 32) a x).toNat < S19456.size a) ∧
  (∀ a x, ((![v956] : Fin 1 → IVec S16 32) a x).toNat < S19456.size a)
theorem k0_idx455_inb : ∀ (v956 : IVec S16 32) (k0_hw343 : k0_chk343 v956), ∀ a x, ((![v956] : Fin 1 → IVec S16 32) a x).toNat < S19456.size a := fun v956 k0_hw343 => k0_hw343.1
theorem k0_idx462_inb : ∀ (v956 : IVec S16 32) (k0_hw343 : k0_chk343 v956), ∀ a x, ((![v956] : Fin 1 → IVec S16 32) a x).toNat < S19456.size a := fun v956 k0_hw343 => k0_hw343.2

def k0_chk348 (v947 : IVec S16 32) : Prop :=
  (∀ a x, ((![v947] : Fin 1 → IVec S16 32) a x).toNat < S1280.size a)
theorem k0_idx463_inb : ∀ (v947 : IVec S16 32) (k0_hw348 : k0_chk348 v947), ∀ a x, ((![v947] : Fin 1 → IVec S16 32) a x).toNat < S1280.size a := fun v947 k0_hw348 => k0_hw348

def k0_chk344 (v959 : IVec S16 32) : Prop :=
  (∀ a x, ((![v959] : Fin 1 → IVec S16 32) a x).toNat < S19456.size a) ∧
  (∀ a x, ((![v959] : Fin 1 → IVec S16 32) a x).toNat < S19456.size a)
theorem k0_idx456_inb : ∀ (v959 : IVec S16 32) (k0_hw344 : k0_chk344 v959), ∀ a x, ((![v959] : Fin 1 → IVec S16 32) a x).toNat < S19456.size a := fun v959 k0_hw344 => k0_hw344.1
theorem k0_idx464_inb : ∀ (v959 : IVec S16 32) (k0_hw344 : k0_chk344 v959), ∀ a x, ((![v959] : Fin 1 → IVec S16 32) a x).toNat < S19456.size a := fun v959 k0_hw344 => k0_hw344.2

def k0_chk349 (v969 : IVec S16 32) : Prop :=
  (∀ a x, ((![v969] : Fin 1 → IVec S16 32) a x).toNat < S25600.size a)
theorem k0_idx465_inb : ∀ (v969 : IVec S16 32) (k0_hw349 : k0_chk349 v969), ∀ a x, ((![v969] : Fin 1 → IVec S16 32) a x).toNat < S25600.size a := fun v969 k0_hw349 => k0_hw349

def k0_chk350 (v972 : IVec S16 32) : Prop :=
  (∀ a x, ((![v972] : Fin 1 → IVec S16 32) a x).toNat < S25600.size a)
theorem k0_idx466_inb : ∀ (v972 : IVec S16 32) (k0_hw350 : k0_chk350 v972), ∀ a x, ((![v972] : Fin 1 → IVec S16 32) a x).toNat < S25600.size a := fun v972 k0_hw350 => k0_hw350

def k0_chk351 (v975 : IVec S16 32) : Prop :=
  (∀ a x, ((![v975] : Fin 1 → IVec S16 32) a x).toNat < S25600.size a)
theorem k0_idx467_inb : ∀ (v975 : IVec S16 32) (k0_hw351 : k0_chk351 v975), ∀ a x, ((![v975] : Fin 1 → IVec S16 32) a x).toNat < S25600.size a := fun v975 k0_hw351 => k0_hw351

def k0_chk352 (v978 : IVec S16 32) : Prop :=
  (∀ a x, ((![v978] : Fin 1 → IVec S16 32) a x).toNat < S25600.size a)
theorem k0_idx468_inb : ∀ (v978 : IVec S16 32) (k0_hw352 : k0_chk352 v978), ∀ a x, ((![v978] : Fin 1 → IVec S16 32) a x).toNat < S25600.size a := fun v978 k0_hw352 => k0_hw352

def k0_chk357 (v970 : IVec S16 32) : Prop :=
  (∀ a x, ((![v970] : Fin 1 → IVec S16 32) a x).toNat < S1280.size a)
theorem k0_idx473_inb : ∀ (v970 : IVec S16 32) (k0_hw357 : k0_chk357 v970), ∀ a x, ((![v970] : Fin 1 → IVec S16 32) a x).toNat < S1280.size a := fun v970 k0_hw357 => k0_hw357

def k0_chk353 (v982 : IVec S16 32) : Prop :=
  (∀ a x, ((![v982] : Fin 1 → IVec S16 32) a x).toNat < S19456.size a) ∧
  (∀ a x, ((![v982] : Fin 1 → IVec S16 32) a x).toNat < S19456.size a)
theorem k0_idx469_inb : ∀ (v982 : IVec S16 32) (k0_hw353 : k0_chk353 v982), ∀ a x, ((![v982] : Fin 1 → IVec S16 32) a x).toNat < S19456.size a := fun v982 k0_hw353 => k0_hw353.1
theorem k0_idx474_inb : ∀ (v982 : IVec S16 32) (k0_hw353 : k0_chk353 v982), ∀ a x, ((![v982] : Fin 1 → IVec S16 32) a x).toNat < S19456.size a := fun v982 k0_hw353 => k0_hw353.2

def k0_chk358 (v973 : IVec S16 32) : Prop :=
  (∀ a x, ((![v973] : Fin 1 → IVec S16 32) a x).toNat < S1280.size a)
theorem k0_idx475_inb : ∀ (v973 : IVec S16 32) (k0_hw358 : k0_chk358 v973), ∀ a x, ((![v973] : Fin 1 → IVec S16 32) a x).toNat < S1280.size a := fun v973 k0_hw358 => k0_hw358

def k0_chk354 (v985 : IVec S16 32) : Prop :=
  (∀ a x, ((![v985] : Fin 1 → IVec S16 32) a x).toNat < S19456.size a) ∧
  (∀ a x, ((![v985] : Fin 1 → IVec S16 32) a x).toNat < S19456.size a)
theorem k0_idx470_inb : ∀ (v985 : IVec S16 32) (k0_hw354 : k0_chk354 v985), ∀ a x, ((![v985] : Fin 1 → IVec S16 32) a x).toNat < S19456.size a := fun v985 k0_hw354 => k0_hw354.1
theorem k0_idx476_inb : ∀ (v985 : IVec S16 32) (k0_hw354 : k0_chk354 v985), ∀ a x, ((![v985] : Fin 1 → IVec S16 32) a x).toNat < S19456.size a := fun v985 k0_hw354 => k0_hw354.2

def k0_chk359 (v976 : IVec S16 32) : Prop :=
  (∀ a x, ((![v976] : Fin 1 → IVec S16 32) a x).toNat < S1280.size a)
theorem k0_idx477_inb : ∀ (v976 : IVec S16 32) (k0_hw359 : k0_chk359 v976), ∀ a x, ((![v976] : Fin 1 → IVec S16 32) a x).toNat < S1280.size a := fun v976 k0_hw359 => k0_hw359

def k0_chk355 (v988 : IVec S16 32) : Prop :=
  (∀ a x, ((![v988] : Fin 1 → IVec S16 32) a x).toNat < S19456.size a) ∧
  (∀ a x, ((![v988] : Fin 1 → IVec S16 32) a x).toNat < S19456.size a)
theorem k0_idx471_inb : ∀ (v988 : IVec S16 32) (k0_hw355 : k0_chk355 v988), ∀ a x, ((![v988] : Fin 1 → IVec S16 32) a x).toNat < S19456.size a := fun v988 k0_hw355 => k0_hw355.1
theorem k0_idx478_inb : ∀ (v988 : IVec S16 32) (k0_hw355 : k0_chk355 v988), ∀ a x, ((![v988] : Fin 1 → IVec S16 32) a x).toNat < S19456.size a := fun v988 k0_hw355 => k0_hw355.2

def k0_chk360 (v979 : IVec S16 32) : Prop :=
  (∀ a x, ((![v979] : Fin 1 → IVec S16 32) a x).toNat < S1280.size a)
theorem k0_idx479_inb : ∀ (v979 : IVec S16 32) (k0_hw360 : k0_chk360 v979), ∀ a x, ((![v979] : Fin 1 → IVec S16 32) a x).toNat < S1280.size a := fun v979 k0_hw360 => k0_hw360

def k0_chk356 (v991 : IVec S16 32) : Prop :=
  (∀ a x, ((![v991] : Fin 1 → IVec S16 32) a x).toNat < S19456.size a) ∧
  (∀ a x, ((![v991] : Fin 1 → IVec S16 32) a x).toNat < S19456.size a)
theorem k0_idx472_inb : ∀ (v991 : IVec S16 32) (k0_hw356 : k0_chk356 v991), ∀ a x, ((![v991] : Fin 1 → IVec S16 32) a x).toNat < S19456.size a := fun v991 k0_hw356 => k0_hw356.1
theorem k0_idx480_inb : ∀ (v991 : IVec S16 32) (k0_hw356 : k0_chk356 v991), ∀ a x, ((![v991] : Fin 1 → IVec S16 32) a x).toNat < S19456.size a := fun v991 k0_hw356 => k0_hw356.2

def k0_chk361 (v1001 : IVec S16 32) : Prop :=
  (∀ a x, ((![v1001] : Fin 1 → IVec S16 32) a x).toNat < S25600.size a)
theorem k0_idx481_inb : ∀ (v1001 : IVec S16 32) (k0_hw361 : k0_chk361 v1001), ∀ a x, ((![v1001] : Fin 1 → IVec S16 32) a x).toNat < S25600.size a := fun v1001 k0_hw361 => k0_hw361

def k0_chk362 (v1004 : IVec S16 32) : Prop :=
  (∀ a x, ((![v1004] : Fin 1 → IVec S16 32) a x).toNat < S25600.size a)
theorem k0_idx482_inb : ∀ (v1004 : IVec S16 32) (k0_hw362 : k0_chk362 v1004), ∀ a x, ((![v1004] : Fin 1 → IVec S16 32) a x).toNat < S25600.size a := fun v1004 k0_hw362 => k0_hw362

def k0_chk363 (v1007 : IVec S16 32) : Prop :=
  (∀ a x, ((![v1007] : Fin 1 → IVec S16 32) a x).toNat < S25600.size a)
theorem k0_idx483_inb : ∀ (v1007 : IVec S16 32) (k0_hw363 : k0_chk363 v1007), ∀ a x, ((![v1007] : Fin 1 → IVec S16 32) a x).toNat < S25600.size a := fun v1007 k0_hw363 => k0_hw363

def k0_chk364 (v1010 : IVec S16 32) : Prop :=
  (∀ a x, ((![v1010] : Fin 1 → IVec S16 32) a x).toNat < S25600.size a)
theorem k0_idx484_inb : ∀ (v1010 : IVec S16 32) (k0_hw364 : k0_chk364 v1010), ∀ a x, ((![v1010] : Fin 1 → IVec S16 32) a x).toNat < S25600.size a := fun v1010 k0_hw364 => k0_hw364

def k0_chk369 (v1002 : IVec S16 32) : Prop :=
  (∀ a x, ((![v1002] : Fin 1 → IVec S16 32) a x).toNat < S1280.size a)
theorem k0_idx489_inb : ∀ (v1002 : IVec S16 32) (k0_hw369 : k0_chk369 v1002), ∀ a x, ((![v1002] : Fin 1 → IVec S16 32) a x).toNat < S1280.size a := fun v1002 k0_hw369 => k0_hw369

def k0_chk365 (v1014 : IVec S16 32) : Prop :=
  (∀ a x, ((![v1014] : Fin 1 → IVec S16 32) a x).toNat < S19456.size a) ∧
  (∀ a x, ((![v1014] : Fin 1 → IVec S16 32) a x).toNat < S19456.size a)
theorem k0_idx485_inb : ∀ (v1014 : IVec S16 32) (k0_hw365 : k0_chk365 v1014), ∀ a x, ((![v1014] : Fin 1 → IVec S16 32) a x).toNat < S19456.size a := fun v1014 k0_hw365 => k0_hw365.1
theorem k0_idx490_inb : ∀ (v1014 : IVec S16 32) (k0_hw365 : k0_chk365 v1014), ∀ a x, ((![v1014] : Fin 1 → IVec S16 32) a x).toNat < S19456.size a := fun v1014 k0_hw365 => k0_hw365.2

def k0_chk370 (v1005 : IVec S16 32) : Prop :=
  (∀ a x, ((![v1005] : Fin 1 → IVec S16 32) a x).toNat < S1280.size a)
theorem k0_idx491_inb : ∀ (v1005 : IVec S16 32) (k0_hw370 : k0_chk370 v1005), ∀ a x, ((![v1005] : Fin 1 → IVec S16 32) a x).toNat < S1280.size a := fun v1005 k0_hw370 => k0_hw370

def k0_chk366 (v1017 : IVec S16 32) : Prop :=
  (∀ a x, ((![v1017] : Fin 1 → IVec S16 32) a x).toNat < S19456.size a) ∧
  (∀ a x, ((![v1017] : Fin 1 → IVec S16 32) a x).toNat < S19456.size a)
theorem k0_idx486_inb : ∀ (v1017 : IVec S16 32) (k0_hw366 : k0_chk366 v1017), ∀ a x, ((![v1017] : Fin 1 → IVec S16 32) a x).toNat < S19456.size a := fun v1017 k0_hw366 => k0_hw366.1
theorem k0_idx492_inb : ∀ (v1017 : IVec S16 32) (k0_hw366 : k0_chk366 v1017), ∀ a x, ((![v1017] : Fin 1 → IVec S16 32) a x).toNat < S19456.size a := fun v1017 k0_hw366 => k0_hw366.2

def k0_chk371 (v1008 : IVec S16 32) : Prop :=
  (∀ a x, ((![v1008] : Fin 1 → IVec S16 32) a x).toNat < S1280.size a)
theorem k0_idx493_inb : ∀ (v1008 : IVec S16 32) (k0_hw371 : k0_chk371 v1008), ∀ a x, ((![v1008] : Fin 1 → IVec S16 32) a x).toNat < S1280.size a := fun v1008 k0_hw371 => k0_hw371

def k0_chk367 (v1020 : IVec S16 32) : Prop :=
  (∀ a x, ((![v1020] : Fin 1 → IVec S16 32) a x).toNat < S19456.size a) ∧
  (∀ a x, ((![v1020] : Fin 1 → IVec S16 32) a x).toNat < S19456.size a)
theorem k0_idx487_inb : ∀ (v1020 : IVec S16 32) (k0_hw367 : k0_chk367 v1020), ∀ a x, ((![v1020] : Fin 1 → IVec S16 32) a x).toNat < S19456.size a := fun v1020 k0_hw367 => k0_hw367.1
theorem k0_idx494_inb : ∀ (v1020 : IVec S16 32) (k0_hw367 : k0_chk367 v1020), ∀ a x, ((![v1020] : Fin 1 → IVec S16 32) a x).toNat < S19456.size a := fun v1020 k0_hw367 => k0_hw367.2

def k0_chk372 (v1011 : IVec S16 32) : Prop :=
  (∀ a x, ((![v1011] : Fin 1 → IVec S16 32) a x).toNat < S1280.size a)
theorem k0_idx495_inb : ∀ (v1011 : IVec S16 32) (k0_hw372 : k0_chk372 v1011), ∀ a x, ((![v1011] : Fin 1 → IVec S16 32) a x).toNat < S1280.size a := fun v1011 k0_hw372 => k0_hw372

def k0_chk368 (v1023 : IVec S16 32) : Prop :=
  (∀ a x, ((![v1023] : Fin 1 → IVec S16 32) a x).toNat < S19456.size a) ∧
  (∀ a x, ((![v1023] : Fin 1 → IVec S16 32) a x).toNat < S19456.size a)
theorem k0_idx488_inb : ∀ (v1023 : IVec S16 32) (k0_hw368 : k0_chk368 v1023), ∀ a x, ((![v1023] : Fin 1 → IVec S16 32) a x).toNat < S19456.size a := fun v1023 k0_hw368 => k0_hw368.1
theorem k0_idx496_inb : ∀ (v1023 : IVec S16 32) (k0_hw368 : k0_chk368 v1023), ∀ a x, ((![v1023] : Fin 1 → IVec S16 32) a x).toNat < S19456.size a := fun v1023 k0_hw368 => k0_hw368.2

def k0_chk373 (v1033 : IVec S16 32) : Prop :=
  (∀ a x, ((![v1033] : Fin 1 → IVec S16 32) a x).toNat < S25600.size a)
theorem k0_idx497_inb : ∀ (v1033 : IVec S16 32) (k0_hw373 : k0_chk373 v1033), ∀ a x, ((![v1033] : Fin 1 → IVec S16 32) a x).toNat < S25600.size a := fun v1033 k0_hw373 => k0_hw373

def k0_chk374 (v1036 : IVec S16 32) : Prop :=
  (∀ a x, ((![v1036] : Fin 1 → IVec S16 32) a x).toNat < S25600.size a)
theorem k0_idx498_inb : ∀ (v1036 : IVec S16 32) (k0_hw374 : k0_chk374 v1036), ∀ a x, ((![v1036] : Fin 1 → IVec S16 32) a x).toNat < S25600.size a := fun v1036 k0_hw374 => k0_hw374

def k0_chk375 (v1039 : IVec S16 32) : Prop :=
  (∀ a x, ((![v1039] : Fin 1 → IVec S16 32) a x).toNat < S25600.size a)
theorem k0_idx499_inb : ∀ (v1039 : IVec S16 32) (k0_hw375 : k0_chk375 v1039), ∀ a x, ((![v1039] : Fin 1 → IVec S16 32) a x).toNat < S25600.size a := fun v1039 k0_hw375 => k0_hw375

def k0_chk376 (v1042 : IVec S16 32) : Prop :=
  (∀ a x, ((![v1042] : Fin 1 → IVec S16 32) a x).toNat < S25600.size a)
theorem k0_idx500_inb : ∀ (v1042 : IVec S16 32) (k0_hw376 : k0_chk376 v1042), ∀ a x, ((![v1042] : Fin 1 → IVec S16 32) a x).toNat < S25600.size a := fun v1042 k0_hw376 => k0_hw376

def k0_chk381 (v1034 : IVec S16 32) : Prop :=
  (∀ a x, ((![v1034] : Fin 1 → IVec S16 32) a x).toNat < S1280.size a)
theorem k0_idx505_inb : ∀ (v1034 : IVec S16 32) (k0_hw381 : k0_chk381 v1034), ∀ a x, ((![v1034] : Fin 1 → IVec S16 32) a x).toNat < S1280.size a := fun v1034 k0_hw381 => k0_hw381

def k0_chk377 (v1046 : IVec S16 32) : Prop :=
  (∀ a x, ((![v1046] : Fin 1 → IVec S16 32) a x).toNat < S19456.size a) ∧
  (∀ a x, ((![v1046] : Fin 1 → IVec S16 32) a x).toNat < S19456.size a)
theorem k0_idx501_inb : ∀ (v1046 : IVec S16 32) (k0_hw377 : k0_chk377 v1046), ∀ a x, ((![v1046] : Fin 1 → IVec S16 32) a x).toNat < S19456.size a := fun v1046 k0_hw377 => k0_hw377.1
theorem k0_idx506_inb : ∀ (v1046 : IVec S16 32) (k0_hw377 : k0_chk377 v1046), ∀ a x, ((![v1046] : Fin 1 → IVec S16 32) a x).toNat < S19456.size a := fun v1046 k0_hw377 => k0_hw377.2

def k0_chk382 (v1037 : IVec S16 32) : Prop :=
  (∀ a x, ((![v1037] : Fin 1 → IVec S16 32) a x).toNat < S1280.size a)
theorem k0_idx507_inb : ∀ (v1037 : IVec S16 32) (k0_hw382 : k0_chk382 v1037), ∀ a x, ((![v1037] : Fin 1 → IVec S16 32) a x).toNat < S1280.size a := fun v1037 k0_hw382 => k0_hw382

def k0_chk378 (v1049 : IVec S16 32) : Prop :=
  (∀ a x, ((![v1049] : Fin 1 → IVec S16 32) a x).toNat < S19456.size a) ∧
  (∀ a x, ((![v1049] : Fin 1 → IVec S16 32) a x).toNat < S19456.size a)
theorem k0_idx502_inb : ∀ (v1049 : IVec S16 32) (k0_hw378 : k0_chk378 v1049), ∀ a x, ((![v1049] : Fin 1 → IVec S16 32) a x).toNat < S19456.size a := fun v1049 k0_hw378 => k0_hw378.1
theorem k0_idx508_inb : ∀ (v1049 : IVec S16 32) (k0_hw378 : k0_chk378 v1049), ∀ a x, ((![v1049] : Fin 1 → IVec S16 32) a x).toNat < S19456.size a := fun v1049 k0_hw378 => k0_hw378.2

def k0_chk383 (v1040 : IVec S16 32) : Prop :=
  (∀ a x, ((![v1040] : Fin 1 → IVec S16 32) a x).toNat < S1280.size a)
theorem k0_idx509_inb : ∀ (v1040 : IVec S16 32) (k0_hw383 : k0_chk383 v1040), ∀ a x, ((![v1040] : Fin 1 → IVec S16 32) a x).toNat < S1280.size a := fun v1040 k0_hw383 => k0_hw383

def k0_chk379 (v1052 : IVec S16 32) : Prop :=
  (∀ a x, ((![v1052] : Fin 1 → IVec S16 32) a x).toNat < S19456.size a) ∧
  (∀ a x, ((![v1052] : Fin 1 → IVec S16 32) a x).toNat < S19456.size a)
theorem k0_idx503_inb : ∀ (v1052 : IVec S16 32) (k0_hw379 : k0_chk379 v1052), ∀ a x, ((![v1052] : Fin 1 → IVec S16 32) a x).toNat < S19456.size a := fun v1052 k0_hw379 => k0_hw379.1
theorem k0_idx510_inb : ∀ (v1052 : IVec S16 32) (k0_hw379 : k0_chk379 v1052), ∀ a x, ((![v1052] : Fin 1 → IVec S16 32) a x).toNat < S19456.size a := fun v1052 k0_hw379 => k0_hw379.2

def k0_chk384 (v1043 : IVec S16 32) : Prop :=
  (∀ a x, ((![v1043] : Fin 1 → IVec S16 32) a x).toNat < S1280.size a)
theorem k0_idx511_inb : ∀ (v1043 : IVec S16 32) (k0_hw384 : k0_chk384 v1043), ∀ a x, ((![v1043] : Fin 1 → IVec S16 32) a x).toNat < S1280.size a := fun v1043 k0_hw384 => k0_hw384

def k0_chk380 (v1055 : IVec S16 32) : Prop :=
  (∀ a x, ((![v1055] : Fin 1 → IVec S16 32) a x).toNat < S19456.size a) ∧
  (∀ a x, ((![v1055] : Fin 1 → IVec S16 32) a x).toNat < S19456.size a)
theorem k0_idx504_inb : ∀ (v1055 : IVec S16 32) (k0_hw380 : k0_chk380 v1055), ∀ a x, ((![v1055] : Fin 1 → IVec S16 32) a x).toNat < S19456.size a := fun v1055 k0_hw380 => k0_hw380.1
theorem k0_idx512_inb : ∀ (v1055 : IVec S16 32) (k0_hw380 : k0_chk380 v1055), ∀ a x, ((![v1055] : Fin 1 → IVec S16 32) a x).toNat < S19456.size a := fun v1055 k0_hw380 => k0_hw380.2

def k0_chk385 (v1065 : IVec S16 32) : Prop :=
  (∀ a x, ((![v1065] : Fin 1 → IVec S16 32) a x).toNat < S25600.size a)
theorem k0_idx513_inb : ∀ (v1065 : IVec S16 32) (k0_hw385 : k0_chk385 v1065), ∀ a x, ((![v1065] : Fin 1 → IVec S16 32) a x).toNat < S25600.size a := fun v1065 k0_hw385 => k0_hw385

def k0_chk386 (v1068 : IVec S16 32) : Prop :=
  (∀ a x, ((![v1068] : Fin 1 → IVec S16 32) a x).toNat < S25600.size a)
theorem k0_idx514_inb : ∀ (v1068 : IVec S16 32) (k0_hw386 : k0_chk386 v1068), ∀ a x, ((![v1068] : Fin 1 → IVec S16 32) a x).toNat < S25600.size a := fun v1068 k0_hw386 => k0_hw386

def k0_chk387 (v1071 : IVec S16 32) : Prop :=
  (∀ a x, ((![v1071] : Fin 1 → IVec S16 32) a x).toNat < S25600.size a)
theorem k0_idx515_inb : ∀ (v1071 : IVec S16 32) (k0_hw387 : k0_chk387 v1071), ∀ a x, ((![v1071] : Fin 1 → IVec S16 32) a x).toNat < S25600.size a := fun v1071 k0_hw387 => k0_hw387

def k0_chk388 (v1074 : IVec S16 32) : Prop :=
  (∀ a x, ((![v1074] : Fin 1 → IVec S16 32) a x).toNat < S25600.size a)
theorem k0_idx516_inb : ∀ (v1074 : IVec S16 32) (k0_hw388 : k0_chk388 v1074), ∀ a x, ((![v1074] : Fin 1 → IVec S16 32) a x).toNat < S25600.size a := fun v1074 k0_hw388 => k0_hw388

def k0_chk393 (v1066 : IVec S16 32) : Prop :=
  (∀ a x, ((![v1066] : Fin 1 → IVec S16 32) a x).toNat < S1280.size a)
theorem k0_idx521_inb : ∀ (v1066 : IVec S16 32) (k0_hw393 : k0_chk393 v1066), ∀ a x, ((![v1066] : Fin 1 → IVec S16 32) a x).toNat < S1280.size a := fun v1066 k0_hw393 => k0_hw393

def k0_chk389 (v1078 : IVec S16 32) : Prop :=
  (∀ a x, ((![v1078] : Fin 1 → IVec S16 32) a x).toNat < S19456.size a) ∧
  (∀ a x, ((![v1078] : Fin 1 → IVec S16 32) a x).toNat < S19456.size a)
theorem k0_idx517_inb : ∀ (v1078 : IVec S16 32) (k0_hw389 : k0_chk389 v1078), ∀ a x, ((![v1078] : Fin 1 → IVec S16 32) a x).toNat < S19456.size a := fun v1078 k0_hw389 => k0_hw389.1
theorem k0_idx522_inb : ∀ (v1078 : IVec S16 32) (k0_hw389 : k0_chk389 v1078), ∀ a x, ((![v1078] : Fin 1 → IVec S16 32) a x).toNat < S19456.size a := fun v1078 k0_hw389 => k0_hw389.2

def k0_chk394 (v1069 : IVec S16 32) : Prop :=
  (∀ a x, ((![v1069] : Fin 1 → IVec S16 32) a x).toNat < S1280.size a)
theorem k0_idx523_inb : ∀ (v1069 : IVec S16 32) (k0_hw394 : k0_chk394 v1069), ∀ a x, ((![v1069] : Fin 1 → IVec S16 32) a x).toNat < S1280.size a := fun v1069 k0_hw394 => k0_hw394

def k0_chk390 (v1081 : IVec S16 32) : Prop :=
  (∀ a x, ((![v1081] : Fin 1 → IVec S16 32) a x).toNat < S19456.size a) ∧
  (∀ a x, ((![v1081] : Fin 1 → IVec S16 32) a x).toNat < S19456.size a)
theorem k0_idx518_inb : ∀ (v1081 : IVec S16 32) (k0_hw390 : k0_chk390 v1081), ∀ a x, ((![v1081] : Fin 1 → IVec S16 32) a x).toNat < S19456.size a := fun v1081 k0_hw390 => k0_hw390.1
theorem k0_idx524_inb : ∀ (v1081 : IVec S16 32) (k0_hw390 : k0_chk390 v1081), ∀ a x, ((![v1081] : Fin 1 → IVec S16 32) a x).toNat < S19456.size a := fun v1081 k0_hw390 => k0_hw390.2

def k0_chk395 (v1072 : IVec S16 32) : Prop :=
  (∀ a x, ((![v1072] : Fin 1 → IVec S16 32) a x).toNat < S1280.size a)
theorem k0_idx525_inb : ∀ (v1072 : IVec S16 32) (k0_hw395 : k0_chk395 v1072), ∀ a x, ((![v1072] : Fin 1 → IVec S16 32) a x).toNat < S1280.size a := fun v1072 k0_hw395 => k0_hw395

def k0_chk391 (v1084 : IVec S16 32) : Prop :=
  (∀ a x, ((![v1084] : Fin 1 → IVec S16 32) a x).toNat < S19456.size a) ∧
  (∀ a x, ((![v1084] : Fin 1 → IVec S16 32) a x).toNat < S19456.size a)
theorem k0_idx519_inb : ∀ (v1084 : IVec S16 32) (k0_hw391 : k0_chk391 v1084), ∀ a x, ((![v1084] : Fin 1 → IVec S16 32) a x).toNat < S19456.size a := fun v1084 k0_hw391 => k0_hw391.1
theorem k0_idx526_inb : ∀ (v1084 : IVec S16 32) (k0_hw391 : k0_chk391 v1084), ∀ a x, ((![v1084] : Fin 1 → IVec S16 32) a x).toNat < S19456.size a := fun v1084 k0_hw391 => k0_hw391.2

def k0_chk396 (v1075 : IVec S16 32) : Prop :=
  (∀ a x, ((![v1075] : Fin 1 → IVec S16 32) a x).toNat < S1280.size a)
theorem k0_idx527_inb : ∀ (v1075 : IVec S16 32) (k0_hw396 : k0_chk396 v1075), ∀ a x, ((![v1075] : Fin 1 → IVec S16 32) a x).toNat < S1280.size a := fun v1075 k0_hw396 => k0_hw396

def k0_chk392 (v1087 : IVec S16 32) : Prop :=
  (∀ a x, ((![v1087] : Fin 1 → IVec S16 32) a x).toNat < S19456.size a) ∧
  (∀ a x, ((![v1087] : Fin 1 → IVec S16 32) a x).toNat < S19456.size a)
theorem k0_idx520_inb : ∀ (v1087 : IVec S16 32) (k0_hw392 : k0_chk392 v1087), ∀ a x, ((![v1087] : Fin 1 → IVec S16 32) a x).toNat < S19456.size a := fun v1087 k0_hw392 => k0_hw392.1
theorem k0_idx528_inb : ∀ (v1087 : IVec S16 32) (k0_hw392 : k0_chk392 v1087), ∀ a x, ((![v1087] : Fin 1 → IVec S16 32) a x).toNat < S19456.size a := fun v1087 k0_hw392 => k0_hw392.2

def k0_chk397 (v1097 : IVec S16 32) : Prop :=
  (∀ a x, ((![v1097] : Fin 1 → IVec S16 32) a x).toNat < S25600.size a)
theorem k0_idx529_inb : ∀ (v1097 : IVec S16 32) (k0_hw397 : k0_chk397 v1097), ∀ a x, ((![v1097] : Fin 1 → IVec S16 32) a x).toNat < S25600.size a := fun v1097 k0_hw397 => k0_hw397

def k0_chk398 (v1100 : IVec S16 32) : Prop :=
  (∀ a x, ((![v1100] : Fin 1 → IVec S16 32) a x).toNat < S25600.size a)
theorem k0_idx530_inb : ∀ (v1100 : IVec S16 32) (k0_hw398 : k0_chk398 v1100), ∀ a x, ((![v1100] : Fin 1 → IVec S16 32) a x).toNat < S25600.size a := fun v1100 k0_hw398 => k0_hw398

def k0_chk399 (v1103 : IVec S16 32) : Prop :=
  (∀ a x, ((![v1103] : Fin 1 → IVec S16 32) a x).toNat < S25600.size a)
theorem k0_idx531_inb : ∀ (v1103 : IVec S16 32) (k0_hw399 : k0_chk399 v1103), ∀ a x, ((![v1103] : Fin 1 → IVec S16 32) a x).toNat < S25600.size a := fun v1103 k0_hw399 => k0_hw399

def k0_chk400 (v1106 : IVec S16 32) : Prop :=
  (∀ a x, ((![v1106] : Fin 1 → IVec S16 32) a x).toNat < S25600.size a)
theorem k0_idx532_inb : ∀ (v1106 : IVec S16 32) (k0_hw400 : k0_chk400 v1106), ∀ a x, ((![v1106] : Fin 1 → IVec S16 32) a x).toNat < S25600.size a := fun v1106 k0_hw400 => k0_hw400

def k0_chk405 (v1098 : IVec S16 32) : Prop :=
  (∀ a x, ((![v1098] : Fin 1 → IVec S16 32) a x).toNat < S1280.size a)
theorem k0_idx537_inb : ∀ (v1098 : IVec S16 32) (k0_hw405 : k0_chk405 v1098), ∀ a x, ((![v1098] : Fin 1 → IVec S16 32) a x).toNat < S1280.size a := fun v1098 k0_hw405 => k0_hw405

def k0_chk401 (v1110 : IVec S16 32) : Prop :=
  (∀ a x, ((![v1110] : Fin 1 → IVec S16 32) a x).toNat < S19456.size a) ∧
  (∀ a x, ((![v1110] : Fin 1 → IVec S16 32) a x).toNat < S19456.size a)
theorem k0_idx533_inb : ∀ (v1110 : IVec S16 32) (k0_hw401 : k0_chk401 v1110), ∀ a x, ((![v1110] : Fin 1 → IVec S16 32) a x).toNat < S19456.size a := fun v1110 k0_hw401 => k0_hw401.1
theorem k0_idx538_inb : ∀ (v1110 : IVec S16 32) (k0_hw401 : k0_chk401 v1110), ∀ a x, ((![v1110] : Fin 1 → IVec S16 32) a x).toNat < S19456.size a := fun v1110 k0_hw401 => k0_hw401.2

def k0_chk406 (v1101 : IVec S16 32) : Prop :=
  (∀ a x, ((![v1101] : Fin 1 → IVec S16 32) a x).toNat < S1280.size a)
theorem k0_idx539_inb : ∀ (v1101 : IVec S16 32) (k0_hw406 : k0_chk406 v1101), ∀ a x, ((![v1101] : Fin 1 → IVec S16 32) a x).toNat < S1280.size a := fun v1101 k0_hw406 => k0_hw406

def k0_chk402 (v1113 : IVec S16 32) : Prop :=
  (∀ a x, ((![v1113] : Fin 1 → IVec S16 32) a x).toNat < S19456.size a) ∧
  (∀ a x, ((![v1113] : Fin 1 → IVec S16 32) a x).toNat < S19456.size a)
theorem k0_idx534_inb : ∀ (v1113 : IVec S16 32) (k0_hw402 : k0_chk402 v1113), ∀ a x, ((![v1113] : Fin 1 → IVec S16 32) a x).toNat < S19456.size a := fun v1113 k0_hw402 => k0_hw402.1
theorem k0_idx540_inb : ∀ (v1113 : IVec S16 32) (k0_hw402 : k0_chk402 v1113), ∀ a x, ((![v1113] : Fin 1 → IVec S16 32) a x).toNat < S19456.size a := fun v1113 k0_hw402 => k0_hw402.2

def k0_chk407 (v1104 : IVec S16 32) : Prop :=
  (∀ a x, ((![v1104] : Fin 1 → IVec S16 32) a x).toNat < S1280.size a)
theorem k0_idx541_inb : ∀ (v1104 : IVec S16 32) (k0_hw407 : k0_chk407 v1104), ∀ a x, ((![v1104] : Fin 1 → IVec S16 32) a x).toNat < S1280.size a := fun v1104 k0_hw407 => k0_hw407

def k0_chk403 (v1116 : IVec S16 32) : Prop :=
  (∀ a x, ((![v1116] : Fin 1 → IVec S16 32) a x).toNat < S19456.size a) ∧
  (∀ a x, ((![v1116] : Fin 1 → IVec S16 32) a x).toNat < S19456.size a)
theorem k0_idx535_inb : ∀ (v1116 : IVec S16 32) (k0_hw403 : k0_chk403 v1116), ∀ a x, ((![v1116] : Fin 1 → IVec S16 32) a x).toNat < S19456.size a := fun v1116 k0_hw403 => k0_hw403.1
theorem k0_idx542_inb : ∀ (v1116 : IVec S16 32) (k0_hw403 : k0_chk403 v1116), ∀ a x, ((![v1116] : Fin 1 → IVec S16 32) a x).toNat < S19456.size a := fun v1116 k0_hw403 => k0_hw403.2

def k0_chk408 (v1107 : IVec S16 32) : Prop :=
  (∀ a x, ((![v1107] : Fin 1 → IVec S16 32) a x).toNat < S1280.size a)
theorem k0_idx543_inb : ∀ (v1107 : IVec S16 32) (k0_hw408 : k0_chk408 v1107), ∀ a x, ((![v1107] : Fin 1 → IVec S16 32) a x).toNat < S1280.size a := fun v1107 k0_hw408 => k0_hw408

def k0_chk404 (v1119 : IVec S16 32) : Prop :=
  (∀ a x, ((![v1119] : Fin 1 → IVec S16 32) a x).toNat < S19456.size a) ∧
  (∀ a x, ((![v1119] : Fin 1 → IVec S16 32) a x).toNat < S19456.size a)
theorem k0_idx536_inb : ∀ (v1119 : IVec S16 32) (k0_hw404 : k0_chk404 v1119), ∀ a x, ((![v1119] : Fin 1 → IVec S16 32) a x).toNat < S19456.size a := fun v1119 k0_hw404 => k0_hw404.1
theorem k0_idx544_inb : ∀ (v1119 : IVec S16 32) (k0_hw404 : k0_chk404 v1119), ∀ a x, ((![v1119] : Fin 1 → IVec S16 32) a x).toNat < S19456.size a := fun v1119 k0_hw404 => k0_hw404.2

def k0_chk409 (v1129 : IVec S16 32) : Prop :=
  (∀ a x, ((![v1129] : Fin 1 → IVec S16 32) a x).toNat < S25600.size a)
theorem k0_idx545_inb : ∀ (v1129 : IVec S16 32) (k0_hw409 : k0_chk409 v1129), ∀ a x, ((![v1129] : Fin 1 → IVec S16 32) a x).toNat < S25600.size a := fun v1129 k0_hw409 => k0_hw409

def k0_chk410 (v1132 : IVec S16 32) : Prop :=
  (∀ a x, ((![v1132] : Fin 1 → IVec S16 32) a x).toNat < S25600.size a)
theorem k0_idx546_inb : ∀ (v1132 : IVec S16 32) (k0_hw410 : k0_chk410 v1132), ∀ a x, ((![v1132] : Fin 1 → IVec S16 32) a x).toNat < S25600.size a := fun v1132 k0_hw410 => k0_hw410

def k0_chk411 (v1135 : IVec S16 32) : Prop :=
  (∀ a x, ((![v1135] : Fin 1 → IVec S16 32) a x).toNat < S25600.size a)
theorem k0_idx547_inb : ∀ (v1135 : IVec S16 32) (k0_hw411 : k0_chk411 v1135), ∀ a x, ((![v1135] : Fin 1 → IVec S16 32) a x).toNat < S25600.size a := fun v1135 k0_hw411 => k0_hw411

def k0_chk412 (v1138 : IVec S16 32) : Prop :=
  (∀ a x, ((![v1138] : Fin 1 → IVec S16 32) a x).toNat < S25600.size a)
theorem k0_idx548_inb : ∀ (v1138 : IVec S16 32) (k0_hw412 : k0_chk412 v1138), ∀ a x, ((![v1138] : Fin 1 → IVec S16 32) a x).toNat < S25600.size a := fun v1138 k0_hw412 => k0_hw412

def k0_chk417 (v1130 : IVec S16 32) : Prop :=
  (∀ a x, ((![v1130] : Fin 1 → IVec S16 32) a x).toNat < S1280.size a)
theorem k0_idx553_inb : ∀ (v1130 : IVec S16 32) (k0_hw417 : k0_chk417 v1130), ∀ a x, ((![v1130] : Fin 1 → IVec S16 32) a x).toNat < S1280.size a := fun v1130 k0_hw417 => k0_hw417

def k0_chk413 (v1142 : IVec S16 32) : Prop :=
  (∀ a x, ((![v1142] : Fin 1 → IVec S16 32) a x).toNat < S19456.size a) ∧
  (∀ a x, ((![v1142] : Fin 1 → IVec S16 32) a x).toNat < S19456.size a)
theorem k0_idx549_inb : ∀ (v1142 : IVec S16 32) (k0_hw413 : k0_chk413 v1142), ∀ a x, ((![v1142] : Fin 1 → IVec S16 32) a x).toNat < S19456.size a := fun v1142 k0_hw413 => k0_hw413.1
theorem k0_idx554_inb : ∀ (v1142 : IVec S16 32) (k0_hw413 : k0_chk413 v1142), ∀ a x, ((![v1142] : Fin 1 → IVec S16 32) a x).toNat < S19456.size a := fun v1142 k0_hw413 => k0_hw413.2

def k0_chk418 (v1133 : IVec S16 32) : Prop :=
  (∀ a x, ((![v1133] : Fin 1 → IVec S16 32) a x).toNat < S1280.size a)
theorem k0_idx555_inb : ∀ (v1133 : IVec S16 32) (k0_hw418 : k0_chk418 v1133), ∀ a x, ((![v1133] : Fin 1 → IVec S16 32) a x).toNat < S1280.size a := fun v1133 k0_hw418 => k0_hw418

def k0_chk414 (v1145 : IVec S16 32) : Prop :=
  (∀ a x, ((![v1145] : Fin 1 → IVec S16 32) a x).toNat < S19456.size a) ∧
  (∀ a x, ((![v1145] : Fin 1 → IVec S16 32) a x).toNat < S19456.size a)
theorem k0_idx550_inb : ∀ (v1145 : IVec S16 32) (k0_hw414 : k0_chk414 v1145), ∀ a x, ((![v1145] : Fin 1 → IVec S16 32) a x).toNat < S19456.size a := fun v1145 k0_hw414 => k0_hw414.1
theorem k0_idx556_inb : ∀ (v1145 : IVec S16 32) (k0_hw414 : k0_chk414 v1145), ∀ a x, ((![v1145] : Fin 1 → IVec S16 32) a x).toNat < S19456.size a := fun v1145 k0_hw414 => k0_hw414.2

def k0_chk419 (v1136 : IVec S16 32) : Prop :=
  (∀ a x, ((![v1136] : Fin 1 → IVec S16 32) a x).toNat < S1280.size a)
theorem k0_idx557_inb : ∀ (v1136 : IVec S16 32) (k0_hw419 : k0_chk419 v1136), ∀ a x, ((![v1136] : Fin 1 → IVec S16 32) a x).toNat < S1280.size a := fun v1136 k0_hw419 => k0_hw419

def k0_chk415 (v1148 : IVec S16 32) : Prop :=
  (∀ a x, ((![v1148] : Fin 1 → IVec S16 32) a x).toNat < S19456.size a) ∧
  (∀ a x, ((![v1148] : Fin 1 → IVec S16 32) a x).toNat < S19456.size a)
theorem k0_idx551_inb : ∀ (v1148 : IVec S16 32) (k0_hw415 : k0_chk415 v1148), ∀ a x, ((![v1148] : Fin 1 → IVec S16 32) a x).toNat < S19456.size a := fun v1148 k0_hw415 => k0_hw415.1
theorem k0_idx558_inb : ∀ (v1148 : IVec S16 32) (k0_hw415 : k0_chk415 v1148), ∀ a x, ((![v1148] : Fin 1 → IVec S16 32) a x).toNat < S19456.size a := fun v1148 k0_hw415 => k0_hw415.2

def k0_chk420 (v1139 : IVec S16 32) : Prop :=
  (∀ a x, ((![v1139] : Fin 1 → IVec S16 32) a x).toNat < S1280.size a)
theorem k0_idx559_inb : ∀ (v1139 : IVec S16 32) (k0_hw420 : k0_chk420 v1139), ∀ a x, ((![v1139] : Fin 1 → IVec S16 32) a x).toNat < S1280.size a := fun v1139 k0_hw420 => k0_hw420

def k0_chk416 (v1151 : IVec S16 32) : Prop :=
  (∀ a x, ((![v1151] : Fin 1 → IVec S16 32) a x).toNat < S19456.size a) ∧
  (∀ a x, ((![v1151] : Fin 1 → IVec S16 32) a x).toNat < S19456.size a)
theorem k0_idx552_inb : ∀ (v1151 : IVec S16 32) (k0_hw416 : k0_chk416 v1151), ∀ a x, ((![v1151] : Fin 1 → IVec S16 32) a x).toNat < S19456.size a := fun v1151 k0_hw416 => k0_hw416.1
theorem k0_idx560_inb : ∀ (v1151 : IVec S16 32) (k0_hw416 : k0_chk416 v1151), ∀ a x, ((![v1151] : Fin 1 → IVec S16 32) a x).toNat < S19456.size a := fun v1151 k0_hw416 => k0_hw416.2

def k0_chk421 (v1161 : IVec S16 32) : Prop :=
  (∀ a x, ((![v1161] : Fin 1 → IVec S16 32) a x).toNat < S25600.size a)
theorem k0_idx561_inb : ∀ (v1161 : IVec S16 32) (k0_hw421 : k0_chk421 v1161), ∀ a x, ((![v1161] : Fin 1 → IVec S16 32) a x).toNat < S25600.size a := fun v1161 k0_hw421 => k0_hw421

def k0_chk422 (v1164 : IVec S16 32) : Prop :=
  (∀ a x, ((![v1164] : Fin 1 → IVec S16 32) a x).toNat < S25600.size a)
theorem k0_idx562_inb : ∀ (v1164 : IVec S16 32) (k0_hw422 : k0_chk422 v1164), ∀ a x, ((![v1164] : Fin 1 → IVec S16 32) a x).toNat < S25600.size a := fun v1164 k0_hw422 => k0_hw422

def k0_chk423 (v1167 : IVec S16 32) : Prop :=
  (∀ a x, ((![v1167] : Fin 1 → IVec S16 32) a x).toNat < S25600.size a)
theorem k0_idx563_inb : ∀ (v1167 : IVec S16 32) (k0_hw423 : k0_chk423 v1167), ∀ a x, ((![v1167] : Fin 1 → IVec S16 32) a x).toNat < S25600.size a := fun v1167 k0_hw423 => k0_hw423

def k0_chk424 (v1170 : IVec S16 32) : Prop :=
  (∀ a x, ((![v1170] : Fin 1 → IVec S16 32) a x).toNat < S25600.size a)
theorem k0_idx564_inb : ∀ (v1170 : IVec S16 32) (k0_hw424 : k0_chk424 v1170), ∀ a x, ((![v1170] : Fin 1 → IVec S16 32) a x).toNat < S25600.size a := fun v1170 k0_hw424 => k0_hw424

def k0_chk429 (v1162 : IVec S16 32) : Prop :=
  (∀ a x, ((![v1162] : Fin 1 → IVec S16 32) a x).toNat < S1280.size a)
theorem k0_idx569_inb : ∀ (v1162 : IVec S16 32) (k0_hw429 : k0_chk429 v1162), ∀ a x, ((![v1162] : Fin 1 → IVec S16 32) a x).toNat < S1280.size a := fun v1162 k0_hw429 => k0_hw429

def k0_chk425 (v1174 : IVec S16 32) : Prop :=
  (∀ a x, ((![v1174] : Fin 1 → IVec S16 32) a x).toNat < S19456.size a) ∧
  (∀ a x, ((![v1174] : Fin 1 → IVec S16 32) a x).toNat < S19456.size a)
theorem k0_idx565_inb : ∀ (v1174 : IVec S16 32) (k0_hw425 : k0_chk425 v1174), ∀ a x, ((![v1174] : Fin 1 → IVec S16 32) a x).toNat < S19456.size a := fun v1174 k0_hw425 => k0_hw425.1
theorem k0_idx570_inb : ∀ (v1174 : IVec S16 32) (k0_hw425 : k0_chk425 v1174), ∀ a x, ((![v1174] : Fin 1 → IVec S16 32) a x).toNat < S19456.size a := fun v1174 k0_hw425 => k0_hw425.2

def k0_chk430 (v1165 : IVec S16 32) : Prop :=
  (∀ a x, ((![v1165] : Fin 1 → IVec S16 32) a x).toNat < S1280.size a)
theorem k0_idx571_inb : ∀ (v1165 : IVec S16 32) (k0_hw430 : k0_chk430 v1165), ∀ a x, ((![v1165] : Fin 1 → IVec S16 32) a x).toNat < S1280.size a := fun v1165 k0_hw430 => k0_hw430

def k0_chk426 (v1177 : IVec S16 32) : Prop :=
  (∀ a x, ((![v1177] : Fin 1 → IVec S16 32) a x).toNat < S19456.size a) ∧
  (∀ a x, ((![v1177] : Fin 1 → IVec S16 32) a x).toNat < S19456.size a)
theorem k0_idx566_inb : ∀ (v1177 : IVec S16 32) (k0_hw426 : k0_chk426 v1177), ∀ a x, ((![v1177] : Fin 1 → IVec S16 32) a x).toNat < S19456.size a := fun v1177 k0_hw426 => k0_hw426.1
theorem k0_idx572_inb : ∀ (v1177 : IVec S16 32) (k0_hw426 : k0_chk426 v1177), ∀ a x, ((![v1177] : Fin 1 → IVec S16 32) a x).toNat < S19456.size a := fun v1177 k0_hw426 => k0_hw426.2

def k0_chk431 (v1168 : IVec S16 32) : Prop :=
  (∀ a x, ((![v1168] : Fin 1 → IVec S16 32) a x).toNat < S1280.size a)
theorem k0_idx573_inb : ∀ (v1168 : IVec S16 32) (k0_hw431 : k0_chk431 v1168), ∀ a x, ((![v1168] : Fin 1 → IVec S16 32) a x).toNat < S1280.size a := fun v1168 k0_hw431 => k0_hw431

def k0_chk427 (v1180 : IVec S16 32) : Prop :=
  (∀ a x, ((![v1180] : Fin 1 → IVec S16 32) a x).toNat < S19456.size a) ∧
  (∀ a x, ((![v1180] : Fin 1 → IVec S16 32) a x).toNat < S19456.size a)
theorem k0_idx567_inb : ∀ (v1180 : IVec S16 32) (k0_hw427 : k0_chk427 v1180), ∀ a x, ((![v1180] : Fin 1 → IVec S16 32) a x).toNat < S19456.size a := fun v1180 k0_hw427 => k0_hw427.1
theorem k0_idx574_inb : ∀ (v1180 : IVec S16 32) (k0_hw427 : k0_chk427 v1180), ∀ a x, ((![v1180] : Fin 1 → IVec S16 32) a x).toNat < S19456.size a := fun v1180 k0_hw427 => k0_hw427.2

def k0_chk432 (v1171 : IVec S16 32) : Prop :=
  (∀ a x, ((![v1171] : Fin 1 → IVec S16 32) a x).toNat < S1280.size a)
theorem k0_idx575_inb : ∀ (v1171 : IVec S16 32) (k0_hw432 : k0_chk432 v1171), ∀ a x, ((![v1171] : Fin 1 → IVec S16 32) a x).toNat < S1280.size a := fun v1171 k0_hw432 => k0_hw432

def k0_chk428 (v1183 : IVec S16 32) : Prop :=
  (∀ a x, ((![v1183] : Fin 1 → IVec S16 32) a x).toNat < S19456.size a) ∧
  (∀ a x, ((![v1183] : Fin 1 → IVec S16 32) a x).toNat < S19456.size a)
theorem k0_idx568_inb : ∀ (v1183 : IVec S16 32) (k0_hw428 : k0_chk428 v1183), ∀ a x, ((![v1183] : Fin 1 → IVec S16 32) a x).toNat < S19456.size a := fun v1183 k0_hw428 => k0_hw428.1
theorem k0_idx576_inb : ∀ (v1183 : IVec S16 32) (k0_hw428 : k0_chk428 v1183), ∀ a x, ((![v1183] : Fin 1 → IVec S16 32) a x).toNat < S19456.size a := fun v1183 k0_hw428 => k0_hw428.2

def k0_chk433 (v1193 : IVec S16 32) : Prop :=
  (∀ a x, ((![v1193] : Fin 1 → IVec S16 32) a x).toNat < S25600.size a)
theorem k0_idx577_inb : ∀ (v1193 : IVec S16 32) (k0_hw433 : k0_chk433 v1193), ∀ a x, ((![v1193] : Fin 1 → IVec S16 32) a x).toNat < S25600.size a := fun v1193 k0_hw433 => k0_hw433

def k0_chk434 (v1196 : IVec S16 32) : Prop :=
  (∀ a x, ((![v1196] : Fin 1 → IVec S16 32) a x).toNat < S25600.size a)
theorem k0_idx578_inb : ∀ (v1196 : IVec S16 32) (k0_hw434 : k0_chk434 v1196), ∀ a x, ((![v1196] : Fin 1 → IVec S16 32) a x).toNat < S25600.size a := fun v1196 k0_hw434 => k0_hw434

def k0_chk435 (v1199 : IVec S16 32) : Prop :=
  (∀ a x, ((![v1199] : Fin 1 → IVec S16 32) a x).toNat < S25600.size a)
theorem k0_idx579_inb : ∀ (v1199 : IVec S16 32) (k0_hw435 : k0_chk435 v1199), ∀ a x, ((![v1199] : Fin 1 → IVec S16 32) a x).toNat < S25600.size a := fun v1199 k0_hw435 => k0_hw435

def k0_chk436 (v1202 : IVec S16 32) : Prop :=
  (∀ a x, ((![v1202] : Fin 1 → IVec S16 32) a x).toNat < S25600.size a)
theorem k0_idx580_inb : ∀ (v1202 : IVec S16 32) (k0_hw436 : k0_chk436 v1202), ∀ a x, ((![v1202] : Fin 1 → IVec S16 32) a x).toNat < S25600.size a := fun v1202 k0_hw436 => k0_hw436

def k0_chk441 (v1194 : IVec S16 32) : Prop :=
  (∀ a x, ((![v1194] : Fin 1 → IVec S16 32) a x).toNat < S1280.size a)
theorem k0_idx585_inb : ∀ (v1194 : IVec S16 32) (k0_hw441 : k0_chk441 v1194), ∀ a x, ((![v1194] : Fin 1 → IVec S16 32) a x).toNat < S1280.size a := fun v1194 k0_hw441 => k0_hw441

def k0_chk437 (v1206 : IVec S16 32) : Prop :=
  (∀ a x, ((![v1206] : Fin 1 → IVec S16 32) a x).toNat < S19456.size a) ∧
  (∀ a x, ((![v1206] : Fin 1 → IVec S16 32) a x).toNat < S19456.size a)
theorem k0_idx581_inb : ∀ (v1206 : IVec S16 32) (k0_hw437 : k0_chk437 v1206), ∀ a x, ((![v1206] : Fin 1 → IVec S16 32) a x).toNat < S19456.size a := fun v1206 k0_hw437 => k0_hw437.1
theorem k0_idx586_inb : ∀ (v1206 : IVec S16 32) (k0_hw437 : k0_chk437 v1206), ∀ a x, ((![v1206] : Fin 1 → IVec S16 32) a x).toNat < S19456.size a := fun v1206 k0_hw437 => k0_hw437.2

def k0_chk442 (v1197 : IVec S16 32) : Prop :=
  (∀ a x, ((![v1197] : Fin 1 → IVec S16 32) a x).toNat < S1280.size a)
theorem k0_idx587_inb : ∀ (v1197 : IVec S16 32) (k0_hw442 : k0_chk442 v1197), ∀ a x, ((![v1197] : Fin 1 → IVec S16 32) a x).toNat < S1280.size a := fun v1197 k0_hw442 => k0_hw442

def k0_chk438 (v1209 : IVec S16 32) : Prop :=
  (∀ a x, ((![v1209] : Fin 1 → IVec S16 32) a x).toNat < S19456.size a) ∧
  (∀ a x, ((![v1209] : Fin 1 → IVec S16 32) a x).toNat < S19456.size a)
theorem k0_idx582_inb : ∀ (v1209 : IVec S16 32) (k0_hw438 : k0_chk438 v1209), ∀ a x, ((![v1209] : Fin 1 → IVec S16 32) a x).toNat < S19456.size a := fun v1209 k0_hw438 => k0_hw438.1
theorem k0_idx588_inb : ∀ (v1209 : IVec S16 32) (k0_hw438 : k0_chk438 v1209), ∀ a x, ((![v1209] : Fin 1 → IVec S16 32) a x).toNat < S19456.size a := fun v1209 k0_hw438 => k0_hw438.2

def k0_chk443 (v1200 : IVec S16 32) : Prop :=
  (∀ a x, ((![v1200] : Fin 1 → IVec S16 32) a x).toNat < S1280.size a)
theorem k0_idx589_inb : ∀ (v1200 : IVec S16 32) (k0_hw443 : k0_chk443 v1200), ∀ a x, ((![v1200] : Fin 1 → IVec S16 32) a x).toNat < S1280.size a := fun v1200 k0_hw443 => k0_hw443

def k0_chk439 (v1212 : IVec S16 32) : Prop :=
  (∀ a x, ((![v1212] : Fin 1 → IVec S16 32) a x).toNat < S19456.size a) ∧
  (∀ a x, ((![v1212] : Fin 1 → IVec S16 32) a x).toNat < S19456.size a)
theorem k0_idx583_inb : ∀ (v1212 : IVec S16 32) (k0_hw439 : k0_chk439 v1212), ∀ a x, ((![v1212] : Fin 1 → IVec S16 32) a x).toNat < S19456.size a := fun v1212 k0_hw439 => k0_hw439.1
theorem k0_idx590_inb : ∀ (v1212 : IVec S16 32) (k0_hw439 : k0_chk439 v1212), ∀ a x, ((![v1212] : Fin 1 → IVec S16 32) a x).toNat < S19456.size a := fun v1212 k0_hw439 => k0_hw439.2

def k0_chk444 (v1203 : IVec S16 32) : Prop :=
  (∀ a x, ((![v1203] : Fin 1 → IVec S16 32) a x).toNat < S1280.size a)
theorem k0_idx591_inb : ∀ (v1203 : IVec S16 32) (k0_hw444 : k0_chk444 v1203), ∀ a x, ((![v1203] : Fin 1 → IVec S16 32) a x).toNat < S1280.size a := fun v1203 k0_hw444 => k0_hw444

def k0_chk440 (v1215 : IVec S16 32) : Prop :=
  (∀ a x, ((![v1215] : Fin 1 → IVec S16 32) a x).toNat < S19456.size a) ∧
  (∀ a x, ((![v1215] : Fin 1 → IVec S16 32) a x).toNat < S19456.size a)
theorem k0_idx584_inb : ∀ (v1215 : IVec S16 32) (k0_hw440 : k0_chk440 v1215), ∀ a x, ((![v1215] : Fin 1 → IVec S16 32) a x).toNat < S19456.size a := fun v1215 k0_hw440 => k0_hw440.1
theorem k0_idx592_inb : ∀ (v1215 : IVec S16 32) (k0_hw440 : k0_chk440 v1215), ∀ a x, ((![v1215] : Fin 1 → IVec S16 32) a x).toNat < S19456.size a := fun v1215 k0_hw440 => k0_hw440.2

def k0_chk445 (v1225 : IVec S16 32) : Prop :=
  (∀ a x, ((![v1225] : Fin 1 → IVec S16 32) a x).toNat < S25600.size a)
theorem k0_idx593_inb : ∀ (v1225 : IVec S16 32) (k0_hw445 : k0_chk445 v1225), ∀ a x, ((![v1225] : Fin 1 → IVec S16 32) a x).toNat < S25600.size a := fun v1225 k0_hw445 => k0_hw445

def k0_chk446 (v1228 : IVec S16 32) : Prop :=
  (∀ a x, ((![v1228] : Fin 1 → IVec S16 32) a x).toNat < S25600.size a)
theorem k0_idx594_inb : ∀ (v1228 : IVec S16 32) (k0_hw446 : k0_chk446 v1228), ∀ a x, ((![v1228] : Fin 1 → IVec S16 32) a x).toNat < S25600.size a := fun v1228 k0_hw446 => k0_hw446

def k0_chk447 (v1231 : IVec S16 32) : Prop :=
  (∀ a x, ((![v1231] : Fin 1 → IVec S16 32) a x).toNat < S25600.size a)
theorem k0_idx595_inb : ∀ (v1231 : IVec S16 32) (k0_hw447 : k0_chk447 v1231), ∀ a x, ((![v1231] : Fin 1 → IVec S16 32) a x).toNat < S25600.size a := fun v1231 k0_hw447 => k0_hw447

def k0_chk448 (v1234 : IVec S16 32) : Prop :=
  (∀ a x, ((![v1234] : Fin 1 → IVec S16 32) a x).toNat < S25600.size a)
theorem k0_idx596_inb : ∀ (v1234 : IVec S16 32) (k0_hw448 : k0_chk448 v1234), ∀ a x, ((![v1234] : Fin 1 → IVec S16 32) a x).toNat < S25600.size a := fun v1234 k0_hw448 => k0_hw448

def k0_chk453 (v1226 : IVec S16 32) : Prop :=
  (∀ a x, ((![v1226] : Fin 1 → IVec S16 32) a x).toNat < S1280.size a)
theorem k0_idx601_inb : ∀ (v1226 : IVec S16 32) (k0_hw453 : k0_chk453 v1226), ∀ a x, ((![v1226] : Fin 1 → IVec S16 32) a x).toNat < S1280.size a := fun v1226 k0_hw453 => k0_hw453

def k0_chk449 (v1238 : IVec S16 32) : Prop :=
  (∀ a x, ((![v1238] : Fin 1 → IVec S16 32) a x).toNat < S19456.size a) ∧
  (∀ a x, ((![v1238] : Fin 1 → IVec S16 32) a x).toNat < S19456.size a)
theorem k0_idx597_inb : ∀ (v1238 : IVec S16 32) (k0_hw449 : k0_chk449 v1238), ∀ a x, ((![v1238] : Fin 1 → IVec S16 32) a x).toNat < S19456.size a := fun v1238 k0_hw449 => k0_hw449.1
theorem k0_idx602_inb : ∀ (v1238 : IVec S16 32) (k0_hw449 : k0_chk449 v1238), ∀ a x, ((![v1238] : Fin 1 → IVec S16 32) a x).toNat < S19456.size a := fun v1238 k0_hw449 => k0_hw449.2

def k0_chk454 (v1229 : IVec S16 32) : Prop :=
  (∀ a x, ((![v1229] : Fin 1 → IVec S16 32) a x).toNat < S1280.size a)
theorem k0_idx603_inb : ∀ (v1229 : IVec S16 32) (k0_hw454 : k0_chk454 v1229), ∀ a x, ((![v1229] : Fin 1 → IVec S16 32) a x).toNat < S1280.size a := fun v1229 k0_hw454 => k0_hw454

def k0_chk450 (v1241 : IVec S16 32) : Prop :=
  (∀ a x, ((![v1241] : Fin 1 → IVec S16 32) a x).toNat < S19456.size a) ∧
  (∀ a x, ((![v1241] : Fin 1 → IVec S16 32) a x).toNat < S19456.size a)
theorem k0_idx598_inb : ∀ (v1241 : IVec S16 32) (k0_hw450 : k0_chk450 v1241), ∀ a x, ((![v1241] : Fin 1 → IVec S16 32) a x).toNat < S19456.size a := fun v1241 k0_hw450 => k0_hw450.1
theorem k0_idx604_inb : ∀ (v1241 : IVec S16 32) (k0_hw450 : k0_chk450 v1241), ∀ a x, ((![v1241] : Fin 1 → IVec S16 32) a x).toNat < S19456.size a := fun v1241 k0_hw450 => k0_hw450.2

def k0_chk455 (v1232 : IVec S16 32) : Prop :=
  (∀ a x, ((![v1232] : Fin 1 → IVec S16 32) a x).toNat < S1280.size a)
theorem k0_idx605_inb : ∀ (v1232 : IVec S16 32) (k0_hw455 : k0_chk455 v1232), ∀ a x, ((![v1232] : Fin 1 → IVec S16 32) a x).toNat < S1280.size a := fun v1232 k0_hw455 => k0_hw455

def k0_chk451 (v1244 : IVec S16 32) : Prop :=
  (∀ a x, ((![v1244] : Fin 1 → IVec S16 32) a x).toNat < S19456.size a) ∧
  (∀ a x, ((![v1244] : Fin 1 → IVec S16 32) a x).toNat < S19456.size a)
theorem k0_idx599_inb : ∀ (v1244 : IVec S16 32) (k0_hw451 : k0_chk451 v1244), ∀ a x, ((![v1244] : Fin 1 → IVec S16 32) a x).toNat < S19456.size a := fun v1244 k0_hw451 => k0_hw451.1
theorem k0_idx606_inb : ∀ (v1244 : IVec S16 32) (k0_hw451 : k0_chk451 v1244), ∀ a x, ((![v1244] : Fin 1 → IVec S16 32) a x).toNat < S19456.size a := fun v1244 k0_hw451 => k0_hw451.2

def k0_chk456 (v1235 : IVec S16 32) : Prop :=
  (∀ a x, ((![v1235] : Fin 1 → IVec S16 32) a x).toNat < S1280.size a)
theorem k0_idx607_inb : ∀ (v1235 : IVec S16 32) (k0_hw456 : k0_chk456 v1235), ∀ a x, ((![v1235] : Fin 1 → IVec S16 32) a x).toNat < S1280.size a := fun v1235 k0_hw456 => k0_hw456

def k0_chk452 (v1247 : IVec S16 32) : Prop :=
  (∀ a x, ((![v1247] : Fin 1 → IVec S16 32) a x).toNat < S19456.size a) ∧
  (∀ a x, ((![v1247] : Fin 1 → IVec S16 32) a x).toNat < S19456.size a)
theorem k0_idx600_inb : ∀ (v1247 : IVec S16 32) (k0_hw452 : k0_chk452 v1247), ∀ a x, ((![v1247] : Fin 1 → IVec S16 32) a x).toNat < S19456.size a := fun v1247 k0_hw452 => k0_hw452.1
theorem k0_idx608_inb : ∀ (v1247 : IVec S16 32) (k0_hw452 : k0_chk452 v1247), ∀ a x, ((![v1247] : Fin 1 → IVec S16 32) a x).toNat < S19456.size a := fun v1247 k0_hw452 => k0_hw452.2

def k0_chk457 (v1257 : IVec S16 32) : Prop :=
  (∀ a x, ((![v1257] : Fin 1 → IVec S16 32) a x).toNat < S25600.size a)
theorem k0_idx609_inb : ∀ (v1257 : IVec S16 32) (k0_hw457 : k0_chk457 v1257), ∀ a x, ((![v1257] : Fin 1 → IVec S16 32) a x).toNat < S25600.size a := fun v1257 k0_hw457 => k0_hw457

def k0_chk458 (v1260 : IVec S16 32) : Prop :=
  (∀ a x, ((![v1260] : Fin 1 → IVec S16 32) a x).toNat < S25600.size a)
theorem k0_idx610_inb : ∀ (v1260 : IVec S16 32) (k0_hw458 : k0_chk458 v1260), ∀ a x, ((![v1260] : Fin 1 → IVec S16 32) a x).toNat < S25600.size a := fun v1260 k0_hw458 => k0_hw458

def k0_chk459 (v1263 : IVec S16 32) : Prop :=
  (∀ a x, ((![v1263] : Fin 1 → IVec S16 32) a x).toNat < S25600.size a)
theorem k0_idx611_inb : ∀ (v1263 : IVec S16 32) (k0_hw459 : k0_chk459 v1263), ∀ a x, ((![v1263] : Fin 1 → IVec S16 32) a x).toNat < S25600.size a := fun v1263 k0_hw459 => k0_hw459

def k0_chk460 (v1266 : IVec S16 32) : Prop :=
  (∀ a x, ((![v1266] : Fin 1 → IVec S16 32) a x).toNat < S25600.size a)
theorem k0_idx612_inb : ∀ (v1266 : IVec S16 32) (k0_hw460 : k0_chk460 v1266), ∀ a x, ((![v1266] : Fin 1 → IVec S16 32) a x).toNat < S25600.size a := fun v1266 k0_hw460 => k0_hw460

def k0_chk465 (v1258 : IVec S16 32) : Prop :=
  (∀ a x, ((![v1258] : Fin 1 → IVec S16 32) a x).toNat < S1280.size a)
theorem k0_idx617_inb : ∀ (v1258 : IVec S16 32) (k0_hw465 : k0_chk465 v1258), ∀ a x, ((![v1258] : Fin 1 → IVec S16 32) a x).toNat < S1280.size a := fun v1258 k0_hw465 => k0_hw465

def k0_chk461 (v1270 : IVec S16 32) : Prop :=
  (∀ a x, ((![v1270] : Fin 1 → IVec S16 32) a x).toNat < S19456.size a) ∧
  (∀ a x, ((![v1270] : Fin 1 → IVec S16 32) a x).toNat < S19456.size a)
theorem k0_idx613_inb : ∀ (v1270 : IVec S16 32) (k0_hw461 : k0_chk461 v1270), ∀ a x, ((![v1270] : Fin 1 → IVec S16 32) a x).toNat < S19456.size a := fun v1270 k0_hw461 => k0_hw461.1
theorem k0_idx618_inb : ∀ (v1270 : IVec S16 32) (k0_hw461 : k0_chk461 v1270), ∀ a x, ((![v1270] : Fin 1 → IVec S16 32) a x).toNat < S19456.size a := fun v1270 k0_hw461 => k0_hw461.2

def k0_chk466 (v1261 : IVec S16 32) : Prop :=
  (∀ a x, ((![v1261] : Fin 1 → IVec S16 32) a x).toNat < S1280.size a)
theorem k0_idx619_inb : ∀ (v1261 : IVec S16 32) (k0_hw466 : k0_chk466 v1261), ∀ a x, ((![v1261] : Fin 1 → IVec S16 32) a x).toNat < S1280.size a := fun v1261 k0_hw466 => k0_hw466

def k0_chk462 (v1273 : IVec S16 32) : Prop :=
  (∀ a x, ((![v1273] : Fin 1 → IVec S16 32) a x).toNat < S19456.size a) ∧
  (∀ a x, ((![v1273] : Fin 1 → IVec S16 32) a x).toNat < S19456.size a)
theorem k0_idx614_inb : ∀ (v1273 : IVec S16 32) (k0_hw462 : k0_chk462 v1273), ∀ a x, ((![v1273] : Fin 1 → IVec S16 32) a x).toNat < S19456.size a := fun v1273 k0_hw462 => k0_hw462.1
theorem k0_idx620_inb : ∀ (v1273 : IVec S16 32) (k0_hw462 : k0_chk462 v1273), ∀ a x, ((![v1273] : Fin 1 → IVec S16 32) a x).toNat < S19456.size a := fun v1273 k0_hw462 => k0_hw462.2

def k0_chk467 (v1264 : IVec S16 32) : Prop :=
  (∀ a x, ((![v1264] : Fin 1 → IVec S16 32) a x).toNat < S1280.size a)
theorem k0_idx621_inb : ∀ (v1264 : IVec S16 32) (k0_hw467 : k0_chk467 v1264), ∀ a x, ((![v1264] : Fin 1 → IVec S16 32) a x).toNat < S1280.size a := fun v1264 k0_hw467 => k0_hw467

def k0_chk463 (v1276 : IVec S16 32) : Prop :=
  (∀ a x, ((![v1276] : Fin 1 → IVec S16 32) a x).toNat < S19456.size a) ∧
  (∀ a x, ((![v1276] : Fin 1 → IVec S16 32) a x).toNat < S19456.size a)
theorem k0_idx615_inb : ∀ (v1276 : IVec S16 32) (k0_hw463 : k0_chk463 v1276), ∀ a x, ((![v1276] : Fin 1 → IVec S16 32) a x).toNat < S19456.size a := fun v1276 k0_hw463 => k0_hw463.1
theorem k0_idx622_inb : ∀ (v1276 : IVec S16 32) (k0_hw463 : k0_chk463 v1276), ∀ a x, ((![v1276] : Fin 1 → IVec S16 32) a x).toNat < S19456.size a := fun v1276 k0_hw463 => k0_hw463.2

def k0_chk468 (v1267 : IVec S16 32) : Prop :=
  (∀ a x, ((![v1267] : Fin 1 → IVec S16 32) a x).toNat < S1280.size a)
theorem k0_idx623_inb : ∀ (v1267 : IVec S16 32) (k0_hw468 : k0_chk468 v1267), ∀ a x, ((![v1267] : Fin 1 → IVec S16 32) a x).toNat < S1280.size a := fun v1267 k0_hw468 => k0_hw468

def k0_chk464 (v1279 : IVec S16 32) : Prop :=
  (∀ a x, ((![v1279] : Fin 1 → IVec S16 32) a x).toNat < S19456.size a) ∧
  (∀ a x, ((![v1279] : Fin 1 → IVec S16 32) a x).toNat < S19456.size a)
theorem k0_idx616_inb : ∀ (v1279 : IVec S16 32) (k0_hw464 : k0_chk464 v1279), ∀ a x, ((![v1279] : Fin 1 → IVec S16 32) a x).toNat < S19456.size a := fun v1279 k0_hw464 => k0_hw464.1
theorem k0_idx624_inb : ∀ (v1279 : IVec S16 32) (k0_hw464 : k0_chk464 v1279), ∀ a x, ((![v1279] : Fin 1 → IVec S16 32) a x).toNat < S19456.size a := fun v1279 k0_hw464 => k0_hw464.2

def k0_chk469 (v1289 : IVec S16 32) : Prop :=
  (∀ a x, ((![v1289] : Fin 1 → IVec S16 32) a x).toNat < S25600.size a)
theorem k0_idx625_inb : ∀ (v1289 : IVec S16 32) (k0_hw469 : k0_chk469 v1289), ∀ a x, ((![v1289] : Fin 1 → IVec S16 32) a x).toNat < S25600.size a := fun v1289 k0_hw469 => k0_hw469

def k0_chk470 (v1292 : IVec S16 32) : Prop :=
  (∀ a x, ((![v1292] : Fin 1 → IVec S16 32) a x).toNat < S25600.size a)
theorem k0_idx626_inb : ∀ (v1292 : IVec S16 32) (k0_hw470 : k0_chk470 v1292), ∀ a x, ((![v1292] : Fin 1 → IVec S16 32) a x).toNat < S25600.size a := fun v1292 k0_hw470 => k0_hw470

def k0_chk471 (v1295 : IVec S16 32) : Prop :=
  (∀ a x, ((![v1295] : Fin 1 → IVec S16 32) a x).toNat < S25600.size a)
theorem k0_idx627_inb : ∀ (v1295 : IVec S16 32) (k0_hw471 : k0_chk471 v1295), ∀ a x, ((![v1295] : Fin 1 → IVec S16 32) a x).toNat < S25600.size a := fun v1295 k0_hw471 => k0_hw471

def k0_chk472 (v1298 : IVec S16 32) : Prop :=
  (∀ a x, ((![v1298] : Fin 1 → IVec S16 32) a x).toNat < S25600.size a)
theorem k0_idx628_inb : ∀ (v1298 : IVec S16 32) (k0_hw472 : k0_chk472 v1298), ∀ a x, ((![v1298] : Fin 1 → IVec S16 32) a x).toNat < S25600.size a := fun v1298 k0_hw472 => k0_hw472

def k0_chk477 (v1290 : IVec S16 32) : Prop :=
  (∀ a x, ((![v1290] : Fin 1 → IVec S16 32) a x).toNat < S1280.size a)
theorem k0_idx633_inb : ∀ (v1290 : IVec S16 32) (k0_hw477 : k0_chk477 v1290), ∀ a x, ((![v1290] : Fin 1 → IVec S16 32) a x).toNat < S1280.size a := fun v1290 k0_hw477 => k0_hw477

def k0_chk473 (v1302 : IVec S16 32) : Prop :=
  (∀ a x, ((![v1302] : Fin 1 → IVec S16 32) a x).toNat < S19456.size a) ∧
  (∀ a x, ((![v1302] : Fin 1 → IVec S16 32) a x).toNat < S19456.size a)
theorem k0_idx629_inb : ∀ (v1302 : IVec S16 32) (k0_hw473 : k0_chk473 v1302), ∀ a x, ((![v1302] : Fin 1 → IVec S16 32) a x).toNat < S19456.size a := fun v1302 k0_hw473 => k0_hw473.1
theorem k0_idx634_inb : ∀ (v1302 : IVec S16 32) (k0_hw473 : k0_chk473 v1302), ∀ a x, ((![v1302] : Fin 1 → IVec S16 32) a x).toNat < S19456.size a := fun v1302 k0_hw473 => k0_hw473.2

def k0_chk478 (v1293 : IVec S16 32) : Prop :=
  (∀ a x, ((![v1293] : Fin 1 → IVec S16 32) a x).toNat < S1280.size a)
theorem k0_idx635_inb : ∀ (v1293 : IVec S16 32) (k0_hw478 : k0_chk478 v1293), ∀ a x, ((![v1293] : Fin 1 → IVec S16 32) a x).toNat < S1280.size a := fun v1293 k0_hw478 => k0_hw478

def k0_chk474 (v1305 : IVec S16 32) : Prop :=
  (∀ a x, ((![v1305] : Fin 1 → IVec S16 32) a x).toNat < S19456.size a) ∧
  (∀ a x, ((![v1305] : Fin 1 → IVec S16 32) a x).toNat < S19456.size a)
theorem k0_idx630_inb : ∀ (v1305 : IVec S16 32) (k0_hw474 : k0_chk474 v1305), ∀ a x, ((![v1305] : Fin 1 → IVec S16 32) a x).toNat < S19456.size a := fun v1305 k0_hw474 => k0_hw474.1
theorem k0_idx636_inb : ∀ (v1305 : IVec S16 32) (k0_hw474 : k0_chk474 v1305), ∀ a x, ((![v1305] : Fin 1 → IVec S16 32) a x).toNat < S19456.size a := fun v1305 k0_hw474 => k0_hw474.2

def k0_chk479 (v1296 : IVec S16 32) : Prop :=
  (∀ a x, ((![v1296] : Fin 1 → IVec S16 32) a x).toNat < S1280.size a)
theorem k0_idx637_inb : ∀ (v1296 : IVec S16 32) (k0_hw479 : k0_chk479 v1296), ∀ a x, ((![v1296] : Fin 1 → IVec S16 32) a x).toNat < S1280.size a := fun v1296 k0_hw479 => k0_hw479

def k0_chk475 (v1308 : IVec S16 32) : Prop :=
  (∀ a x, ((![v1308] : Fin 1 → IVec S16 32) a x).toNat < S19456.size a) ∧
  (∀ a x, ((![v1308] : Fin 1 → IVec S16 32) a x).toNat < S19456.size a)
theorem k0_idx631_inb : ∀ (v1308 : IVec S16 32) (k0_hw475 : k0_chk475 v1308), ∀ a x, ((![v1308] : Fin 1 → IVec S16 32) a x).toNat < S19456.size a := fun v1308 k0_hw475 => k0_hw475.1
theorem k0_idx638_inb : ∀ (v1308 : IVec S16 32) (k0_hw475 : k0_chk475 v1308), ∀ a x, ((![v1308] : Fin 1 → IVec S16 32) a x).toNat < S19456.size a := fun v1308 k0_hw475 => k0_hw475.2

def k0_chk480 (v1299 : IVec S16 32) : Prop :=
  (∀ a x, ((![v1299] : Fin 1 → IVec S16 32) a x).toNat < S1280.size a)
theorem k0_idx639_inb : ∀ (v1299 : IVec S16 32) (k0_hw480 : k0_chk480 v1299), ∀ a x, ((![v1299] : Fin 1 → IVec S16 32) a x).toNat < S1280.size a := fun v1299 k0_hw480 => k0_hw480

def k0_chk476 (v1311 : IVec S16 32) : Prop :=
  (∀ a x, ((![v1311] : Fin 1 → IVec S16 32) a x).toNat < S19456.size a) ∧
  (∀ a x, ((![v1311] : Fin 1 → IVec S16 32) a x).toNat < S19456.size a)
theorem k0_idx632_inb : ∀ (v1311 : IVec S16 32) (k0_hw476 : k0_chk476 v1311), ∀ a x, ((![v1311] : Fin 1 → IVec S16 32) a x).toNat < S19456.size a := fun v1311 k0_hw476 => k0_hw476.1
theorem k0_idx640_inb : ∀ (v1311 : IVec S16 32) (k0_hw476 : k0_chk476 v1311), ∀ a x, ((![v1311] : Fin 1 → IVec S16 32) a x).toNat < S19456.size a := fun v1311 k0_hw476 => k0_hw476.2

def k0_chk481 (v1321 : IVec S16 32) : Prop :=
  (∀ a x, ((![v1321] : Fin 1 → IVec S16 32) a x).toNat < S25600.size a)
theorem k0_idx641_inb : ∀ (v1321 : IVec S16 32) (k0_hw481 : k0_chk481 v1321), ∀ a x, ((![v1321] : Fin 1 → IVec S16 32) a x).toNat < S25600.size a := fun v1321 k0_hw481 => k0_hw481

def k0_chk482 (v1324 : IVec S16 32) : Prop :=
  (∀ a x, ((![v1324] : Fin 1 → IVec S16 32) a x).toNat < S25600.size a)
theorem k0_idx642_inb : ∀ (v1324 : IVec S16 32) (k0_hw482 : k0_chk482 v1324), ∀ a x, ((![v1324] : Fin 1 → IVec S16 32) a x).toNat < S25600.size a := fun v1324 k0_hw482 => k0_hw482

def k0_chk483 (v1327 : IVec S16 32) : Prop :=
  (∀ a x, ((![v1327] : Fin 1 → IVec S16 32) a x).toNat < S25600.size a)
theorem k0_idx643_inb : ∀ (v1327 : IVec S16 32) (k0_hw483 : k0_chk483 v1327), ∀ a x, ((![v1327] : Fin 1 → IVec S16 32) a x).toNat < S25600.size a := fun v1327 k0_hw483 => k0_hw483

def k0_chk484 (v1330 : IVec S16 32) : Prop :=
  (∀ a x, ((![v1330] : Fin 1 → IVec S16 32) a x).toNat < S25600.size a)
theorem k0_idx644_inb : ∀ (v1330 : IVec S16 32) (k0_hw484 : k0_chk484 v1330), ∀ a x, ((![v1330] : Fin 1 → IVec S16 32) a x).toNat < S25600.size a := fun v1330 k0_hw484 => k0_hw484

def k0_chk489 (v1322 : IVec S16 32) : Prop :=
  (∀ a x, ((![v1322] : Fin 1 → IVec S16 32) a x).toNat < S1280.size a)
theorem k0_idx649_inb : ∀ (v1322 : IVec S16 32) (k0_hw489 : k0_chk489 v1322), ∀ a x, ((![v1322] : Fin 1 → IVec S16 32) a x).toNat < S1280.size a := fun v1322 k0_hw489 => k0_hw489

def k0_chk485 (v1334 : IVec S16 32) : Prop :=
  (∀ a x, ((![v1334] : Fin 1 → IVec S16 32) a x).toNat < S19456.size a) ∧
  (∀ a x, ((![v1334] : Fin 1 → IVec S16 32) a x).toNat < S19456.size a)
theorem k0_idx645_inb : ∀ (v1334 : IVec S16 32) (k0_hw485 : k0_chk485 v1334), ∀ a x, ((![v1334] : Fin 1 → IVec S16 32) a x).toNat < S19456.size a := fun v1334 k0_hw485 => k0_hw485.1
theorem k0_idx650_inb : ∀ (v1334 : IVec S16 32) (k0_hw485 : k0_chk485 v1334), ∀ a x, ((![v1334] : Fin 1 → IVec S16 32) a x).toNat < S19456.size a := fun v1334 k0_hw485 => k0_hw485.2

def k0_chk490 (v1325 : IVec S16 32) : Prop :=
  (∀ a x, ((![v1325] : Fin 1 → IVec S16 32) a x).toNat < S1280.size a)
theorem k0_idx651_inb : ∀ (v1325 : IVec S16 32) (k0_hw490 : k0_chk490 v1325), ∀ a x, ((![v1325] : Fin 1 → IVec S16 32) a x).toNat < S1280.size a := fun v1325 k0_hw490 => k0_hw490

def k0_chk486 (v1337 : IVec S16 32) : Prop :=
  (∀ a x, ((![v1337] : Fin 1 → IVec S16 32) a x).toNat < S19456.size a) ∧
  (∀ a x, ((![v1337] : Fin 1 → IVec S16 32) a x).toNat < S19456.size a)
theorem k0_idx646_inb : ∀ (v1337 : IVec S16 32) (k0_hw486 : k0_chk486 v1337), ∀ a x, ((![v1337] : Fin 1 → IVec S16 32) a x).toNat < S19456.size a := fun v1337 k0_hw486 => k0_hw486.1
theorem k0_idx652_inb : ∀ (v1337 : IVec S16 32) (k0_hw486 : k0_chk486 v1337), ∀ a x, ((![v1337] : Fin 1 → IVec S16 32) a x).toNat < S19456.size a := fun v1337 k0_hw486 => k0_hw486.2

def k0_chk491 (v1328 : IVec S16 32) : Prop :=
  (∀ a x, ((![v1328] : Fin 1 → IVec S16 32) a x).toNat < S1280.size a)
theorem k0_idx653_inb : ∀ (v1328 : IVec S16 32) (k0_hw491 : k0_chk491 v1328), ∀ a x, ((![v1328] : Fin 1 → IVec S16 32) a x).toNat < S1280.size a := fun v1328 k0_hw491 => k0_hw491

def k0_chk487 (v1340 : IVec S16 32) : Prop :=
  (∀ a x, ((![v1340] : Fin 1 → IVec S16 32) a x).toNat < S19456.size a) ∧
  (∀ a x, ((![v1340] : Fin 1 → IVec S16 32) a x).toNat < S19456.size a)
theorem k0_idx647_inb : ∀ (v1340 : IVec S16 32) (k0_hw487 : k0_chk487 v1340), ∀ a x, ((![v1340] : Fin 1 → IVec S16 32) a x).toNat < S19456.size a := fun v1340 k0_hw487 => k0_hw487.1
theorem k0_idx654_inb : ∀ (v1340 : IVec S16 32) (k0_hw487 : k0_chk487 v1340), ∀ a x, ((![v1340] : Fin 1 → IVec S16 32) a x).toNat < S19456.size a := fun v1340 k0_hw487 => k0_hw487.2

def k0_chk492 (v1331 : IVec S16 32) : Prop :=
  (∀ a x, ((![v1331] : Fin 1 → IVec S16 32) a x).toNat < S1280.size a)
theorem k0_idx655_inb : ∀ (v1331 : IVec S16 32) (k0_hw492 : k0_chk492 v1331), ∀ a x, ((![v1331] : Fin 1 → IVec S16 32) a x).toNat < S1280.size a := fun v1331 k0_hw492 => k0_hw492

def k0_chk488 (v1343 : IVec S16 32) : Prop :=
  (∀ a x, ((![v1343] : Fin 1 → IVec S16 32) a x).toNat < S19456.size a) ∧
  (∀ a x, ((![v1343] : Fin 1 → IVec S16 32) a x).toNat < S19456.size a)
theorem k0_idx648_inb : ∀ (v1343 : IVec S16 32) (k0_hw488 : k0_chk488 v1343), ∀ a x, ((![v1343] : Fin 1 → IVec S16 32) a x).toNat < S19456.size a := fun v1343 k0_hw488 => k0_hw488.1
theorem k0_idx656_inb : ∀ (v1343 : IVec S16 32) (k0_hw488 : k0_chk488 v1343), ∀ a x, ((![v1343] : Fin 1 → IVec S16 32) a x).toNat < S19456.size a := fun v1343 k0_hw488 => k0_hw488.2

def k0_chk493 (v1353 : IVec S16 32) : Prop :=
  (∀ a x, ((![v1353] : Fin 1 → IVec S16 32) a x).toNat < S25600.size a)
theorem k0_idx657_inb : ∀ (v1353 : IVec S16 32) (k0_hw493 : k0_chk493 v1353), ∀ a x, ((![v1353] : Fin 1 → IVec S16 32) a x).toNat < S25600.size a := fun v1353 k0_hw493 => k0_hw493

def k0_chk494 (v1356 : IVec S16 32) : Prop :=
  (∀ a x, ((![v1356] : Fin 1 → IVec S16 32) a x).toNat < S25600.size a)
theorem k0_idx658_inb : ∀ (v1356 : IVec S16 32) (k0_hw494 : k0_chk494 v1356), ∀ a x, ((![v1356] : Fin 1 → IVec S16 32) a x).toNat < S25600.size a := fun v1356 k0_hw494 => k0_hw494

def k0_chk495 (v1359 : IVec S16 32) : Prop :=
  (∀ a x, ((![v1359] : Fin 1 → IVec S16 32) a x).toNat < S25600.size a)
theorem k0_idx659_inb : ∀ (v1359 : IVec S16 32) (k0_hw495 : k0_chk495 v1359), ∀ a x, ((![v1359] : Fin 1 → IVec S16 32) a x).toNat < S25600.size a := fun v1359 k0_hw495 => k0_hw495

def k0_chk496 (v1362 : IVec S16 32) : Prop :=
  (∀ a x, ((![v1362] : Fin 1 → IVec S16 32) a x).toNat < S25600.size a)
theorem k0_idx660_inb : ∀ (v1362 : IVec S16 32) (k0_hw496 : k0_chk496 v1362), ∀ a x, ((![v1362] : Fin 1 → IVec S16 32) a x).toNat < S25600.size a := fun v1362 k0_hw496 => k0_hw496

def k0_chk501 (v1354 : IVec S16 32) : Prop :=
  (∀ a x, ((![v1354] : Fin 1 → IVec S16 32) a x).toNat < S1280.size a)
theorem k0_idx665_inb : ∀ (v1354 : IVec S16 32) (k0_hw501 : k0_chk501 v1354), ∀ a x, ((![v1354] : Fin 1 → IVec S16 32) a x).toNat < S1280.size a := fun v1354 k0_hw501 => k0_hw501

def k0_chk497 (v1366 : IVec S16 32) : Prop :=
  (∀ a x, ((![v1366] : Fin 1 → IVec S16 32) a x).toNat < S19456.size a) ∧
  (∀ a x, ((![v1366] : Fin 1 → IVec S16 32) a x).toNat < S19456.size a)
theorem k0_idx661_inb : ∀ (v1366 : IVec S16 32) (k0_hw497 : k0_chk497 v1366), ∀ a x, ((![v1366] : Fin 1 → IVec S16 32) a x).toNat < S19456.size a := fun v1366 k0_hw497 => k0_hw497.1
theorem k0_idx666_inb : ∀ (v1366 : IVec S16 32) (k0_hw497 : k0_chk497 v1366), ∀ a x, ((![v1366] : Fin 1 → IVec S16 32) a x).toNat < S19456.size a := fun v1366 k0_hw497 => k0_hw497.2

def k0_chk502 (v1357 : IVec S16 32) : Prop :=
  (∀ a x, ((![v1357] : Fin 1 → IVec S16 32) a x).toNat < S1280.size a)
theorem k0_idx667_inb : ∀ (v1357 : IVec S16 32) (k0_hw502 : k0_chk502 v1357), ∀ a x, ((![v1357] : Fin 1 → IVec S16 32) a x).toNat < S1280.size a := fun v1357 k0_hw502 => k0_hw502

def k0_chk498 (v1369 : IVec S16 32) : Prop :=
  (∀ a x, ((![v1369] : Fin 1 → IVec S16 32) a x).toNat < S19456.size a) ∧
  (∀ a x, ((![v1369] : Fin 1 → IVec S16 32) a x).toNat < S19456.size a)
theorem k0_idx662_inb : ∀ (v1369 : IVec S16 32) (k0_hw498 : k0_chk498 v1369), ∀ a x, ((![v1369] : Fin 1 → IVec S16 32) a x).toNat < S19456.size a := fun v1369 k0_hw498 => k0_hw498.1
theorem k0_idx668_inb : ∀ (v1369 : IVec S16 32) (k0_hw498 : k0_chk498 v1369), ∀ a x, ((![v1369] : Fin 1 → IVec S16 32) a x).toNat < S19456.size a := fun v1369 k0_hw498 => k0_hw498.2

def k0_chk503 (v1360 : IVec S16 32) : Prop :=
  (∀ a x, ((![v1360] : Fin 1 → IVec S16 32) a x).toNat < S1280.size a)
theorem k0_idx669_inb : ∀ (v1360 : IVec S16 32) (k0_hw503 : k0_chk503 v1360), ∀ a x, ((![v1360] : Fin 1 → IVec S16 32) a x).toNat < S1280.size a := fun v1360 k0_hw503 => k0_hw503

def k0_chk499 (v1372 : IVec S16 32) : Prop :=
  (∀ a x, ((![v1372] : Fin 1 → IVec S16 32) a x).toNat < S19456.size a) ∧
  (∀ a x, ((![v1372] : Fin 1 → IVec S16 32) a x).toNat < S19456.size a)
theorem k0_idx663_inb : ∀ (v1372 : IVec S16 32) (k0_hw499 : k0_chk499 v1372), ∀ a x, ((![v1372] : Fin 1 → IVec S16 32) a x).toNat < S19456.size a := fun v1372 k0_hw499 => k0_hw499.1
theorem k0_idx670_inb : ∀ (v1372 : IVec S16 32) (k0_hw499 : k0_chk499 v1372), ∀ a x, ((![v1372] : Fin 1 → IVec S16 32) a x).toNat < S19456.size a := fun v1372 k0_hw499 => k0_hw499.2

def k0_chk504 (v1363 : IVec S16 32) : Prop :=
  (∀ a x, ((![v1363] : Fin 1 → IVec S16 32) a x).toNat < S1280.size a)
theorem k0_idx671_inb : ∀ (v1363 : IVec S16 32) (k0_hw504 : k0_chk504 v1363), ∀ a x, ((![v1363] : Fin 1 → IVec S16 32) a x).toNat < S1280.size a := fun v1363 k0_hw504 => k0_hw504

def k0_chk500 (v1375 : IVec S16 32) : Prop :=
  (∀ a x, ((![v1375] : Fin 1 → IVec S16 32) a x).toNat < S19456.size a) ∧
  (∀ a x, ((![v1375] : Fin 1 → IVec S16 32) a x).toNat < S19456.size a)
theorem k0_idx664_inb : ∀ (v1375 : IVec S16 32) (k0_hw500 : k0_chk500 v1375), ∀ a x, ((![v1375] : Fin 1 → IVec S16 32) a x).toNat < S19456.size a := fun v1375 k0_hw500 => k0_hw500.1
theorem k0_idx672_inb : ∀ (v1375 : IVec S16 32) (k0_hw500 : k0_chk500 v1375), ∀ a x, ((![v1375] : Fin 1 → IVec S16 32) a x).toNat < S19456.size a := fun v1375 k0_hw500 => k0_hw500.2

def k0_chk505 (v1385 : IVec S16 32) : Prop :=
  (∀ a x, ((![v1385] : Fin 1 → IVec S16 32) a x).toNat < S25600.size a)
theorem k0_idx673_inb : ∀ (v1385 : IVec S16 32) (k0_hw505 : k0_chk505 v1385), ∀ a x, ((![v1385] : Fin 1 → IVec S16 32) a x).toNat < S25600.size a := fun v1385 k0_hw505 => k0_hw505

def k0_chk506 (v1388 : IVec S16 32) : Prop :=
  (∀ a x, ((![v1388] : Fin 1 → IVec S16 32) a x).toNat < S25600.size a)
theorem k0_idx674_inb : ∀ (v1388 : IVec S16 32) (k0_hw506 : k0_chk506 v1388), ∀ a x, ((![v1388] : Fin 1 → IVec S16 32) a x).toNat < S25600.size a := fun v1388 k0_hw506 => k0_hw506

def k0_chk507 (v1391 : IVec S16 32) : Prop :=
  (∀ a x, ((![v1391] : Fin 1 → IVec S16 32) a x).toNat < S25600.size a)
theorem k0_idx675_inb : ∀ (v1391 : IVec S16 32) (k0_hw507 : k0_chk507 v1391), ∀ a x, ((![v1391] : Fin 1 → IVec S16 32) a x).toNat < S25600.size a := fun v1391 k0_hw507 => k0_hw507

def k0_chk508 (v1394 : IVec S16 32) : Prop :=
  (∀ a x, ((![v1394] : Fin 1 → IVec S16 32) a x).toNat < S25600.size a)
theorem k0_idx676_inb : ∀ (v1394 : IVec S16 32) (k0_hw508 : k0_chk508 v1394), ∀ a x, ((![v1394] : Fin 1 → IVec S16 32) a x).toNat < S25600.size a := fun v1394 k0_hw508 => k0_hw508

def k0_chk513 (v1386 : IVec S16 32) : Prop :=
  (∀ a x, ((![v1386] : Fin 1 → IVec S16 32) a x).toNat < S1280.size a)
theorem k0_idx681_inb : ∀ (v1386 : IVec S16 32) (k0_hw513 : k0_chk513 v1386), ∀ a x, ((![v1386] : Fin 1 → IVec S16 32) a x).toNat < S1280.size a := fun v1386 k0_hw513 => k0_hw513

def k0_chk509 (v1398 : IVec S16 32) : Prop :=
  (∀ a x, ((![v1398] : Fin 1 → IVec S16 32) a x).toNat < S19456.size a) ∧
  (∀ a x, ((![v1398] : Fin 1 → IVec S16 32) a x).toNat < S19456.size a)
theorem k0_idx677_inb : ∀ (v1398 : IVec S16 32) (k0_hw509 : k0_chk509 v1398), ∀ a x, ((![v1398] : Fin 1 → IVec S16 32) a x).toNat < S19456.size a := fun v1398 k0_hw509 => k0_hw509.1
theorem k0_idx682_inb : ∀ (v1398 : IVec S16 32) (k0_hw509 : k0_chk509 v1398), ∀ a x, ((![v1398] : Fin 1 → IVec S16 32) a x).toNat < S19456.size a := fun v1398 k0_hw509 => k0_hw509.2

def k0_chk514 (v1389 : IVec S16 32) : Prop :=
  (∀ a x, ((![v1389] : Fin 1 → IVec S16 32) a x).toNat < S1280.size a)
theorem k0_idx683_inb : ∀ (v1389 : IVec S16 32) (k0_hw514 : k0_chk514 v1389), ∀ a x, ((![v1389] : Fin 1 → IVec S16 32) a x).toNat < S1280.size a := fun v1389 k0_hw514 => k0_hw514

def k0_chk510 (v1401 : IVec S16 32) : Prop :=
  (∀ a x, ((![v1401] : Fin 1 → IVec S16 32) a x).toNat < S19456.size a) ∧
  (∀ a x, ((![v1401] : Fin 1 → IVec S16 32) a x).toNat < S19456.size a)
theorem k0_idx678_inb : ∀ (v1401 : IVec S16 32) (k0_hw510 : k0_chk510 v1401), ∀ a x, ((![v1401] : Fin 1 → IVec S16 32) a x).toNat < S19456.size a := fun v1401 k0_hw510 => k0_hw510.1
theorem k0_idx684_inb : ∀ (v1401 : IVec S16 32) (k0_hw510 : k0_chk510 v1401), ∀ a x, ((![v1401] : Fin 1 → IVec S16 32) a x).toNat < S19456.size a := fun v1401 k0_hw510 => k0_hw510.2

def k0_chk515 (v1392 : IVec S16 32) : Prop :=
  (∀ a x, ((![v1392] : Fin 1 → IVec S16 32) a x).toNat < S1280.size a)
theorem k0_idx685_inb : ∀ (v1392 : IVec S16 32) (k0_hw515 : k0_chk515 v1392), ∀ a x, ((![v1392] : Fin 1 → IVec S16 32) a x).toNat < S1280.size a := fun v1392 k0_hw515 => k0_hw515

def k0_chk511 (v1404 : IVec S16 32) : Prop :=
  (∀ a x, ((![v1404] : Fin 1 → IVec S16 32) a x).toNat < S19456.size a) ∧
  (∀ a x, ((![v1404] : Fin 1 → IVec S16 32) a x).toNat < S19456.size a)
theorem k0_idx679_inb : ∀ (v1404 : IVec S16 32) (k0_hw511 : k0_chk511 v1404), ∀ a x, ((![v1404] : Fin 1 → IVec S16 32) a x).toNat < S19456.size a := fun v1404 k0_hw511 => k0_hw511.1
theorem k0_idx686_inb : ∀ (v1404 : IVec S16 32) (k0_hw511 : k0_chk511 v1404), ∀ a x, ((![v1404] : Fin 1 → IVec S16 32) a x).toNat < S19456.size a := fun v1404 k0_hw511 => k0_hw511.2

def k0_chk516 (v1395 : IVec S16 32) : Prop :=
  (∀ a x, ((![v1395] : Fin 1 → IVec S16 32) a x).toNat < S1280.size a)
theorem k0_idx687_inb : ∀ (v1395 : IVec S16 32) (k0_hw516 : k0_chk516 v1395), ∀ a x, ((![v1395] : Fin 1 → IVec S16 32) a x).toNat < S1280.size a := fun v1395 k0_hw516 => k0_hw516

def k0_chk512 (v1407 : IVec S16 32) : Prop :=
  (∀ a x, ((![v1407] : Fin 1 → IVec S16 32) a x).toNat < S19456.size a) ∧
  (∀ a x, ((![v1407] : Fin 1 → IVec S16 32) a x).toNat < S19456.size a)
theorem k0_idx680_inb : ∀ (v1407 : IVec S16 32) (k0_hw512 : k0_chk512 v1407), ∀ a x, ((![v1407] : Fin 1 → IVec S16 32) a x).toNat < S19456.size a := fun v1407 k0_hw512 => k0_hw512.1
theorem k0_idx688_inb : ∀ (v1407 : IVec S16 32) (k0_hw512 : k0_chk512 v1407), ∀ a x, ((![v1407] : Fin 1 → IVec S16 32) a x).toNat < S19456.size a := fun v1407 k0_hw512 => k0_hw512.2

def k0_chk517 (v1417 : IVec S16 32) : Prop :=
  (∀ a x, ((![v1417] : Fin 1 → IVec S16 32) a x).toNat < S25600.size a)
theorem k0_idx689_inb : ∀ (v1417 : IVec S16 32) (k0_hw517 : k0_chk517 v1417), ∀ a x, ((![v1417] : Fin 1 → IVec S16 32) a x).toNat < S25600.size a := fun v1417 k0_hw517 => k0_hw517

def k0_chk518 (v1420 : IVec S16 32) : Prop :=
  (∀ a x, ((![v1420] : Fin 1 → IVec S16 32) a x).toNat < S25600.size a)
theorem k0_idx690_inb : ∀ (v1420 : IVec S16 32) (k0_hw518 : k0_chk518 v1420), ∀ a x, ((![v1420] : Fin 1 → IVec S16 32) a x).toNat < S25600.size a := fun v1420 k0_hw518 => k0_hw518

def k0_chk519 (v1423 : IVec S16 32) : Prop :=
  (∀ a x, ((![v1423] : Fin 1 → IVec S16 32) a x).toNat < S25600.size a)
theorem k0_idx691_inb : ∀ (v1423 : IVec S16 32) (k0_hw519 : k0_chk519 v1423), ∀ a x, ((![v1423] : Fin 1 → IVec S16 32) a x).toNat < S25600.size a := fun v1423 k0_hw519 => k0_hw519

def k0_chk520 (v1426 : IVec S16 32) : Prop :=
  (∀ a x, ((![v1426] : Fin 1 → IVec S16 32) a x).toNat < S25600.size a)
theorem k0_idx692_inb : ∀ (v1426 : IVec S16 32) (k0_hw520 : k0_chk520 v1426), ∀ a x, ((![v1426] : Fin 1 → IVec S16 32) a x).toNat < S25600.size a := fun v1426 k0_hw520 => k0_hw520

def k0_chk525 (v1418 : IVec S16 32) : Prop :=
  (∀ a x, ((![v1418] : Fin 1 → IVec S16 32) a x).toNat < S1280.size a)
theorem k0_idx697_inb : ∀ (v1418 : IVec S16 32) (k0_hw525 : k0_chk525 v1418), ∀ a x, ((![v1418] : Fin 1 → IVec S16 32) a x).toNat < S1280.size a := fun v1418 k0_hw525 => k0_hw525

def k0_chk521 (v1430 : IVec S16 32) : Prop :=
  (∀ a x, ((![v1430] : Fin 1 → IVec S16 32) a x).toNat < S19456.size a) ∧
  (∀ a x, ((![v1430] : Fin 1 → IVec S16 32) a x).toNat < S19456.size a)
theorem k0_idx693_inb : ∀ (v1430 : IVec S16 32) (k0_hw521 : k0_chk521 v1430), ∀ a x, ((![v1430] : Fin 1 → IVec S16 32) a x).toNat < S19456.size a := fun v1430 k0_hw521 => k0_hw521.1
theorem k0_idx698_inb : ∀ (v1430 : IVec S16 32) (k0_hw521 : k0_chk521 v1430), ∀ a x, ((![v1430] : Fin 1 → IVec S16 32) a x).toNat < S19456.size a := fun v1430 k0_hw521 => k0_hw521.2

def k0_chk526 (v1421 : IVec S16 32) : Prop :=
  (∀ a x, ((![v1421] : Fin 1 → IVec S16 32) a x).toNat < S1280.size a)
theorem k0_idx699_inb : ∀ (v1421 : IVec S16 32) (k0_hw526 : k0_chk526 v1421), ∀ a x, ((![v1421] : Fin 1 → IVec S16 32) a x).toNat < S1280.size a := fun v1421 k0_hw526 => k0_hw526

def k0_chk522 (v1433 : IVec S16 32) : Prop :=
  (∀ a x, ((![v1433] : Fin 1 → IVec S16 32) a x).toNat < S19456.size a) ∧
  (∀ a x, ((![v1433] : Fin 1 → IVec S16 32) a x).toNat < S19456.size a)
theorem k0_idx694_inb : ∀ (v1433 : IVec S16 32) (k0_hw522 : k0_chk522 v1433), ∀ a x, ((![v1433] : Fin 1 → IVec S16 32) a x).toNat < S19456.size a := fun v1433 k0_hw522 => k0_hw522.1
theorem k0_idx700_inb : ∀ (v1433 : IVec S16 32) (k0_hw522 : k0_chk522 v1433), ∀ a x, ((![v1433] : Fin 1 → IVec S16 32) a x).toNat < S19456.size a := fun v1433 k0_hw522 => k0_hw522.2

def k0_chk527 (v1424 : IVec S16 32) : Prop :=
  (∀ a x, ((![v1424] : Fin 1 → IVec S16 32) a x).toNat < S1280.size a)
theorem k0_idx701_inb : ∀ (v1424 : IVec S16 32) (k0_hw527 : k0_chk527 v1424), ∀ a x, ((![v1424] : Fin 1 → IVec S16 32) a x).toNat < S1280.size a := fun v1424 k0_hw527 => k0_hw527

def k0_chk523 (v1436 : IVec S16 32) : Prop :=
  (∀ a x, ((![v1436] : Fin 1 → IVec S16 32) a x).toNat < S19456.size a) ∧
  (∀ a x, ((![v1436] : Fin 1 → IVec S16 32) a x).toNat < S19456.size a)
theorem k0_idx695_inb : ∀ (v1436 : IVec S16 32) (k0_hw523 : k0_chk523 v1436), ∀ a x, ((![v1436] : Fin 1 → IVec S16 32) a x).toNat < S19456.size a := fun v1436 k0_hw523 => k0_hw523.1
theorem k0_idx702_inb : ∀ (v1436 : IVec S16 32) (k0_hw523 : k0_chk523 v1436), ∀ a x, ((![v1436] : Fin 1 → IVec S16 32) a x).toNat < S19456.size a := fun v1436 k0_hw523 => k0_hw523.2

def k0_chk528 (v1427 : IVec S16 32) : Prop :=
  (∀ a x, ((![v1427] : Fin 1 → IVec S16 32) a x).toNat < S1280.size a)
theorem k0_idx703_inb : ∀ (v1427 : IVec S16 32) (k0_hw528 : k0_chk528 v1427), ∀ a x, ((![v1427] : Fin 1 → IVec S16 32) a x).toNat < S1280.size a := fun v1427 k0_hw528 => k0_hw528

def k0_chk524 (v1439 : IVec S16 32) : Prop :=
  (∀ a x, ((![v1439] : Fin 1 → IVec S16 32) a x).toNat < S19456.size a) ∧
  (∀ a x, ((![v1439] : Fin 1 → IVec S16 32) a x).toNat < S19456.size a)
theorem k0_idx696_inb : ∀ (v1439 : IVec S16 32) (k0_hw524 : k0_chk524 v1439), ∀ a x, ((![v1439] : Fin 1 → IVec S16 32) a x).toNat < S19456.size a := fun v1439 k0_hw524 => k0_hw524.1
theorem k0_idx704_inb : ∀ (v1439 : IVec S16 32) (k0_hw524 : k0_chk524 v1439), ∀ a x, ((![v1439] : Fin 1 → IVec S16 32) a x).toNat < S19456.size a := fun v1439 k0_hw524 => k0_hw524.2

def k0_chk529 (v1449 : IVec S16 32) : Prop :=
  (∀ a x, ((![v1449] : Fin 1 → IVec S16 32) a x).toNat < S25600.size a)
theorem k0_idx705_inb : ∀ (v1449 : IVec S16 32) (k0_hw529 : k0_chk529 v1449), ∀ a x, ((![v1449] : Fin 1 → IVec S16 32) a x).toNat < S25600.size a := fun v1449 k0_hw529 => k0_hw529

def k0_chk530 (v1452 : IVec S16 32) : Prop :=
  (∀ a x, ((![v1452] : Fin 1 → IVec S16 32) a x).toNat < S25600.size a)
theorem k0_idx706_inb : ∀ (v1452 : IVec S16 32) (k0_hw530 : k0_chk530 v1452), ∀ a x, ((![v1452] : Fin 1 → IVec S16 32) a x).toNat < S25600.size a := fun v1452 k0_hw530 => k0_hw530

def k0_chk531 (v1455 : IVec S16 32) : Prop :=
  (∀ a x, ((![v1455] : Fin 1 → IVec S16 32) a x).toNat < S25600.size a)
theorem k0_idx707_inb : ∀ (v1455 : IVec S16 32) (k0_hw531 : k0_chk531 v1455), ∀ a x, ((![v1455] : Fin 1 → IVec S16 32) a x).toNat < S25600.size a := fun v1455 k0_hw531 => k0_hw531

def k0_chk532 (v1458 : IVec S16 32) : Prop :=
  (∀ a x, ((![v1458] : Fin 1 → IVec S16 32) a x).toNat < S25600.size a)
theorem k0_idx708_inb : ∀ (v1458 : IVec S16 32) (k0_hw532 : k0_chk532 v1458), ∀ a x, ((![v1458] : Fin 1 → IVec S16 32) a x).toNat < S25600.size a := fun v1458 k0_hw532 => k0_hw532

def k0_chk537 (v1450 : IVec S16 32) : Prop :=
  (∀ a x, ((![v1450] : Fin 1 → IVec S16 32) a x).toNat < S1280.size a)
theorem k0_idx713_inb : ∀ (v1450 : IVec S16 32) (k0_hw537 : k0_chk537 v1450), ∀ a x, ((![v1450] : Fin 1 → IVec S16 32) a x).toNat < S1280.size a := fun v1450 k0_hw537 => k0_hw537

def k0_chk533 (v1462 : IVec S16 32) : Prop :=
  (∀ a x, ((![v1462] : Fin 1 → IVec S16 32) a x).toNat < S19456.size a) ∧
  (∀ a x, ((![v1462] : Fin 1 → IVec S16 32) a x).toNat < S19456.size a)
theorem k0_idx709_inb : ∀ (v1462 : IVec S16 32) (k0_hw533 : k0_chk533 v1462), ∀ a x, ((![v1462] : Fin 1 → IVec S16 32) a x).toNat < S19456.size a := fun v1462 k0_hw533 => k0_hw533.1
theorem k0_idx714_inb : ∀ (v1462 : IVec S16 32) (k0_hw533 : k0_chk533 v1462), ∀ a x, ((![v1462] : Fin 1 → IVec S16 32) a x).toNat < S19456.size a := fun v1462 k0_hw533 => k0_hw533.2

def k0_chk538 (v1453 : IVec S16 32) : Prop :=
  (∀ a x, ((![v1453] : Fin 1 → IVec S16 32) a x).toNat < S1280.size a)
theorem k0_idx715_inb : ∀ (v1453 : IVec S16 32) (k0_hw538 : k0_chk538 v1453), ∀ a x, ((![v1453] : Fin 1 → IVec S16 32) a x).toNat < S1280.size a := fun v1453 k0_hw538 => k0_hw538

def k0_chk534 (v1465 : IVec S16 32) : Prop :=
  (∀ a x, ((![v1465] : Fin 1 → IVec S16 32) a x).toNat < S19456.size a) ∧
  (∀ a x, ((![v1465] : Fin 1 → IVec S16 32) a x).toNat < S19456.size a)
theorem k0_idx710_inb : ∀ (v1465 : IVec S16 32) (k0_hw534 : k0_chk534 v1465), ∀ a x, ((![v1465] : Fin 1 → IVec S16 32) a x).toNat < S19456.size a := fun v1465 k0_hw534 => k0_hw534.1
theorem k0_idx716_inb : ∀ (v1465 : IVec S16 32) (k0_hw534 : k0_chk534 v1465), ∀ a x, ((![v1465] : Fin 1 → IVec S16 32) a x).toNat < S19456.size a := fun v1465 k0_hw534 => k0_hw534.2

def k0_chk539 (v1456 : IVec S16 32) : Prop :=
  (∀ a x, ((![v1456] : Fin 1 → IVec S16 32) a x).toNat < S1280.size a)
theorem k0_idx717_inb : ∀ (v1456 : IVec S16 32) (k0_hw539 : k0_chk539 v1456), ∀ a x, ((![v1456] : Fin 1 → IVec S16 32) a x).toNat < S1280.size a := fun v1456 k0_hw539 => k0_hw539

def k0_chk535 (v1468 : IVec S16 32) : Prop :=
  (∀ a x, ((![v1468] : Fin 1 → IVec S16 32) a x).toNat < S19456.size a) ∧
  (∀ a x, ((![v1468] : Fin 1 → IVec S16 32) a x).toNat < S19456.size a)
theorem k0_idx711_inb : ∀ (v1468 : IVec S16 32) (k0_hw535 : k0_chk535 v1468), ∀ a x, ((![v1468] : Fin 1 → IVec S16 32) a x).toNat < S19456.size a := fun v1468 k0_hw535 => k0_hw535.1
theorem k0_idx718_inb : ∀ (v1468 : IVec S16 32) (k0_hw535 : k0_chk535 v1468), ∀ a x, ((![v1468] : Fin 1 → IVec S16 32) a x).toNat < S19456.size a := fun v1468 k0_hw535 => k0_hw535.2

def k0_chk540 (v1459 : IVec S16 32) : Prop :=
  (∀ a x, ((![v1459] : Fin 1 → IVec S16 32) a x).toNat < S1280.size a)
theorem k0_idx719_inb : ∀ (v1459 : IVec S16 32) (k0_hw540 : k0_chk540 v1459), ∀ a x, ((![v1459] : Fin 1 → IVec S16 32) a x).toNat < S1280.size a := fun v1459 k0_hw540 => k0_hw540

def k0_chk536 (v1471 : IVec S16 32) : Prop :=
  (∀ a x, ((![v1471] : Fin 1 → IVec S16 32) a x).toNat < S19456.size a) ∧
  (∀ a x, ((![v1471] : Fin 1 → IVec S16 32) a x).toNat < S19456.size a)
theorem k0_idx712_inb : ∀ (v1471 : IVec S16 32) (k0_hw536 : k0_chk536 v1471), ∀ a x, ((![v1471] : Fin 1 → IVec S16 32) a x).toNat < S19456.size a := fun v1471 k0_hw536 => k0_hw536.1
theorem k0_idx720_inb : ∀ (v1471 : IVec S16 32) (k0_hw536 : k0_chk536 v1471), ∀ a x, ((![v1471] : Fin 1 → IVec S16 32) a x).toNat < S19456.size a := fun v1471 k0_hw536 => k0_hw536.2

def k0_chk541 (v1481 : IVec S16 32) : Prop :=
  (∀ a x, ((![v1481] : Fin 1 → IVec S16 32) a x).toNat < S25600.size a)
theorem k0_idx721_inb : ∀ (v1481 : IVec S16 32) (k0_hw541 : k0_chk541 v1481), ∀ a x, ((![v1481] : Fin 1 → IVec S16 32) a x).toNat < S25600.size a := fun v1481 k0_hw541 => k0_hw541

def k0_chk542 (v1484 : IVec S16 32) : Prop :=
  (∀ a x, ((![v1484] : Fin 1 → IVec S16 32) a x).toNat < S25600.size a)
theorem k0_idx722_inb : ∀ (v1484 : IVec S16 32) (k0_hw542 : k0_chk542 v1484), ∀ a x, ((![v1484] : Fin 1 → IVec S16 32) a x).toNat < S25600.size a := fun v1484 k0_hw542 => k0_hw542

def k0_chk543 (v1487 : IVec S16 32) : Prop :=
  (∀ a x, ((![v1487] : Fin 1 → IVec S16 32) a x).toNat < S25600.size a)
theorem k0_idx723_inb : ∀ (v1487 : IVec S16 32) (k0_hw543 : k0_chk543 v1487), ∀ a x, ((![v1487] : Fin 1 → IVec S16 32) a x).toNat < S25600.size a := fun v1487 k0_hw543 => k0_hw543

def k0_chk544 (v1490 : IVec S16 32) : Prop :=
  (∀ a x, ((![v1490] : Fin 1 → IVec S16 32) a x).toNat < S25600.size a)
theorem k0_idx724_inb : ∀ (v1490 : IVec S16 32) (k0_hw544 : k0_chk544 v1490), ∀ a x, ((![v1490] : Fin 1 → IVec S16 32) a x).toNat < S25600.size a := fun v1490 k0_hw544 => k0_hw544

def k0_chk549 (v1482 : IVec S16 32) : Prop :=
  (∀ a x, ((![v1482] : Fin 1 → IVec S16 32) a x).toNat < S1280.size a)
theorem k0_idx729_inb : ∀ (v1482 : IVec S16 32) (k0_hw549 : k0_chk549 v1482), ∀ a x, ((![v1482] : Fin 1 → IVec S16 32) a x).toNat < S1280.size a := fun v1482 k0_hw549 => k0_hw549

def k0_chk545 (v1494 : IVec S16 32) : Prop :=
  (∀ a x, ((![v1494] : Fin 1 → IVec S16 32) a x).toNat < S19456.size a) ∧
  (∀ a x, ((![v1494] : Fin 1 → IVec S16 32) a x).toNat < S19456.size a)
theorem k0_idx725_inb : ∀ (v1494 : IVec S16 32) (k0_hw545 : k0_chk545 v1494), ∀ a x, ((![v1494] : Fin 1 → IVec S16 32) a x).toNat < S19456.size a := fun v1494 k0_hw545 => k0_hw545.1
theorem k0_idx730_inb : ∀ (v1494 : IVec S16 32) (k0_hw545 : k0_chk545 v1494), ∀ a x, ((![v1494] : Fin 1 → IVec S16 32) a x).toNat < S19456.size a := fun v1494 k0_hw545 => k0_hw545.2

def k0_chk550 (v1485 : IVec S16 32) : Prop :=
  (∀ a x, ((![v1485] : Fin 1 → IVec S16 32) a x).toNat < S1280.size a)
theorem k0_idx731_inb : ∀ (v1485 : IVec S16 32) (k0_hw550 : k0_chk550 v1485), ∀ a x, ((![v1485] : Fin 1 → IVec S16 32) a x).toNat < S1280.size a := fun v1485 k0_hw550 => k0_hw550

def k0_chk546 (v1497 : IVec S16 32) : Prop :=
  (∀ a x, ((![v1497] : Fin 1 → IVec S16 32) a x).toNat < S19456.size a) ∧
  (∀ a x, ((![v1497] : Fin 1 → IVec S16 32) a x).toNat < S19456.size a)
theorem k0_idx726_inb : ∀ (v1497 : IVec S16 32) (k0_hw546 : k0_chk546 v1497), ∀ a x, ((![v1497] : Fin 1 → IVec S16 32) a x).toNat < S19456.size a := fun v1497 k0_hw546 => k0_hw546.1
theorem k0_idx732_inb : ∀ (v1497 : IVec S16 32) (k0_hw546 : k0_chk546 v1497), ∀ a x, ((![v1497] : Fin 1 → IVec S16 32) a x).toNat < S19456.size a := fun v1497 k0_hw546 => k0_hw546.2

def k0_chk551 (v1488 : IVec S16 32) : Prop :=
  (∀ a x, ((![v1488] : Fin 1 → IVec S16 32) a x).toNat < S1280.size a)
theorem k0_idx733_inb : ∀ (v1488 : IVec S16 32) (k0_hw551 : k0_chk551 v1488), ∀ a x, ((![v1488] : Fin 1 → IVec S16 32) a x).toNat < S1280.size a := fun v1488 k0_hw551 => k0_hw551

def k0_chk547 (v1500 : IVec S16 32) : Prop :=
  (∀ a x, ((![v1500] : Fin 1 → IVec S16 32) a x).toNat < S19456.size a) ∧
  (∀ a x, ((![v1500] : Fin 1 → IVec S16 32) a x).toNat < S19456.size a)
theorem k0_idx727_inb : ∀ (v1500 : IVec S16 32) (k0_hw547 : k0_chk547 v1500), ∀ a x, ((![v1500] : Fin 1 → IVec S16 32) a x).toNat < S19456.size a := fun v1500 k0_hw547 => k0_hw547.1
theorem k0_idx734_inb : ∀ (v1500 : IVec S16 32) (k0_hw547 : k0_chk547 v1500), ∀ a x, ((![v1500] : Fin 1 → IVec S16 32) a x).toNat < S19456.size a := fun v1500 k0_hw547 => k0_hw547.2

def k0_chk552 (v1491 : IVec S16 32) : Prop :=
  (∀ a x, ((![v1491] : Fin 1 → IVec S16 32) a x).toNat < S1280.size a)
theorem k0_idx735_inb : ∀ (v1491 : IVec S16 32) (k0_hw552 : k0_chk552 v1491), ∀ a x, ((![v1491] : Fin 1 → IVec S16 32) a x).toNat < S1280.size a := fun v1491 k0_hw552 => k0_hw552

def k0_chk548 (v1503 : IVec S16 32) : Prop :=
  (∀ a x, ((![v1503] : Fin 1 → IVec S16 32) a x).toNat < S19456.size a) ∧
  (∀ a x, ((![v1503] : Fin 1 → IVec S16 32) a x).toNat < S19456.size a)
theorem k0_idx728_inb : ∀ (v1503 : IVec S16 32) (k0_hw548 : k0_chk548 v1503), ∀ a x, ((![v1503] : Fin 1 → IVec S16 32) a x).toNat < S19456.size a := fun v1503 k0_hw548 => k0_hw548.1
theorem k0_idx736_inb : ∀ (v1503 : IVec S16 32) (k0_hw548 : k0_chk548 v1503), ∀ a x, ((![v1503] : Fin 1 → IVec S16 32) a x).toNat < S19456.size a := fun v1503 k0_hw548 => k0_hw548.2

def k0_chk553 (v1513 : IVec S16 32) : Prop :=
  (∀ a x, ((![v1513] : Fin 1 → IVec S16 32) a x).toNat < S25600.size a)
theorem k0_idx737_inb : ∀ (v1513 : IVec S16 32) (k0_hw553 : k0_chk553 v1513), ∀ a x, ((![v1513] : Fin 1 → IVec S16 32) a x).toNat < S25600.size a := fun v1513 k0_hw553 => k0_hw553

def k0_chk554 (v1516 : IVec S16 32) : Prop :=
  (∀ a x, ((![v1516] : Fin 1 → IVec S16 32) a x).toNat < S25600.size a)
theorem k0_idx738_inb : ∀ (v1516 : IVec S16 32) (k0_hw554 : k0_chk554 v1516), ∀ a x, ((![v1516] : Fin 1 → IVec S16 32) a x).toNat < S25600.size a := fun v1516 k0_hw554 => k0_hw554

def k0_chk555 (v1519 : IVec S16 32) : Prop :=
  (∀ a x, ((![v1519] : Fin 1 → IVec S16 32) a x).toNat < S25600.size a)
theorem k0_idx739_inb : ∀ (v1519 : IVec S16 32) (k0_hw555 : k0_chk555 v1519), ∀ a x, ((![v1519] : Fin 1 → IVec S16 32) a x).toNat < S25600.size a := fun v1519 k0_hw555 => k0_hw555

def k0_chk556 (v1522 : IVec S16 32) : Prop :=
  (∀ a x, ((![v1522] : Fin 1 → IVec S16 32) a x).toNat < S25600.size a)
theorem k0_idx740_inb : ∀ (v1522 : IVec S16 32) (k0_hw556 : k0_chk556 v1522), ∀ a x, ((![v1522] : Fin 1 → IVec S16 32) a x).toNat < S25600.size a := fun v1522 k0_hw556 => k0_hw556

def k0_chk561 (v1514 : IVec S16 32) : Prop :=
  (∀ a x, ((![v1514] : Fin 1 → IVec S16 32) a x).toNat < S1280.size a)
theorem k0_idx745_inb : ∀ (v1514 : IVec S16 32) (k0_hw561 : k0_chk561 v1514), ∀ a x, ((![v1514] : Fin 1 → IVec S16 32) a x).toNat < S1280.size a := fun v1514 k0_hw561 => k0_hw561

def k0_chk557 (v1526 : IVec S16 32) : Prop :=
  (∀ a x, ((![v1526] : Fin 1 → IVec S16 32) a x).toNat < S19456.size a) ∧
  (∀ a x, ((![v1526] : Fin 1 → IVec S16 32) a x).toNat < S19456.size a)
theorem k0_idx741_inb : ∀ (v1526 : IVec S16 32) (k0_hw557 : k0_chk557 v1526), ∀ a x, ((![v1526] : Fin 1 → IVec S16 32) a x).toNat < S19456.size a := fun v1526 k0_hw557 => k0_hw557.1
theorem k0_idx746_inb : ∀ (v1526 : IVec S16 32) (k0_hw557 : k0_chk557 v1526), ∀ a x, ((![v1526] : Fin 1 → IVec S16 32) a x).toNat < S19456.size a := fun v1526 k0_hw557 => k0_hw557.2

def k0_chk562 (v1517 : IVec S16 32) : Prop :=
  (∀ a x, ((![v1517] : Fin 1 → IVec S16 32) a x).toNat < S1280.size a)
theorem k0_idx747_inb : ∀ (v1517 : IVec S16 32) (k0_hw562 : k0_chk562 v1517), ∀ a x, ((![v1517] : Fin 1 → IVec S16 32) a x).toNat < S1280.size a := fun v1517 k0_hw562 => k0_hw562

def k0_chk558 (v1529 : IVec S16 32) : Prop :=
  (∀ a x, ((![v1529] : Fin 1 → IVec S16 32) a x).toNat < S19456.size a) ∧
  (∀ a x, ((![v1529] : Fin 1 → IVec S16 32) a x).toNat < S19456.size a)
theorem k0_idx742_inb : ∀ (v1529 : IVec S16 32) (k0_hw558 : k0_chk558 v1529), ∀ a x, ((![v1529] : Fin 1 → IVec S16 32) a x).toNat < S19456.size a := fun v1529 k0_hw558 => k0_hw558.1
theorem k0_idx748_inb : ∀ (v1529 : IVec S16 32) (k0_hw558 : k0_chk558 v1529), ∀ a x, ((![v1529] : Fin 1 → IVec S16 32) a x).toNat < S19456.size a := fun v1529 k0_hw558 => k0_hw558.2

def k0_chk563 (v1520 : IVec S16 32) : Prop :=
  (∀ a x, ((![v1520] : Fin 1 → IVec S16 32) a x).toNat < S1280.size a)
theorem k0_idx749_inb : ∀ (v1520 : IVec S16 32) (k0_hw563 : k0_chk563 v1520), ∀ a x, ((![v1520] : Fin 1 → IVec S16 32) a x).toNat < S1280.size a := fun v1520 k0_hw563 => k0_hw563

def k0_chk559 (v1532 : IVec S16 32) : Prop :=
  (∀ a x, ((![v1532] : Fin 1 → IVec S16 32) a x).toNat < S19456.size a) ∧
  (∀ a x, ((![v1532] : Fin 1 → IVec S16 32) a x).toNat < S19456.size a)
theorem k0_idx743_inb : ∀ (v1532 : IVec S16 32) (k0_hw559 : k0_chk559 v1532), ∀ a x, ((![v1532] : Fin 1 → IVec S16 32) a x).toNat < S19456.size a := fun v1532 k0_hw559 => k0_hw559.1
theorem k0_idx750_inb : ∀ (v1532 : IVec S16 32) (k0_hw559 : k0_chk559 v1532), ∀ a x, ((![v1532] : Fin 1 → IVec S16 32) a x).toNat < S19456.size a := fun v1532 k0_hw559 => k0_hw559.2

def k0_chk564 (v1523 : IVec S16 32) : Prop :=
  (∀ a x, ((![v1523] : Fin 1 → IVec S16 32) a x).toNat < S1280.size a)
theorem k0_idx751_inb : ∀ (v1523 : IVec S16 32) (k0_hw564 : k0_chk564 v1523), ∀ a x, ((![v1523] : Fin 1 → IVec S16 32) a x).toNat < S1280.size a := fun v1523 k0_hw564 => k0_hw564

def k0_chk560 (v1535 : IVec S16 32) : Prop :=
  (∀ a x, ((![v1535] : Fin 1 → IVec S16 32) a x).toNat < S19456.size a) ∧
  (∀ a x, ((![v1535] : Fin 1 → IVec S16 32) a x).toNat < S19456.size a)
theorem k0_idx744_inb : ∀ (v1535 : IVec S16 32) (k0_hw560 : k0_chk560 v1535), ∀ a x, ((![v1535] : Fin 1 → IVec S16 32) a x).toNat < S19456.size a := fun v1535 k0_hw560 => k0_hw560.1
theorem k0_idx752_inb : ∀ (v1535 : IVec S16 32) (k0_hw560 : k0_chk560 v1535), ∀ a x, ((![v1535] : Fin 1 → IVec S16 32) a x).toNat < S19456.size a := fun v1535 k0_hw560 => k0_hw560.2

def k0_chk565 (v1545 : IVec S16 32) : Prop :=
  (∀ a x, ((![v1545] : Fin 1 → IVec S16 32) a x).toNat < S25600.size a)
theorem k0_idx753_inb : ∀ (v1545 : IVec S16 32) (k0_hw565 : k0_chk565 v1545), ∀ a x, ((![v1545] : Fin 1 → IVec S16 32) a x).toNat < S25600.size a := fun v1545 k0_hw565 => k0_hw565

def k0_chk566 (v1548 : IVec S16 32) : Prop :=
  (∀ a x, ((![v1548] : Fin 1 → IVec S16 32) a x).toNat < S25600.size a)
theorem k0_idx754_inb : ∀ (v1548 : IVec S16 32) (k0_hw566 : k0_chk566 v1548), ∀ a x, ((![v1548] : Fin 1 → IVec S16 32) a x).toNat < S25600.size a := fun v1548 k0_hw566 => k0_hw566

def k0_chk567 (v1551 : IVec S16 32) : Prop :=
  (∀ a x, ((![v1551] : Fin 1 → IVec S16 32) a x).toNat < S25600.size a)
theorem k0_idx755_inb : ∀ (v1551 : IVec S16 32) (k0_hw567 : k0_chk567 v1551), ∀ a x, ((![v1551] : Fin 1 → IVec S16 32) a x).toNat < S25600.size a := fun v1551 k0_hw567 => k0_hw567

def k0_chk568 (v1554 : IVec S16 32) : Prop :=
  (∀ a x, ((![v1554] : Fin 1 → IVec S16 32) a x).toNat < S25600.size a)
theorem k0_idx756_inb : ∀ (v1554 : IVec S16 32) (k0_hw568 : k0_chk568 v1554), ∀ a x, ((![v1554] : Fin 1 → IVec S16 32) a x).toNat < S25600.size a := fun v1554 k0_hw568 => k0_hw568

def k0_chk573 (v1546 : IVec S16 32) : Prop :=
  (∀ a x, ((![v1546] : Fin 1 → IVec S16 32) a x).toNat < S1280.size a)
theorem k0_idx761_inb : ∀ (v1546 : IVec S16 32) (k0_hw573 : k0_chk573 v1546), ∀ a x, ((![v1546] : Fin 1 → IVec S16 32) a x).toNat < S1280.size a := fun v1546 k0_hw573 => k0_hw573

def k0_chk569 (v1558 : IVec S16 32) : Prop :=
  (∀ a x, ((![v1558] : Fin 1 → IVec S16 32) a x).toNat < S19456.size a) ∧
  (∀ a x, ((![v1558] : Fin 1 → IVec S16 32) a x).toNat < S19456.size a)
theorem k0_idx757_inb : ∀ (v1558 : IVec S16 32) (k0_hw569 : k0_chk569 v1558), ∀ a x, ((![v1558] : Fin 1 → IVec S16 32) a x).toNat < S19456.size a := fun v1558 k0_hw569 => k0_hw569.1
theorem k0_idx762_inb : ∀ (v1558 : IVec S16 32) (k0_hw569 : k0_chk569 v1558), ∀ a x, ((![v1558] : Fin 1 → IVec S16 32) a x).toNat < S19456.size a := fun v1558 k0_hw569 => k0_hw569.2

def k0_chk574 (v1549 : IVec S16 32) : Prop :=
  (∀ a x, ((![v1549] : Fin 1 → IVec S16 32) a x).toNat < S1280.size a)
theorem k0_idx763_inb : ∀ (v1549 : IVec S16 32) (k0_hw574 : k0_chk574 v1549), ∀ a x, ((![v1549] : Fin 1 → IVec S16 32) a x).toNat < S1280.size a := fun v1549 k0_hw574 => k0_hw574

def k0_chk570 (v1561 : IVec S16 32) : Prop :=
  (∀ a x, ((![v1561] : Fin 1 → IVec S16 32) a x).toNat < S19456.size a) ∧
  (∀ a x, ((![v1561] : Fin 1 → IVec S16 32) a x).toNat < S19456.size a)
theorem k0_idx758_inb : ∀ (v1561 : IVec S16 32) (k0_hw570 : k0_chk570 v1561), ∀ a x, ((![v1561] : Fin 1 → IVec S16 32) a x).toNat < S19456.size a := fun v1561 k0_hw570 => k0_hw570.1
theorem k0_idx764_inb : ∀ (v1561 : IVec S16 32) (k0_hw570 : k0_chk570 v1561), ∀ a x, ((![v1561] : Fin 1 → IVec S16 32) a x).toNat < S19456.size a := fun v1561 k0_hw570 => k0_hw570.2

def k0_chk575 (v1552 : IVec S16 32) : Prop :=
  (∀ a x, ((![v1552] : Fin 1 → IVec S16 32) a x).toNat < S1280.size a)
theorem k0_idx765_inb : ∀ (v1552 : IVec S16 32) (k0_hw575 : k0_chk575 v1552), ∀ a x, ((![v1552] : Fin 1 → IVec S16 32) a x).toNat < S1280.size a := fun v1552 k0_hw575 => k0_hw575

def k0_chk571 (v1564 : IVec S16 32) : Prop :=
  (∀ a x, ((![v1564] : Fin 1 → IVec S16 32) a x).toNat < S19456.size a) ∧
  (∀ a x, ((![v1564] : Fin 1 → IVec S16 32) a x).toNat < S19456.size a)
theorem k0_idx759_inb : ∀ (v1564 : IVec S16 32) (k0_hw571 : k0_chk571 v1564), ∀ a x, ((![v1564] : Fin 1 → IVec S16 32) a x).toNat < S19456.size a := fun v1564 k0_hw571 => k0_hw571.1
theorem k0_idx766_inb : ∀ (v1564 : IVec S16 32) (k0_hw571 : k0_chk571 v1564), ∀ a x, ((![v1564] : Fin 1 → IVec S16 32) a x).toNat < S19456.size a := fun v1564 k0_hw571 => k0_hw571.2

def k0_chk576 (v1555 : IVec S16 32) : Prop :=
  (∀ a x, ((![v1555] : Fin 1 → IVec S16 32) a x).toNat < S1280.size a)
theorem k0_idx767_inb : ∀ (v1555 : IVec S16 32) (k0_hw576 : k0_chk576 v1555), ∀ a x, ((![v1555] : Fin 1 → IVec S16 32) a x).toNat < S1280.size a := fun v1555 k0_hw576 => k0_hw576

def k0_chk572 (v1567 : IVec S16 32) : Prop :=
  (∀ a x, ((![v1567] : Fin 1 → IVec S16 32) a x).toNat < S19456.size a) ∧
  (∀ a x, ((![v1567] : Fin 1 → IVec S16 32) a x).toNat < S19456.size a)
theorem k0_idx760_inb : ∀ (v1567 : IVec S16 32) (k0_hw572 : k0_chk572 v1567), ∀ a x, ((![v1567] : Fin 1 → IVec S16 32) a x).toNat < S19456.size a := fun v1567 k0_hw572 => k0_hw572.1
theorem k0_idx768_inb : ∀ (v1567 : IVec S16 32) (k0_hw572 : k0_chk572 v1567), ∀ a x, ((![v1567] : Fin 1 → IVec S16 32) a x).toNat < S19456.size a := fun v1567 k0_hw572 => k0_hw572.2

def k0_chk577 (v1577 : IVec S16 32) : Prop :=
  (∀ a x, ((![v1577] : Fin 1 → IVec S16 32) a x).toNat < S25600.size a)
theorem k0_idx769_inb : ∀ (v1577 : IVec S16 32) (k0_hw577 : k0_chk577 v1577), ∀ a x, ((![v1577] : Fin 1 → IVec S16 32) a x).toNat < S25600.size a := fun v1577 k0_hw577 => k0_hw577

def k0_chk578 (v1580 : IVec S16 32) : Prop :=
  (∀ a x, ((![v1580] : Fin 1 → IVec S16 32) a x).toNat < S25600.size a)
theorem k0_idx770_inb : ∀ (v1580 : IVec S16 32) (k0_hw578 : k0_chk578 v1580), ∀ a x, ((![v1580] : Fin 1 → IVec S16 32) a x).toNat < S25600.size a := fun v1580 k0_hw578 => k0_hw578

def k0_chk579 (v1583 : IVec S16 32) : Prop :=
  (∀ a x, ((![v1583] : Fin 1 → IVec S16 32) a x).toNat < S25600.size a)
theorem k0_idx771_inb : ∀ (v1583 : IVec S16 32) (k0_hw579 : k0_chk579 v1583), ∀ a x, ((![v1583] : Fin 1 → IVec S16 32) a x).toNat < S25600.size a := fun v1583 k0_hw579 => k0_hw579

def k0_chk580 (v1586 : IVec S16 32) : Prop :=
  (∀ a x, ((![v1586] : Fin 1 → IVec S16 32) a x).toNat < S25600.size a)
theorem k0_idx772_inb : ∀ (v1586 : IVec S16 32) (k0_hw580 : k0_chk580 v1586), ∀ a x, ((![v1586] : Fin 1 → IVec S16 32) a x).toNat < S25600.size a := fun v1586 k0_hw580 => k0_hw580

def k0_chk585 (v1578 : IVec S16 32) : Prop :=
  (∀ a x, ((![v1578] : Fin 1 → IVec S16 32) a x).toNat < S1280.size a)
theorem k0_idx777_inb : ∀ (v1578 : IVec S16 32) (k0_hw585 : k0_chk585 v1578), ∀ a x, ((![v1578] : Fin 1 → IVec S16 32) a x).toNat < S1280.size a := fun v1578 k0_hw585 => k0_hw585

def k0_chk581 (v1590 : IVec S16 32) : Prop :=
  (∀ a x, ((![v1590] : Fin 1 → IVec S16 32) a x).toNat < S19456.size a) ∧
  (∀ a x, ((![v1590] : Fin 1 → IVec S16 32) a x).toNat < S19456.size a)
theorem k0_idx773_inb : ∀ (v1590 : IVec S16 32) (k0_hw581 : k0_chk581 v1590), ∀ a x, ((![v1590] : Fin 1 → IVec S16 32) a x).toNat < S19456.size a := fun v1590 k0_hw581 => k0_hw581.1
theorem k0_idx778_inb : ∀ (v1590 : IVec S16 32) (k0_hw581 : k0_chk581 v1590), ∀ a x, ((![v1590] : Fin 1 → IVec S16 32) a x).toNat < S19456.size a := fun v1590 k0_hw581 => k0_hw581.2

def k0_chk586 (v1581 : IVec S16 32) : Prop :=
  (∀ a x, ((![v1581] : Fin 1 → IVec S16 32) a x).toNat < S1280.size a)
theorem k0_idx779_inb : ∀ (v1581 : IVec S16 32) (k0_hw586 : k0_chk586 v1581), ∀ a x, ((![v1581] : Fin 1 → IVec S16 32) a x).toNat < S1280.size a := fun v1581 k0_hw586 => k0_hw586

def k0_chk582 (v1593 : IVec S16 32) : Prop :=
  (∀ a x, ((![v1593] : Fin 1 → IVec S16 32) a x).toNat < S19456.size a) ∧
  (∀ a x, ((![v1593] : Fin 1 → IVec S16 32) a x).toNat < S19456.size a)
theorem k0_idx774_inb : ∀ (v1593 : IVec S16 32) (k0_hw582 : k0_chk582 v1593), ∀ a x, ((![v1593] : Fin 1 → IVec S16 32) a x).toNat < S19456.size a := fun v1593 k0_hw582 => k0_hw582.1
theorem k0_idx780_inb : ∀ (v1593 : IVec S16 32) (k0_hw582 : k0_chk582 v1593), ∀ a x, ((![v1593] : Fin 1 → IVec S16 32) a x).toNat < S19456.size a := fun v1593 k0_hw582 => k0_hw582.2

def k0_chk587 (v1584 : IVec S16 32) : Prop :=
  (∀ a x, ((![v1584] : Fin 1 → IVec S16 32) a x).toNat < S1280.size a)
theorem k0_idx781_inb : ∀ (v1584 : IVec S16 32) (k0_hw587 : k0_chk587 v1584), ∀ a x, ((![v1584] : Fin 1 → IVec S16 32) a x).toNat < S1280.size a := fun v1584 k0_hw587 => k0_hw587

def k0_chk583 (v1596 : IVec S16 32) : Prop :=
  (∀ a x, ((![v1596] : Fin 1 → IVec S16 32) a x).toNat < S19456.size a) ∧
  (∀ a x, ((![v1596] : Fin 1 → IVec S16 32) a x).toNat < S19456.size a)
theorem k0_idx775_inb : ∀ (v1596 : IVec S16 32) (k0_hw583 : k0_chk583 v1596), ∀ a x, ((![v1596] : Fin 1 → IVec S16 32) a x).toNat < S19456.size a := fun v1596 k0_hw583 => k0_hw583.1
theorem k0_idx782_inb : ∀ (v1596 : IVec S16 32) (k0_hw583 : k0_chk583 v1596), ∀ a x, ((![v1596] : Fin 1 → IVec S16 32) a x).toNat < S19456.size a := fun v1596 k0_hw583 => k0_hw583.2

def k0_chk588 (v1587 : IVec S16 32) : Prop :=
  (∀ a x, ((![v1587] : Fin 1 → IVec S16 32) a x).toNat < S1280.size a)
theorem k0_idx783_inb : ∀ (v1587 : IVec S16 32) (k0_hw588 : k0_chk588 v1587), ∀ a x, ((![v1587] : Fin 1 → IVec S16 32) a x).toNat < S1280.size a := fun v1587 k0_hw588 => k0_hw588

def k0_chk584 (v1599 : IVec S16 32) : Prop :=
  (∀ a x, ((![v1599] : Fin 1 → IVec S16 32) a x).toNat < S19456.size a) ∧
  (∀ a x, ((![v1599] : Fin 1 → IVec S16 32) a x).toNat < S19456.size a)
theorem k0_idx776_inb : ∀ (v1599 : IVec S16 32) (k0_hw584 : k0_chk584 v1599), ∀ a x, ((![v1599] : Fin 1 → IVec S16 32) a x).toNat < S19456.size a := fun v1599 k0_hw584 => k0_hw584.1
theorem k0_idx784_inb : ∀ (v1599 : IVec S16 32) (k0_hw584 : k0_chk584 v1599), ∀ a x, ((![v1599] : Fin 1 → IVec S16 32) a x).toNat < S19456.size a := fun v1599 k0_hw584 => k0_hw584.2

def k0_chk589 (v1609 : IVec S16 32) : Prop :=
  (∀ a x, ((![v1609] : Fin 1 → IVec S16 32) a x).toNat < S25600.size a)
theorem k0_idx785_inb : ∀ (v1609 : IVec S16 32) (k0_hw589 : k0_chk589 v1609), ∀ a x, ((![v1609] : Fin 1 → IVec S16 32) a x).toNat < S25600.size a := fun v1609 k0_hw589 => k0_hw589

def k0_chk590 (v1612 : IVec S16 32) : Prop :=
  (∀ a x, ((![v1612] : Fin 1 → IVec S16 32) a x).toNat < S25600.size a)
theorem k0_idx786_inb : ∀ (v1612 : IVec S16 32) (k0_hw590 : k0_chk590 v1612), ∀ a x, ((![v1612] : Fin 1 → IVec S16 32) a x).toNat < S25600.size a := fun v1612 k0_hw590 => k0_hw590

def k0_chk591 (v1615 : IVec S16 32) : Prop :=
  (∀ a x, ((![v1615] : Fin 1 → IVec S16 32) a x).toNat < S25600.size a)
theorem k0_idx787_inb : ∀ (v1615 : IVec S16 32) (k0_hw591 : k0_chk591 v1615), ∀ a x, ((![v1615] : Fin 1 → IVec S16 32) a x).toNat < S25600.size a := fun v1615 k0_hw591 => k0_hw591

def k0_chk592 (v1618 : IVec S16 32) : Prop :=
  (∀ a x, ((![v1618] : Fin 1 → IVec S16 32) a x).toNat < S25600.size a)
theorem k0_idx788_inb : ∀ (v1618 : IVec S16 32) (k0_hw592 : k0_chk592 v1618), ∀ a x, ((![v1618] : Fin 1 → IVec S16 32) a x).toNat < S25600.size a := fun v1618 k0_hw592 => k0_hw592

def k0_chk597 (v1610 : IVec S16 32) : Prop :=
  (∀ a x, ((![v1610] : Fin 1 → IVec S16 32) a x).toNat < S1280.size a)
theorem k0_idx793_inb : ∀ (v1610 : IVec S16 32) (k0_hw597 : k0_chk597 v1610), ∀ a x, ((![v1610] : Fin 1 → IVec S16 32) a x).toNat < S1280.size a := fun v1610 k0_hw597 => k0_hw597

def k0_chk593 (v1622 : IVec S16 32) : Prop :=
  (∀ a x, ((![v1622] : Fin 1 → IVec S16 32) a x).toNat < S19456.size a) ∧
  (∀ a x, ((![v1622] : Fin 1 → IVec S16 32) a x).toNat < S19456.size a)
theorem k0_idx789_inb : ∀ (v1622 : IVec S16 32) (k0_hw593 : k0_chk593 v1622), ∀ a x, ((![v1622] : Fin 1 → IVec S16 32) a x).toNat < S19456.size a := fun v1622 k0_hw593 => k0_hw593.1
theorem k0_idx794_inb : ∀ (v1622 : IVec S16 32) (k0_hw593 : k0_chk593 v1622), ∀ a x, ((![v1622] : Fin 1 → IVec S16 32) a x).toNat < S19456.size a := fun v1622 k0_hw593 => k0_hw593.2

def k0_chk598 (v1613 : IVec S16 32) : Prop :=
  (∀ a x, ((![v1613] : Fin 1 → IVec S16 32) a x).toNat < S1280.size a)
theorem k0_idx795_inb : ∀ (v1613 : IVec S16 32) (k0_hw598 : k0_chk598 v1613), ∀ a x, ((![v1613] : Fin 1 → IVec S16 32) a x).toNat < S1280.size a := fun v1613 k0_hw598 => k0_hw598

def k0_chk594 (v1625 : IVec S16 32) : Prop :=
  (∀ a x, ((![v1625] : Fin 1 → IVec S16 32) a x).toNat < S19456.size a) ∧
  (∀ a x, ((![v1625] : Fin 1 → IVec S16 32) a x).toNat < S19456.size a)
theorem k0_idx790_inb : ∀ (v1625 : IVec S16 32) (k0_hw594 : k0_chk594 v1625), ∀ a x, ((![v1625] : Fin 1 → IVec S16 32) a x).toNat < S19456.size a := fun v1625 k0_hw594 => k0_hw594.1
theorem k0_idx796_inb : ∀ (v1625 : IVec S16 32) (k0_hw594 : k0_chk594 v1625), ∀ a x, ((![v1625] : Fin 1 → IVec S16 32) a x).toNat < S19456.size a := fun v1625 k0_hw594 => k0_hw594.2

def k0_chk599 (v1616 : IVec S16 32) : Prop :=
  (∀ a x, ((![v1616] : Fin 1 → IVec S16 32) a x).toNat < S1280.size a)
theorem k0_idx797_inb : ∀ (v1616 : IVec S16 32) (k0_hw599 : k0_chk599 v1616), ∀ a x, ((![v1616] : Fin 1 → IVec S16 32) a x).toNat < S1280.size a := fun v1616 k0_hw599 => k0_hw599

def k0_chk595 (v1628 : IVec S16 32) : Prop :=
  (∀ a x, ((![v1628] : Fin 1 → IVec S16 32) a x).toNat < S19456.size a) ∧
  (∀ a x, ((![v1628] : Fin 1 → IVec S16 32) a x).toNat < S19456.size a)
theorem k0_idx791_inb : ∀ (v1628 : IVec S16 32) (k0_hw595 : k0_chk595 v1628), ∀ a x, ((![v1628] : Fin 1 → IVec S16 32) a x).toNat < S19456.size a := fun v1628 k0_hw595 => k0_hw595.1
theorem k0_idx798_inb : ∀ (v1628 : IVec S16 32) (k0_hw595 : k0_chk595 v1628), ∀ a x, ((![v1628] : Fin 1 → IVec S16 32) a x).toNat < S19456.size a := fun v1628 k0_hw595 => k0_hw595.2

def k0_chk600 (v1619 : IVec S16 32) : Prop :=
  (∀ a x, ((![v1619] : Fin 1 → IVec S16 32) a x).toNat < S1280.size a)
theorem k0_idx799_inb : ∀ (v1619 : IVec S16 32) (k0_hw600 : k0_chk600 v1619), ∀ a x, ((![v1619] : Fin 1 → IVec S16 32) a x).toNat < S1280.size a := fun v1619 k0_hw600 => k0_hw600

def k0_chk596 (v1631 : IVec S16 32) : Prop :=
  (∀ a x, ((![v1631] : Fin 1 → IVec S16 32) a x).toNat < S19456.size a) ∧
  (∀ a x, ((![v1631] : Fin 1 → IVec S16 32) a x).toNat < S19456.size a)
theorem k0_idx792_inb : ∀ (v1631 : IVec S16 32) (k0_hw596 : k0_chk596 v1631), ∀ a x, ((![v1631] : Fin 1 → IVec S16 32) a x).toNat < S19456.size a := fun v1631 k0_hw596 => k0_hw596.1
theorem k0_idx800_inb : ∀ (v1631 : IVec S16 32) (k0_hw596 : k0_chk596 v1631), ∀ a x, ((![v1631] : Fin 1 → IVec S16 32) a x).toNat < S19456.size a := fun v1631 k0_hw596 => k0_hw596.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r0 : BitVec 32 := 0#32
  ![v1.toNat, 0]
abbrev grid1 : Pipeline.Grid := .none

abbrev stage1_0 : Fin 1 → Memref sig .tc .vmem S32x1280 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1280 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S16384 : Shape := ⟨1, ![16384]⟩
abbrev S16384x1 : Shape := ⟨2, ![16384, 1]⟩
abbrev S_ : Shape := ⟨0, ![]⟩
abbrev S16384x1203 : Shape := ⟨2, ![16384, 1203]⟩
abbrev S16384x50x1 : Shape := ⟨3, ![16384, 50, 1]⟩
abbrev S16384x50x2 : Shape := ⟨3, ![16384, 50, 2]⟩
abbrev S1203 : Shape := ⟨1, ![1203]⟩

abbrev nBuf : Space → Nat
  | .hbm => 48
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1203, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S16384x50, .i32⟩
  | .hbm, ⟨14, _⟩ => ⟨S16384x50, .i1⟩
  | .hbm, ⟨15, _⟩ => ⟨S_, .i32⟩
  | .hbm, ⟨16, _⟩ => ⟨S16384x50, .i32⟩
  | .hbm, ⟨17, _⟩ => ⟨S16384x50, .i32⟩
  | .hbm, ⟨18, _⟩ => ⟨S16384x50, .i32⟩
  | .hbm, ⟨19, _⟩ => ⟨S16384x50, .i32⟩
  | .hbm, ⟨20, _⟩ => ⟨S16384x50x1, .i32⟩
  | .hbm, ⟨21, _⟩ => ⟨S16384x50x1, .i32⟩
  | .hbm, ⟨22, _⟩ => ⟨S16384x50x2, .i32⟩
  | .hbm, ⟨23, _⟩ => ⟨S_, .i32⟩
  | .hbm, ⟨24, _⟩ => ⟨S16384x50, .i32⟩
  | .hbm, ⟨25, _⟩ => ⟨S16384x1203, .i32⟩
  | .hbm, ⟨26, _⟩ => ⟨S_, .i32⟩
  | .hbm, ⟨27, _⟩ => ⟨S16384x1203, .i32⟩
  | .hbm, ⟨28, _⟩ => ⟨S16384x1203, .i1⟩
  | .hbm, ⟨29, _⟩ => ⟨S_, .i32⟩
  | .hbm, ⟨30, _⟩ => ⟨S_, .i32⟩
  | .hbm, ⟨31, _⟩ => ⟨S16384x1203, .i32⟩
  | .hbm, ⟨32, _⟩ => ⟨S16384x1203, .i32⟩
  | .hbm, ⟨33, _⟩ => ⟨S16384x1203, .i32⟩
  | .hbm, ⟨34, _⟩ => ⟨S16384x1203, .i32⟩
  | .hbm, ⟨35, _⟩ => ⟨S_, .i32⟩
  | .hbm, ⟨36, _⟩ => ⟨S1203, .i32⟩
  | .hbm, ⟨37, _⟩ => ⟨S1203, .f32⟩
  | .hbm, ⟨38, _⟩ => ⟨S_, .f32⟩
  | .hbm, ⟨39, _⟩ => ⟨S1203, .f32⟩
  | .hbm, ⟨40, _⟩ => ⟨S1203, .f32⟩
  | .hbm, ⟨41, _⟩ => ⟨S_, .f32⟩
  | .hbm, ⟨42, _⟩ => ⟨S1203, .f32⟩
  | .hbm, ⟨43, _⟩ => ⟨S1203, .f32⟩
  | .hbm, ⟨44, _⟩ => ⟨S1203, .f32⟩
  | .hbm, ⟨45, _⟩ => ⟨S_, .f32⟩
  | .hbm, ⟨46, _⟩ => ⟨S1203, .f32⟩
  | .hbm, ⟨47, _⟩ => ⟨S1203, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_c_7 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Steps.lean ====
/-
  The region of the kernel's counting loop, read as fifty equal steps. The kernel reads fifty columns one after
  another, each with the same operations; this module names those operations once and shows the printed region is
  the fifty of them in order.
-/
module

public import proofs.«01_k».proof.Proof.Gen.KernelIdeal

@[expose] public section

noncomputable section

namespace Cert.KernelIdeal.Hist

open Idealize.ShloMosaic Idealize.ShloMosaic.TcCoe Idealize.SL.Sem
open Facts₀ Facts

variable {F : FTy → Type} [FloatOps F] [Facts₀] [Facts]

/-- A program of one vector subcore of the kernel's grid. -/
abbrev TP (F : FTy → Type) [Facts₀] (i : grid0.Coords) (α : Type) :=
  Prog (TpuEff nD τ sig (Elt F) Λ₀ (.scVector ((i 0).castLE hcore0) ((i 1).castLE hsub0))) α

/-- One read of a column of the input chunk: sixteen images at once, with the checks made of the
    addresses and of the classes read. -/
def readCol (i : grid0.Coords) (arg4 : Memref sig .scVector .vmem S25600 .i32) (d : IVec S16 32) (j : BitVec 32) :
    TP F i (Σ' (c : IVec S16 32), k0_chk9 c) := do
  have h : k0_chk1 (addi d (broadcast S16 j)) := (← Prog.lift (TpuEff.assume (k0_chk1 (addi d (broadcast S16 j))) (k0_chk1.dec _))).down
  let c : Vec F S16 .i32 ← SparseCore.vectorLoadIdx arg4 ![addi d (broadcast S16 j)] (k0_idx1_inb _ h) (View.loads_vmem h_S25600)
  have h' : k0_chk9 c := (← Prog.lift (TpuEff.assume (k0_chk9 c) (k0_chk9.dec c))).down
  pure ⟨c, h'⟩

/-- The marker addresses of sixteen classes: sixteen times the class, plus the lane. -/
def mark (v5 c : IVec S16 32) : IVec S16 32 := addi (shli c (broadcast S16 4#32)) v5

/-- The check made of marker addresses. -/
def checkMark (i : grid0.Coords) (v5 c : IVec S16 32) : TP F i (PLift (k0_chk5 (mark v5 c))) :=
  Prog.lift (TpuEff.assume (k0_chk5 (mark v5 c)) (k0_chk5.dec _))

/-- One column of the four streams: the classes, their markers, then per stream the masked count and the stamp. -/
def stepK (i : grid0.Coords) (arg4 : Memref sig .scVector .vmem S25600 .i32)
    (arg5 arg6 arg7 arg8 : Memref sig .scVector .vmem S19456 .i32) (arg9 : Memref sig .scVector .vmem S1280 .i32)
    (v5 v6 v19 d0 d1 d2 d3 : IVec S16 32) (j : BitVec 32) : TP F i PUnit := do
  let ⟨c0, g0⟩ ← readCol i arg4 d0 j
  let ⟨c1, g1⟩ ← readCol i arg4 d1 j
  let ⟨c2, g2⟩ ← readCol i arg4 d2 j
  let ⟨c3, g3⟩ ← readCol i arg4 d3 j
  let h0 ← checkMark i v5 c0
  let h1 ← checkMark i v5 c1
  let h2 ← checkMark i v5 c2
  let h3 ← checkMark i v5 c3
  let m0 : Vec F S16 .i32 ← SparseCore.vectorLoadIdx arg5 ![mark v5 c0] (k0_idx5_inb _ h0.down) (View.loads_vmem h_S19456)
  let m1 : Vec F S16 .i32 ← SparseCore.vectorLoadIdx arg6 ![mark v5 c1] (k0_idx5_inb _ h1.down) (View.loads_vmem h_S19456)
  let m2 : Vec F S16 .i32 ← SparseCore.vectorLoadIdx arg7 ![mark v5 c2] (k0_idx5_inb _ h2.down) (View.loads_vmem h_S19456)
  let m3 : Vec F S16 .i32 ← SparseCore.vectorLoadIdx arg8 ![mark v5 c3] (k0_idx5_inb _ h3.down) (View.loads_vmem h_S19456)
  SparseCore.vectorStoreIdx arg9 ![c0] v6 (cmpi .ne m0 v19) true (k0_idx9_inb _ g0) (View.stores_vmem_bits_univ h_S1280 rfl)
  SparseCore.vectorStoreIdx arg5 ![mark v5 c0] v19 (fun _ => 1#1) false (k0_idx5_inb _ h0.down) (View.stores_vmem_bits_univ h_S19456 rfl)
  SparseCore.vectorStoreIdx arg9 ![c1] v6 (cmpi .ne m1 v19) true (k0_idx9_inb _ g1) (View.stores_vmem_bits_univ h_S1280 rfl)
  SparseCore.vectorStoreIdx arg6 ![mark v5 c1] v19 (fun _ => 1#1) false (k0_idx5_inb _ h1.down) (View.stores_vmem_bits_univ h_S19456 rfl)
  SparseCore.vectorStoreIdx arg9 ![c2] v6 (cmpi .ne m2 v19) true (k0_idx9_inb _ g2) (View.stores_vmem_bits_univ h_S1280 rfl)
  SparseCore.vectorStoreIdx arg7 ![mark v5 c2] v19 (fun _ => 1#1) false (k0_idx5_inb _ h2.down) (View.stores_vmem_bits_univ h_S19456 rfl)
  SparseCore.vectorStoreIdx arg9 ![c3] v6 (cmpi .ne m3 v19) true (k0_idx9_inb _ g3) (View.stores_vmem_bits_univ h_S1280 rfl)
  SparseCore.vectorStoreIdx arg8 ![mark v5 c3] v19 (fun _ => 1#1) false (k0_idx5_inb _ h3.down) (View.stores_vmem_bits_univ h_S19456 rfl)
  pure ⟨⟩

/-- `n` columns from column `j` on. -/
def stepsK (i : grid0.Coords) (arg4 : Memref sig .scVector .vmem S25600 .i32)
    (arg5 arg6 arg7 arg8 : Memref sig .scVector .vmem S19456 .i32) (arg9 : Memref sig .scVector .vmem S1280 .i32)
    (v5 v6 v19 d0 d1 d2 d3 : IVec S16 32) : Nat → Nat → TP F i PUnit
  | _, 0 => pure ⟨⟩
  | j, n + 1 => do
    stepK i arg4 arg5 arg6 arg7 arg8 arg9 v5 v6 v19 d0 d1 d2 d3 (BitVec.ofNat 32 j)
    stepsK i arg4 arg5 arg6 arg7 arg8 arg9 v5 v6 v19 d0 d1 d2 d3 (j + 1) n

/-- The loop's induction word at trip `t`. -/
def trip (t : Fin k0_t3_loop.trips) : BitVec 32 := Scf.iv 0#32 1#32 t
/-- The row offset of the trip at each lane, which is also the stamp: lane plus trip, modulo eight. -/
def stamp (v5 : IVec S16 32) (t : Fin k0_t3_loop.trips) : IVec S16 32 :=
  andi (addi v5 (broadcast S16 (trip t))) (broadcast S16 7#32)
/-- The address of a stream's row at the trip, per lane: the lane's chunk, the stream's quarter, the row. -/
def rowAt (v5 v14 : IVec S16 32) (q : BitVec 32) (t : Fin k0_t3_loop.trips) : IVec S16 32 :=
  addi (addi v14 (broadcast S16 q)) (muli (stamp v5 t) (broadcast S16 50#32))

/-- One aligned store of sixteen words, after the load of the same words that the kernel makes before it. -/
def put (i : grid0.Coords) {N : Nat} (arg : Memref sig .scVector .vmem ⟨1, ![N]⟩ .i32) (off : Fin 1 → Nat)
    (h : ∀ a, off a + S16.size a ≤ (⟨1, ![N]⟩ : Shape).size a) (v : IVec S16 32) : TP F i PUnit := do
  let _ : Vec F S16 .i32 ← Prog.lift (.load arg (Rect.unit (s := ⟨1, ![N]⟩) off S16.size h).toLoadRect (View.loadsAt_vmem h_S16))
  Prog.lift (.store arg (Rect.unit (s := ⟨1, ![N]⟩) off S16.size h) v Finset.univ (View.stores_vmem_bits_univ h_S16 rfl) (.inl rfl))

/-- Groups of sixteen words of one trip of the loop that fills the four marker buffers. -/
def fillsK (i : grid0.Coords) (arg5 arg6 arg7 arg8 : Memref sig .scVector .vmem S19456 .i32) (v : IVec S16 32)
    (t : Fin k0_t1_loop.trips) : List (Fin 8) → TP F i PUnit
  | [] => pure ⟨⟩
  | r :: rs => do
    put i arg5 (k0_off2 t (BitVec.ofNat 32 (16 * r.val))) (k0_off2_inb t r) v
    put i arg6 (k0_off2 t (BitVec.ofNat 32 (16 * r.val))) (k0_off2_inb t r) v
    put i arg7 (k0_off2 t (BitVec.ofNat 32 (16 * r.val))) (k0_off2_inb t r) v
    put i arg8 (k0_off2 t (BitVec.ofNat 32 (16 * r.val))) (k0_off2_inb t r) v
    fillsK i arg5 arg6 arg7 arg8 v t rs

/-- Groups of sixteen words of one trip of the loop that clears the histogram. -/
def clearsK (i : grid0.Coords) (arg9 : Memref sig .scVector .vmem S1280 .i32) (v : IVec S16 32)
    (t : Fin k0_t2_loop.trips) : List (Fin 8) → TP F i PUnit
  | [] => pure ⟨⟩
  | r :: rs => do
    put i arg9 (k0_off3 t (BitVec.ofNat 32 (16 * r.val))) (k0_off3_inb t r) v
    clearsK i arg9 v t rs

/-- The sixteen lane numbers. -/
abbrev lanes : IVec S16 32 := iota .scVector S16 32 [0] iota_S16_d0_w32_scVector

/-- The tile's chunk of the flat input. -/
abbrev chunkM (i : grid0.Coords) (arg2 : Memref sig .scVector .hbm S819200 .i32) : Memref sig .scVector .hbm S25600 .i32 :=
  arg2.slice (Rect.unit (s := S819200) (k0_off1 i) S25600.size (k0_off1_inb i)) (fun _ => rfl)
/-- The tile's row of the table of counts. -/
abbrev rowM (i : grid0.Coords) (arg3 : Memref sig .scVector .hbm S32x1280 .i32) : Memref sig .scVector .hbm S1280 .i32 :=
  (arg3.slice (Rect.unit (s := S32x1280) (k0_off4 i) S1x1280.size (k0_off4_inb i)) (fun _ => rfl)).squeeze S1280 squeezes_S1x1280_S1280

/-- The kernel's body over the named steps: start the copy of the chunk in, fill the markers, clear the histogram,
    wait for the chunk, count in eight trips of fifty columns, copy the histogram out. -/
def bodyK (i : grid0.Coords) (arg2 : Memref sig .scVector .hbm S819200 .i32) (arg3 : Memref sig .scVector .hbm S32x1280 .i32)
    (arg4 : Memref sig .scVector .vmem S25600 .i32) (harg4 : arg4.IsWhole)
    (arg5 arg6 arg7 arg8 : Memref sig .scVector .vmem S19456 .i32)
    (arg9 : Memref sig .scVector .vmem S1280 .i32) (harg9 : arg9.IsWhole) (arg10 : DmaSems sig S_) (v16_r0 : DmaSems sig S_) :
    TP F i PUnit := do
  Prog.lift (.enqueueDma (chunkM i arg2) (.here arg4) (.dma arg10.sem) (View.wordExact_bits rfl) harg4.wordExact ⟨Or.inl rfl, trivial⟩)
  Scf.Loop.for k0_t1_loop k0_t1_ok ⟨⟩ fun t _ =>
    fillsK i arg5 arg6 arg7 arg8 (broadcast S16 4294967295#32) t [0, 1, 2, 3, 4, 5, 6, 7]
  Scf.Loop.for k0_t2_loop k0_t2_ok ⟨⟩ fun t _ =>
    clearsK i arg9 (broadcast S16 0#32) t [0, 1, 2, 3, 4, 5, 6, 7]
  Prog.lift (.waitDma2 arg10.sem (chunkM i arg2) arg4 (View.wordExact_bits rfl) harg4.wordExact)
  Scf.Loop.for k0_t3_loop k0_t3_ok ⟨⟩ fun t _ =>
    stepsK i arg4 arg5 arg6 arg7 arg8 arg9 lanes (broadcast S16 1#32) (stamp lanes t)
      (rowAt lanes (muli lanes (broadcast S16 1600#32)) 0#32 t) (rowAt lanes (muli lanes (broadcast S16 1600#32)) 400#32 t)
      (rowAt lanes (muli lanes (broadcast S16 1600#32)) 800#32 t) (rowAt lanes (muli lanes (broadcast S16 1600#32)) 1200#32 t) 0 50
  Prog.lift (.enqueueDma arg9 (.here (rowM i arg3)) (.dma v16_r0.sem) harg9.wordExact ((View.wordExact_bits rfl).reshape _ _) ⟨Or.inl rfl, trivial⟩)
  Prog.lift (.waitDma2 v16_r0.sem arg9 (rowM i arg3) harg9.wordExact ((View.wordExact_bits rfl).reshape _ _))
  pure ⟨⟩

set_option maxRecDepth 100000 in
set_option maxHeartbeats 0 in
/-- The printed body is the body over the named steps: every operation the same, in the same order. -/
theorem body_eq (i : grid0.Coords) (arg2 : Memref sig .scVector .hbm S819200 .i32) (harg2 : arg2.IsWhole)
    (arg3 : Memref sig .scVector .hbm S32x1280 .i32) (harg3 : arg3.IsWhole)
    (arg4 : Memref sig .scVector .vmem S25600 .i32) (harg4 : arg4.IsWhole)
    (arg5 : Memref sig .scVector .vmem S19456 .i32) (harg5 : arg5.IsWhole)
    (arg6 : Memref sig .scVector .vmem S19456 .i32) (harg6 : arg6.IsWhole)
    (arg7 : Memref sig .scVector .vmem S19456 .i32) (harg7 : arg7.IsWhole)
    (arg8 : Memref sig .scVector .vmem S19456 .i32) (harg8 : arg8.IsWhole)
    (arg9 : Memref sig .scVector .vmem S1280 .i32) (harg9 : arg9.IsWhole)
    (arg10 : DmaSems sig S_) (v16_r0 : DmaSems sig S_) :
    cc0__sc_hist_body (F := F) i arg2 harg2 arg3 harg3 arg4 harg4 arg5 harg5 arg6 harg6 arg7 harg7 arg8 harg8 arg9 harg9 arg10 v16_r0
      = bodyK i arg2 arg3 arg4 harg4 arg5 arg6 arg7 arg8 arg9 harg9 arg10 v16_r0 := rfl

end Cert.KernelIdeal.Hist
-- ==== Proof.Counting.lean ====
/-
  What the indexed stores of the kernel leave, and the count they add up to. A row is counted for a class once: each
  lane keeps a marker word per class, stamped with the row's stamp when the class is first met in the row.
-/
module

public import Idealize.ShloMosaic.PureOps.ShapeOps
public import Idealize.ShloMosaic.PureOps.Vector
public import Mathlib.Algebra.BigOperators.Fin
public import Mathlib.Tactic.IntervalCases

@[expose] public section

namespace Cert.Counting

open Idealize.ShloMosaic

/-- The word at position `n` of a one-axis array, zero past its end. -/
def at1 {N : ℕ} (f : (⟨1, ![N]⟩ : Shape).Idx → BitVec 32) (n : ℕ) : BitVec 32 :=
  if h : n < N then f (Shape.ofLane (d := ![N]) ⟨n, h⟩) else 0

/-- An index of a one-axis array is that of its one coordinate. -/
theorem idx_eq {N : ℕ} (j : (⟨1, ![N]⟩ : Shape).Idx) : j = Shape.ofLane (d := ![N]) (j 0) := by
  funext a
  obtain rfl : a = 0 := Subsingleton.elim _ _
  rfl

/-- An array read at an index is the array read at the index's one coordinate. -/
theorem apply_eq_at1 {N : ℕ} (f : (⟨1, ![N]⟩ : Shape).Idx → BitVec 32) (j : (⟨1, ![N]⟩ : Shape).Idx) :
    f j = at1 f (j 0).val := by
  have h : (j 0).val < N := (j 0).isLt
  unfold at1
  rw [dif_pos h]
  exact congrArg f (idx_eq j)

/-- Before the end it is the element. -/
theorem at1_of_lt {N : ℕ} (f : (⟨1, ![N]⟩ : Shape).Idx → BitVec 32) {n : ℕ} (h : n < N) :
    at1 f n = f (Shape.ofLane (d := ![N]) ⟨n, h⟩) := dif_pos h

/-- Arrays that agree at every position are equal. -/
theorem ext_at1 {N : ℕ} {f g : (⟨1, ![N]⟩ : Shape).Idx → BitVec 32} (h : ∀ n < N, at1 f n = at1 g n) : f = g := by
  funext j
  rw [apply_eq_at1 f, apply_eq_at1 g]
  exact h _ (j 0).isLt

/-- Sixteen lanes. -/
abbrev L16 : Shape := ⟨1, ![16]⟩
/-- The index of a lane. -/
abbrev ln (l : Fin 16) : L16.Idx := Shape.ofLane (d := ![16]) l

/-- Every index of sixteen lanes is a lane's. -/
theorem eq_ln (x : L16.Idx) : ∃ l : Fin 16, x = ln l := ⟨x 0, idx_eq x⟩

variable {F : FTy → Type} [FloatOps F]

/-- A gather reads, at each lane, the position its index word names. -/
theorem loadIdx_ln {N : ℕ} (f : Vec F ⟨1, ![N]⟩ .i32) (v : IVec L16 32)
    (h : ∀ a x, ((![v] : Fin 1 → IVec L16 32) a x).toNat < (⟨1, ![N]⟩ : Shape).size a) (l : Fin 16) :
    loadIdx (e := .i32) f (![v] : Fin 1 → IVec L16 32) h (ln l) = at1 f (v (ln l)).toNat :=
  apply_eq_at1 f _

/-- One lane of a store. -/
theorem hit {N : ℕ} (v : IVec L16 32)
    (h : ∀ a x, ((![v] : Fin 1 → IVec L16 32) a x).toNat < (⟨1, ![N]⟩ : Shape).size a) (l : Fin 16) {n : ℕ} (hn : n < N) :
    (∀ a, ((Shape.ofLane (d := ![N]) ⟨n, hn⟩ : (⟨1, ![N]⟩ : Shape).Idx) a).val
        = (idxAt (s := ⟨1, ![N]⟩) (![v] : Fin 1 → IVec L16 32) h (ln l) a).val) ↔ (v (ln l)).toNat = n := by
  constructor
  · intro e; exact (e 0).symm
  · intro e a
    obtain rfl : a = 0 := Subsingleton.elim _ _
    exact e.symm

/-- A masked adding store of ones: each position gains the number of set lanes that name it. -/
theorem at1_storeIdx_add {N : ℕ} (f : Vec F ⟨1, ![N]⟩ .i32) (v : IVec L16 32) (mask : IVec L16 1)
    (h : ∀ a x, ((![v] : Fin 1 → IVec L16 32) a x).toNat < (⟨1, ![N]⟩ : Shape).size a) {n : ℕ} (hn : n < N) :
    at1 (storeIdx (F := F) (e := .i32) f (![v] : Fin 1 → IVec L16 32) (broadcast L16 1#32 : Vec F L16 .i32) mask true h) n
      = at1 f n + BitVec.ofNat 32 (Finset.univ.filter fun l : Fin 16 => mask (ln l) = 1 ∧ (v (ln l)).toNat = n).card := by
  have key : ∀ (L : List (Fin 16)) (g : Vec F ⟨1, ![N]⟩ .i32),
      at1 (L.foldl (fun g k =>
        if mask (ln k) = 1 then
          fun j : (⟨1, ![N]⟩ : Shape).Idx => if (∀ a, (j a).val = (idxAt (s := ⟨1, ![N]⟩) (![v] : Fin 1 → IVec L16 32) h (ln k) a).val)
            then g (idxAt (s := ⟨1, ![N]⟩) (![v] : Fin 1 → IVec L16 32) h (ln k)) + 1#32 else g j
        else g) g) n
      = at1 g n + BitVec.ofNat 32 (L.countP fun l => decide (mask (ln l) = 1 ∧ (v (ln l)).toNat = n)) := by
    intro L
    induction L with
    | nil => intro g; simp
    | cons k L ih =>
      intro g
      rw [List.foldl_cons, ih, List.countP_cons]
      by_cases hm : mask (ln k) = 1
      · rw [if_pos hm, at1_of_lt _ hn]
        simp only [hit v h k hn]
        by_cases he : (v (ln k)).toNat = n
        · have : idxAt (s := ⟨1, ![N]⟩) (![v] : Fin 1 → IVec L16 32) h (ln k) = Shape.ofLane (d := ![N]) ⟨n, hn⟩ := by
            funext a; apply Fin.ext
            exact ((hit v h k hn).2 he a).symm
          rw [if_pos he, this, if_pos (by simp [hm, he]), at1_of_lt _ hn, BitVec.ofNat_add]
          ac_rfl
        · rw [if_neg he, if_neg (by simp [he]), at1_of_lt _ hn]; rfl
      · rw [if_neg hm, if_neg (by rw [decide_eq_true_eq]; exact fun e => hm e.1)]; rfl
  have hc : (Finset.univ.filter fun l : Fin 16 => mask (ln l) = 1 ∧ (v (ln l)).toNat = n).card
      = (List.finRange 16).countP fun l => decide (mask (ln l) = 1 ∧ (v (ln l)).toNat = n) := by
    rw [List.countP_eq_length_filter]; rfl
  rw [hc]
  exact key (List.finRange 16) f

/-- A full store at distinct addresses: the named positions take their lane's word, the others keep theirs. -/
theorem at1_storeIdx {N : ℕ} (f : Vec F ⟨1, ![N]⟩ .i32) (v w : IVec L16 32)
    (h : ∀ a x, ((![v] : Fin 1 → IVec L16 32) a x).toNat < (⟨1, ![N]⟩ : Shape).size a) {n : ℕ} (hn : n < N) (l : Fin 16)
    (hl : ∀ k, (v (ln k)).toNat = n → k = l) :
    at1 (storeIdx (F := F) (e := .i32) f (![v] : Fin 1 → IVec L16 32) (w : Vec F L16 .i32) (fun _ => 1#1) false h) n
      = if (v (ln l)).toNat = n then w (ln l) else at1 f n := by
  have key : ∀ (L : List (Fin 16)) (g : Vec F ⟨1, ![N]⟩ .i32),
      at1 (L.foldl (fun g k =>
          fun j : (⟨1, ![N]⟩ : Shape).Idx => if (∀ a, (j a).val = (idxAt (s := ⟨1, ![N]⟩) (![v] : Fin 1 → IVec L16 32) h (ln k) a).val)
            then w (ln k) else g j) g) n
      = if l ∈ L ∧ (v (ln l)).toNat = n then w (ln l) else at1 g n := by
    intro L
    induction L with
    | nil => intro g; simp
    | cons k L ih =>
      intro g
      rw [List.foldl_cons, ih, at1_of_lt _ hn]
      simp only [hit v h k hn]
      by_cases he : (v (ln k)).toNat = n
      · obtain rfl := hl k he
        simp [he]
      · by_cases hlk : l = k
        · subst hlk
          simp [he, at1_of_lt g hn]
        · simp [he, hlk, at1_of_lt g hn]
  have := key (List.finRange 16) f
  simp only [List.mem_finRange, true_and] at this
  exact this

/-! ## The count -/

/-- A class has been met among the first `j` columns of a row. -/
def Met (C : ℕ → ℕ) (j c : ℕ) : Prop := ∃ j' < j, C j' = c

/-- It can be decided, by trying the columns. -/
instance (C : ℕ → ℕ) (j c : ℕ) : Decidable (Met C j c) := by unfold Met; infer_instance

/-- Among no columns nothing is met. -/
theorem met_zero (C : ℕ → ℕ) (c : ℕ) : ¬ Met C 0 c := fun ⟨_, h, _⟩ => absurd h (Nat.not_lt_zero _)
/-- One column more meets its own class beside those met before. -/
theorem met_succ (C : ℕ → ℕ) (j c : ℕ) : Met C (j + 1) c ↔ Met C j c ∨ C j = c := by
  unfold Met
  constructor
  · rintro ⟨j', h, e⟩
    rcases Nat.lt_succ_iff_lt_or_eq.1 h with h | rfl
    · exact .inl ⟨j', h, e⟩
    · exact .inr e
  · rintro (⟨j', h, e⟩ | e)
    · exact ⟨j', by omega, e⟩
    · exact ⟨j, by omega, e⟩

/-- Rows of one lane counted for a class once `r` rows are done and `j` columns of the next. -/
def cnt (C : ℕ → ℕ → ℕ) (r j c : ℕ) : ℕ :=
  ((Finset.range r).filter fun r' => Met (C r') 50 c).card + if Met (C r) j c then 1 else 0

/-- The same over sixteen lanes. -/
def tot (C : Fin 16 → ℕ → ℕ → ℕ) (r j c : ℕ) : ℕ := ∑ l, cnt (C l) r j c

/-- The lanes that count class `c` at column `j`: those that read it there for the first time in their row. -/
def fresh (C : Fin 16 → ℕ → ℕ → ℕ) (r j c : ℕ) : ℕ :=
  (Finset.univ.filter fun l : Fin 16 => ¬ Met (C l r) j (C l r j) ∧ C l r j = c).card

/-- Before the first row nothing is counted. -/
theorem tot_zero (C : Fin 16 → ℕ → ℕ → ℕ) (c : ℕ) : tot C 0 0 c = 0 := by
  simp [tot, cnt, met_zero]

/-- One column on, the count grows by the lanes that meet the class there first. -/
theorem tot_succ (C : Fin 16 → ℕ → ℕ → ℕ) (r j c : ℕ) : tot C r (j + 1) c = tot C r j c + fresh C r j c := by
  unfold tot fresh
  rw [Finset.card_filter, ← Finset.sum_add_distrib]
  refine Finset.sum_congr rfl fun l _ => ?_
  unfold cnt
  rw [Nat.add_assoc]
  congr 1
  by_cases h1 : Met (C l r) j c <;> by_cases h2 : C l r j = c
  · subst h2; simp [met_succ, h1]
  · simp [met_succ, h1, h2]
  · subst h2; simp [met_succ, h1]
  · simp [met_succ, h1, h2]

/-- All fifty columns of a row are the start of the next. -/
theorem tot_row (C : Fin 16 → ℕ → ℕ → ℕ) (r c : ℕ) : tot C (r + 1) 0 c = tot C r 50 c := by
  unfold tot
  refine Finset.sum_congr rfl fun l _ => ?_
  unfold cnt
  rw [Finset.range_add_one, Finset.filter_insert]
  by_cases h : Met (C l r) 50 c
  · rw [if_pos h, Finset.card_insert_of_notMem (by simp), if_neg (met_zero _ _), if_pos h]
  · rw [if_neg h, if_neg (met_zero _ _), if_neg h]

/-- The markers of one stream when `r` rows are done and `j` columns of the next: a lane's word for a class holds the
    row's stamp exactly when the class has been met in the row, and no later row's stamp. -/
def Marked (M : (⟨1, ![19456]⟩ : Shape).Idx → BitVec 32) (C : Fin 16 → ℕ → ℕ → ℕ) (r j : ℕ) : Prop :=
  ∀ (l : Fin 16) (c : ℕ), c < 1216 → ∀ r', r ≤ r' → r' < 8 →
    (at1 M (c * 16 + l.val) = BitVec.ofNat 32 ((l.val + r') % 8) ↔ r' = r ∧ Met (C l r) j c)

/-- Stamps of different rows differ on each lane. -/
theorem stamp_inj {l r r' : ℕ} (h : r < 8) (h' : r' < 8)
    (e : BitVec.ofNat 32 ((l + r) % 8) = BitVec.ofNat 32 ((l + r') % 8)) : r = r' := by
  have := congrArg BitVec.toNat e
  simp only [BitVec.toNat_ofNat] at this
  omega

/-- Before the first row every marker is minus one, no stamp. -/
theorem marked_init (M : (⟨1, ![19456]⟩ : Shape).Idx → BitVec 32) (C : Fin 16 → ℕ → ℕ → ℕ)
    (h : ∀ n < 19456, at1 M n = 4294967295#32) : Marked M C 0 0 := by
  intro l c hc r' _ _
  rw [h _ (by have := l.isLt; omega)]
  constructor
  · intro e
    have := congrArg BitVec.toNat e
    simp only [BitVec.toNat_ofNat] at this
    omega
  · rintro ⟨_, hm⟩; exact absurd hm (met_zero _ _)

/-- At a row's end the markers stand ready for the next row. -/
theorem marked_row {M : (⟨1, ![19456]⟩ : Shape).Idx → BitVec 32} {C : Fin 16 → ℕ → ℕ → ℕ} {r : ℕ}
    (h : Marked M C r 50) : Marked M C (r + 1) 0 := by
  intro l c hc r' hr hr8
  rw [h l c hc r' (by omega) hr8]
  constructor
  · rintro ⟨rfl, _⟩; omega
  · rintro ⟨_, hm⟩; exact absurd hm (met_zero _ _)

/-- What the kernel has at hand at column `j` of row `r` of one stream: the classes, their marker addresses, the
    stamps. -/
structure Reads (C : Fin 16 → ℕ → ℕ → ℕ) (r j : ℕ) (cv mv sv : IVec L16 32) : Prop where
  row : r < 8
  cls : ∀ l, (cv (ln l)).toNat = C l r j
  lt : ∀ l, C l r j < 1203
  adr : ∀ l, (mv (ln l)).toNat = C l r j * 16 + l.val
  stp : ∀ l, sv (ln l) = BitVec.ofNat 32 ((l.val + r) % 8)

/-- The stamping store keeps the markers' meaning, one column on. -/
theorem marked_step {M : Vec F ⟨1, ![19456]⟩ .i32} {C : Fin 16 → ℕ → ℕ → ℕ} {r j : ℕ} {cv mv sv : IVec L16 32}
    (R : Reads C r j cv mv sv) (hM : Marked M C r j)
    (h : ∀ a x, ((![mv] : Fin 1 → IVec L16 32) a x).toNat < (⟨1, ![19456]⟩ : Shape).size a) :
    Marked (storeIdx (F := F) (e := .i32) M (![mv] : Fin 1 → IVec L16 32) (sv : Vec F L16 .i32) (fun _ => 1#1) false h) C r (j + 1) := by
  intro l c hc r' hr hr8
  rw [at1_storeIdx (F := F) M mv sv h (n := c * 16 + l.val) (by have := l.isLt; omega) l (fun k hk => by
    rw [R.adr] at hk
    apply Fin.ext
    have := l.isLt; have := k.isLt; omega)]
  rw [R.adr, R.stp, met_succ]
  by_cases hcl : C l r j = c
  · rw [if_pos (by rw [hcl])]
    constructor
    · intro e; exact ⟨(stamp_inj R.row hr8 e).symm, .inr hcl⟩
    · rintro ⟨rfl, _⟩; rfl
  · rw [if_neg (by omega), hM l c hc r' hr hr8]
    simp [hcl]

/-- The counting store adds, at each class, the lanes that meet it for the first time in their row. -/
theorem count_step {M : Vec F ⟨1, ![19456]⟩ .i32} (H : Vec F ⟨1, ![1280]⟩ .i32) {C : Fin 16 → ℕ → ℕ → ℕ} {r j : ℕ} {cv mv sv : IVec L16 32}
    (R : Reads C r j cv mv sv) (hM : Marked M C r j)
    (h : ∀ a x, ((![mv] : Fin 1 → IVec L16 32) a x).toNat < (⟨1, ![19456]⟩ : Shape).size a)
    (h' : ∀ a x, ((![cv] : Fin 1 → IVec L16 32) a x).toNat < (⟨1, ![1280]⟩ : Shape).size a) {c : ℕ} (hc : c < 1280) :
    at1 (storeIdx (F := F) (e := .i32) H (![cv] : Fin 1 → IVec L16 32) (broadcast L16 1#32 : Vec F L16 .i32)
        (cmpi .ne (loadIdx (e := .i32) M (![mv] : Fin 1 → IVec L16 32) h : IVec L16 32) sv) true h') c
      = at1 H c + BitVec.ofNat 32 (fresh C r j c) := by
  rw [at1_storeIdx_add (F := F) H cv _ h' hc]
  congr 2
  unfold fresh
  congr 1
  refine Finset.filter_congr fun l _ => ?_
  rw [R.cls]
  refine and_congr_left fun _ => ?_
  show BitVec.ofBool (loadIdx (e := .i32) M (![mv] : Fin 1 → IVec L16 32) h (ln l) != sv (ln l)) = 1 ↔ _
  rw [loadIdx_ln, R.adr, R.stp]
  have := hM l (C l r j) (by have := R.lt l; omega) r le_rfl R.row
  simp only [true_and] at this
  rw [← this]
  by_cases e : at1 M (C l r j * 16 + l.val) = BitVec.ofNat 32 ((l.val + r) % 8)
  · simp [e]
  · simp only [e, not_false_eq_true, iff_true]
    rw [bne_iff_ne.2 e]; rfl

/-- The histogram of four streams when `r` rows of each lane are done and `j` columns of the next. -/
def Counted (H : (⟨1, ![1280]⟩ : Shape).Idx → BitVec 32) (C : Fin 4 → Fin 16 → ℕ → ℕ → ℕ) (r j : ℕ) : Prop :=
  ∀ c < 1280, at1 H c = BitVec.ofNat 32 (∑ s, tot (C s) r j c)

/-- A histogram of zeros is what stands before the first row. -/
theorem counted_init (H : (⟨1, ![1280]⟩ : Shape).Idx → BitVec 32) (C : Fin 4 → Fin 16 → ℕ → ℕ → ℕ)
    (h : ∀ n < 1280, at1 H n = 0#32) : Counted H C 0 0 := by
  intro c hc
  rw [h c hc]
  simp [tot_zero]

/-- At a row's end the histogram stands ready for the next row. -/
theorem counted_row {H : (⟨1, ![1280]⟩ : Shape).Idx → BitVec 32} {C : Fin 4 → Fin 16 → ℕ → ℕ → ℕ} {r : ℕ}
    (h : Counted H C r 50) : Counted H C (r + 1) 0 := by
  intro c hc
  rw [h c hc]
  simp only [tot_row]

/-- One column of all four streams. -/
theorem counted_step {H H' : (⟨1, ![1280]⟩ : Shape).Idx → BitVec 32} {C : Fin 4 → Fin 16 → ℕ → ℕ → ℕ} {r j : ℕ}
    (h : Counted H C r j)
    (he : ∀ c < 1280, at1 H' c = at1 H c + BitVec.ofNat 32 (fresh (C 0) r j c) + BitVec.ofNat 32 (fresh (C 1) r j c)
      + BitVec.ofNat 32 (fresh (C 2) r j c) + BitVec.ofNat 32 (fresh (C 3) r j c)) : Counted H' C r (j + 1) := by
  intro c hc
  rw [he c hc, h c hc, ← BitVec.ofNat_add, ← BitVec.ofNat_add, ← BitVec.ofNat_add, ← BitVec.ofNat_add]
  refine congrArg (BitVec.ofNat 32) ?_
  rw [Fin.sum_univ_four, Fin.sum_univ_four, tot_succ, tot_succ, tot_succ, tot_succ]
  generalize tot (C 0) r j c = a, tot (C 1) r j c = b, tot (C 2) r j c = d, tot (C 3) r j c = e
  generalize fresh (C 0) r j c = a', fresh (C 1) r j c = b', fresh (C 2) r j c = d', fresh (C 3) r j c = e'
  omega

end Cert.Counting
-- ==== Proof.Base.lean ====
/-
  The kernel as its launch sees it, and what it means for a tile to hold one of its buffers: the reading of the
  buffer is a named array, and the operations on it move from one named array to the next.
-/
module

public import proofs.«01_k».proof.Proof.Steps
public import proofs.«01_k».proof.Proof.Counting
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-- The labels below the SparseCore calls: the kernels' and the TensorCore call's. -/
abbrev ΛP : Labels := Pipeline.Sig Λ₀ (Fin 1) fun p => (pcfgs (F := F) p).Adm
/-- The SparseCore call. -/
abbrev K : SparseCore.Cfg τ sig (ΛP (F := F)) 1 := sc (F := F)
/-- The definitions below the SparseCore calls. -/
abbrev D [FloatOps F] : Defs nD τ sig (Elt F) (ΛP (F := F)) := Pipeline.defs pcfgs defs₀
/-- No label of the kernels recurs. -/
abbrev 𝒱₀ : Variants := Variants.none

/-- The rounds of the SparseCore call's handshakes. -/
abbrev UH : Type := URounds (GSem nD τ sig) ℕ
/-- The rounds of the TensorCore call's own copies. -/
abbrev UP : Type := URounds (GSem nD τ sig) Unit
/-- The two, beside the counters of the tiles' copies. -/
abbrev UU : Type := UH × UP × Counters

local notation "𝕄" => MT nD τ sig (HIx 1) (Elt F) ℕ UU ℕ

variable [FloatOps F]

section Holds

variable {κ : Kind} {s : Shape} {e : EltTy}

/-- The thread holds the buffer, and the buffer reads as the array `g`. -/
def holds (thr : Thread nD τ) {sp : Space} (arg : Memref sig thr.2.kind sp s e) (g : s.Idx → Elt F e) : sProp 𝕄 :=
  iprop(∃ f, ⌜arg.view.read (Elt F) f = g⌝ ∗ (arg.view.loc thr ↦[arg.view.set]{fullShare} f))

variable {Λ : Labels} {defs : Defs nD τ sig (Elt F) Λ} (𝒱 : Variants) (thr : Thread nD τ) (bd : Option 𝒱.V) (E : Set ℕ)
variable {α : Type}

omit [FloatOps F] in
/-- The access of all of a buffer has the buffer's own elements. -/
theorem set_all (arg : Memref sig thr.2.kind .vmem s e) : (arg.access (.whole s)).set = arg.view.set := by
  show (arg.view.slice (.whole s)).set = _
  rw [View.set_slice, Rect.set_whole]; rfl

omit [FloatOps F] in
/-- The rectangle of all of a shape places each index at itself. -/
theorem emb_all (x : s.Idx) : (Rect.whole s).emb x = x := by
  funext a
  apply Fin.ext
  show 0 + 1 * (x a).val = _
  omega

omit [FloatOps F] in
/-- The access of all of a buffer reads what the buffer reads. -/
theorem read_all (arg : Memref sig thr.2.kind .vmem s e) (f : arg.view.ty.Contents (Elt F)) :
    (arg.access (.whole s)).read (Elt F) f = arg.view.read (Elt F) f := by
  funext x
  exact congrArg (fun y => arg.view.read (Elt F) f y) (emb_all x)

omit [FloatOps F] in
/-- After all of a buffer is written with `w`, it reads `w`. -/
theorem read_write_all (arg : Memref sig thr.2.kind .vmem s e) (f : arg.view.ty.Contents (Elt F)) (w : s.Idx → Elt F e) :
    arg.view.read (Elt F) ((arg.access (.whole s)).write (Elt F) f w Finset.univ) = w := by
  rw [← read_all]
  exact View.read_write_univ (v := arg.access (.whole s)) f w

/-- An indexed load of a held buffer gives the array's words at the addresses. -/
theorem wp_gather {base : Memref sig thr.2.kind .vmem s e} {t : Shape} {idxs : Fin s.rank → IVec t 32}
    {h : ∀ a x, (idxs a x).toNat < s.size a} {hl : base.view.Loads} {k : Vec F t e → Prog (TpuEff nD τ sig (Elt F) Λ thr.2) α}
    {g : s.Idx → Elt F e} {Q : α → sProp 𝕄} :
    holds thr base g
      ⊢ iprop((holds thr base g -∗ wp frame (wpE defs 𝒱 thr bd) E (k (loadIdx g idxs h)) Q)
        -∗ wp frame (wpE defs 𝒱 thr bd) E (SparseCore.vectorLoadIdx base idxs h hl >>= k) Q) := by
  unfold holds
  iintro ⟨%f, %hf, H⟩ Hk
  iapply (SparseCore.wp_vectorLoadIdx 𝒱 thr bd E (base := base) (S := base.view.set) (q := fullShare) (set_all thr base).subset) $$ H
  iintro H
  rw [read_all, hf]
  iapply Hk
  iexists f
  isplitr; · ipureintro; exact hf
  iexact H

/-- An indexed store to a held buffer gives the array with the words stored. -/
theorem wp_scatter {d : Fin 1 → Nat} {base : Memref sig thr.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ thr.2) α} {g : s.Idx → Elt F e} {Q : α → sProp 𝕄} :
    holds thr base g
      ⊢ iprop((holds thr base (storeIdx g idxs v mask add h) -∗ wp frame (wpE defs 𝒱 thr bd) E (k ⟨⟩) Q)
        -∗ wp frame (wpE defs 𝒱 thr bd) E (SparseCore.vectorStoreIdx base idxs v mask add h hs >>= k) Q) := by
  unfold holds
  iintro ⟨%f, %hf, H⟩ Hk
  ihave H' := (Entails.of_eq (show (base.view.loc thr ↦[base.view.set]{fullShare} f : sProp 𝕄)
      = ((base.access (.whole s)).loc thr ↦[(base.access (.whole s)).set]{fullShare} f) by rw [set_all])) $$ H
  iapply (SparseCore.wp_vectorStoreIdx 𝒱 thr bd E (base := base)) $$ H'
  iintro H
  iapply Hk
  iexists _
  isplitr [H]
  rotate_left
  · iapply (Entails.of_eq (show ((base.access (.whole s)).loc thr ↦[(base.access (.whole s)).set]{fullShare} _ : sProp 𝕄)
      = (base.view.loc thr ↦[base.view.set]{fullShare} _) by rw [set_all]))
    iexact H
  · ipureintro
    rw [read_write_all, read_all, hf]

/-- A check that holds passes. -/
theorem wp_check {P : Prop} {dp : Decidable P} {k : PLift P → Prog (TpuEff nD τ sig (Elt F) Λ thr.2) α} {Q : α → sProp 𝕄} (h : P) :
    wp frame (wpE defs 𝒱 thr bd) E (k ⟨h⟩) Q
      ⊢ wp (M := 𝕄) frame (wpE defs 𝒱 thr bd) E ((Prog.lift (TpuEff.assume P dp) : Prog (TpuEff nD τ sig (Elt F) Λ thr.2) (PLift P)) >>= k) Q :=
  Entails.of_eq (wp_assume_of 𝒱 thr bd E h).symm

end Holds

end Cert.KernelIdeal.Hist

end
-- ==== Proof.Addr.lean ====
/-
  The addresses, stamps and markers of the counting loop as numbers: which word of the chunk each lane reads at a
  column of a trip, which stamp its row bears, which marker its class has.
-/
module

public import proofs.«01_k».proof.Proof.Steps
public import proofs.«01_k».proof.Proof.Counting

@[expose] public section

noncomputable section

namespace Cert.KernelIdeal.Hist

open Idealize.ShloMosaic Cert.Counting Cert.KernelIdeal.Gen

/-- Each lane's number is its place. -/
theorem lanes_ln (l : Fin 16) : lanes (ln l) = BitVec.ofNat 32 l.val := by
  revert l; decide

/-- There are eight trips. -/
theorem trips3 : k0_t3_loop.trips = 8 := by decide

/-- The induction word of trip `t` is `t`. -/
theorem trip_eq (t : Fin k0_t3_loop.trips) : trip t = BitVec.ofNat 32 t.val := by
  revert t; decide

/-- The stamp of lane `l` at trip `t` is their sum modulo eight. -/
theorem stamp_ln (t : Fin k0_t3_loop.trips) (l : Fin 16) :
    stamp lanes t (ln l) = BitVec.ofNat 32 ((l.val + t.val) % 8) := by
  have ht : t.val < 8 := trips3 ▸ t.isLt
  have hl := l.isLt
  show (lanes (ln l) + trip t) &&& 7#32 = _
  rw [lanes_ln, trip_eq]
  apply BitVec.eq_of_toNat_eq
  rw [BitVec.toNat_and, show (7#32).toNat = 2 ^ 3 - 1 from rfl, Nat.and_two_pow_sub_one_eq_mod]
  simp only [BitVec.toNat_add, BitVec.toNat_ofNat]
  omega

/-- The position of the chunk that lane `l` of stream `s` reads at column `j` of row `r`. -/
def pos (s : Fin 4) (l : Fin 16) (r j : ℕ) : ℕ := l.val * 1600 + s.val * 400 + ((l.val + r) % 8) * 50 + j

/-- It lies in the chunk. -/
theorem pos_lt (s : Fin 4) (l : Fin 16) (r : ℕ) {j : ℕ} (hj : j < 50) : pos s l r j < 25600 := by
  unfold pos; have := s.isLt; have := l.isLt; omega

/-- The addresses the loop computes are those positions. -/
theorem rowAt_ln (s : Fin 4) (q : BitVec 32) (hq : q = BitVec.ofNat 32 (s.val * 400)) (t : Fin k0_t3_loop.trips) (l : Fin 16) {j : ℕ} (hj : j < 50) :
    (addi (rowAt lanes (muli lanes (broadcast S16 1600#32)) q t) (broadcast S16 (BitVec.ofNat 32 j)) (ln l)).toNat = pos s l t.val j := by
  have ht : t.val < 8 := trips3 ▸ t.isLt
  have hl := l.isLt
  have hs := s.isLt
  show (((lanes (ln l) * 1600#32 + q) + stamp lanes t (ln l) * 50#32) + BitVec.ofNat 32 j).toNat = _
  rw [lanes_ln, stamp_ln, hq]
  simp only [BitVec.toNat_add, BitVec.toNat_mul, BitVec.toNat_ofNat]
  unfold pos
  omega

/-- The marker address of a class at a lane. -/
theorem mark_ln (c : IVec S16 32) (l : Fin 16) (h : (c (ln l)).toNat < 1203) :
    (mark lanes c (ln l)).toNat = (c (ln l)).toNat * 16 + l.val := by
  have hl := l.isLt
  show (IntOp.shli .vector (c (ln l)) 4#32 + lanes (ln l)).toNat = _
  rw [lanes_ln, BitVec.toNat_add]
  have : (IntOp.shli .vector (c (ln l)) 4#32).toNat = (c (ln l)).toNat * 16 % 2 ^ 32 := by
    unfold IntOp.shli
    rw [if_pos (by decide)]
    show (c (ln l) <<< (4#32).toNat).toNat = _
    rw [BitVec.toNat_shiftLeft, show (4#32).toNat = 4 from rfl, Nat.shiftLeft_eq]
  rw [this]
  simp only [BitVec.toNat_ofNat]
  omega

/-- Every word of the chunk is a class. -/
def Classes (A : S25600.Idx → BitVec 32) : Prop := ∀ n < 25600, (at1 A n).toNat < 1203

/-- The class that lane `l` of stream `s` reads at column `j` of row `r`. -/
def cls (A : S25600.Idx → BitVec 32) (s : Fin 4) (l : Fin 16) (r j : ℕ) : ℕ := (at1 A (pos s l r j)).toNat

variable {F : FTy → Type} [FloatOps F]

/-- The addresses of a column lie in the chunk. -/
theorem chk_row (s : Fin 4) (q : BitVec 32) (hq : q = BitVec.ofNat 32 (s.val * 400)) (t : Fin k0_t3_loop.trips) {j : ℕ} (hj : j < 50) :
    k0_chk1 (addi (rowAt lanes (muli lanes (broadcast S16 1600#32)) q t) (broadcast S16 (BitVec.ofNat 32 j))) := by
  intro a x
  obtain rfl : a = 0 := Subsingleton.elim _ _
  obtain ⟨l, rfl⟩ := eq_ln x
  show (addi _ _ (ln l)).toNat < 25600
  rw [rowAt_ln s q hq t l hj]
  exact pos_lt s l _ hj

/-- The classes read of a column, their markers and the row's stamps are what the count asks for. -/
theorem reads (A : Vec F S25600 .i32) (hA : Classes A) (s : Fin 4) (q : BitVec 32) (hq : q = BitVec.ofNat 32 (s.val * 400))
    (t : Fin k0_t3_loop.trips) {j : ℕ} (hj : j < 50)
    (h : ∀ a x, ((![addi (rowAt lanes (muli lanes (broadcast S16 1600#32)) q t) (broadcast S16 (BitVec.ofNat 32 j))] : Fin 1 → IVec S16 32) a x).toNat < S25600.size a)
    (cv : IVec S16 32) (hcv : cv = loadIdx (e := .i32) A ![addi (rowAt lanes (muli lanes (broadcast S16 1600#32)) q t) (broadcast S16 (BitVec.ofNat 32 j))] h) :
    Reads (cls A s) t.val j cv (mark lanes cv) (stamp lanes t) := by
  have hc : ∀ l, (cv (ln l)).toNat = cls A s l t.val j := by
    intro l
    rw [hcv]
    refine (congrArg BitVec.toNat (loadIdx_ln (F := F) A _ h l)).trans ?_
    rw [rowAt_ln s q hq t l hj]; rfl
  have hlt : ∀ l, cls A s l t.val j < 1203 := fun l => hA _ (pos_lt s l _ hj)
  refine ⟨trips3 ▸ t.isLt, hc, hlt, fun l => ?_, stamp_ln t⟩
  rw [mark_ln cv l (by rw [hc]; exact hlt l), hc]

/-- Classes name entries of the histogram. -/
theorem chk_cls {C : Fin 16 → ℕ → ℕ → ℕ} {r j : ℕ} {cv mv sv : IVec S16 32} (R : Reads C r j cv mv sv) : k0_chk9 cv := by
  intro a x
  obtain rfl : a = 0 := Subsingleton.elim _ _
  obtain ⟨l, rfl⟩ := eq_ln x
  show (cv (ln l)).toNat < 1280
  have h1 := R.cls l; have h2 := R.lt l
  omega

/-- Markers lie in the marker buffer. -/
theorem chk_mark {C : Fin 16 → ℕ → ℕ → ℕ} {r j : ℕ} {cv mv sv : IVec S16 32} (R : Reads C r j cv mv sv) : k0_chk5 mv := by
  have : ∀ a x, ((![mv] : Fin 1 → IVec S16 32) a x).toNat < S19456.size a := by
    intro a x
    obtain rfl : a = 0 := Subsingleton.elim _ _
    obtain ⟨l, rfl⟩ := eq_ln x
    show (mv (ln l)).toNat < 19456
    have h1 := R.adr l; have h2 := R.lt l; have := l.isLt
    omega
  exact ⟨this, this⟩

end Cert.KernelIdeal.Hist

end
-- ==== Proof.StepRun.lean ====
/-
  The counting loop's run: a column keeps the markers' and the histogram's meaning, so fifty columns do, so the eight
  trips do.
-/
module

public import proofs.«01_k».proof.Proof.Base
public import proofs.«01_k».proof.Proof.Addr

@[expose] public section

noncomputable section

namespace Cert.KernelIdeal.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal.Gen Cert.Counting

variable {F : FTy → Type}

local notation "𝕄" => MT nD τ sig (HIx 1) (Elt F) ℕ UU ℕ

variable [FloatOps F]

/-- The vector subcore of the grid point `i` of device `d`. -/
abbrev tile (d : Dev nD) (i : grid0.Coords) : Thread nD τ := V d ((i 0).castLE hcore0) ((i 1).castLE hsub0)

/-- The weakest precondition of a tile's program. -/
abbrev wpt (d : Dev nD) (i : grid0.Coords) {α : Type} (p : TP F i α) (Q : α → sProp 𝕄) : sProp 𝕄 :=
  wp frame (wpE (defs₀ (F := F)) 𝒱₀ (tile d i) none) Set.univ p Q

variable (d : Dev nD) (i : grid0.Coords)

/-- A column's read: both checks pass, and the words read are the gather's. -/
theorem wp_readCol (arg4 : Memref sig .scVector .vmem S25600 .i32) (A : Vec F S25600 .i32) (v : IVec S16 32) (j : BitVec 32)
    (h : k0_chk1 (addi v (broadcast S16 j)))
    (h' : k0_chk9 (loadIdx (e := .i32) A ![addi v (broadcast S16 j)] h))
    {β : Type} (k : (Σ' (c : IVec S16 32), k0_chk9 c) → TP F i β) (Q : β → sProp 𝕄) :
    holds (tile d i) arg4 A
      ⊢ iprop((holds (tile d i) arg4 A -∗ wpt d i (k ⟨loadIdx (e := .i32) A ![addi v (broadcast S16 j)] h, h'⟩) Q)
        -∗ wpt d i (readCol i arg4 v j >>= k) Q) := by
  have e : readCol i arg4 v j >>= k = ((Prog.lift (TpuEff.assume (k0_chk1 (addi v (broadcast S16 j))) (k0_chk1.dec _)) : TP F i _) >>= fun x =>
    SparseCore.vectorLoadIdx arg4 ![addi v (broadcast S16 j)] (k0_idx1_inb _ x.down) (View.loads_vmem Facts₀.h_S25600) >>= fun c =>
      (Prog.lift (TpuEff.assume (k0_chk9 c) (k0_chk9.dec c)) : TP F i _) >>= fun y => k ⟨c, y.down⟩) := rfl
  rw [e]
  iintro H Hk
  iapply (wp_check 𝒱₀ (tile d i) none Set.univ h)
  iapply (wp_gather 𝒱₀ (tile d i) none Set.univ (g := A)) $$ H
  iintro H
  iapply (wp_check 𝒱₀ (tile d i) none Set.univ h')
  iapply Hk
  iexact H

/-- A marker check passes for markers of classes. -/
theorem wp_checkMark (c : IVec S16 32) (h : k0_chk5 (mark lanes c)) {β : Type} (k : PLift (k0_chk5 (mark lanes c)) → TP F i β) (Q : β → sProp 𝕄) :
    wpt d i (k ⟨h⟩) Q ⊢ wpt d i (checkMark i lanes c >>= k) Q :=
  wp_check 𝒱₀ (tile d i) none Set.univ h

variable (arg4 : Memref sig .scVector .vmem S25600 .i32)
  (arg5 arg6 arg7 arg8 : Memref sig .scVector .vmem S19456 .i32) (arg9 : Memref sig .scVector .vmem S1280 .i32)

/-- The tile's buffers when `r` rows of each stream are counted and `j` columns of the next: the chunk, the markers of
    the four streams, the histogram. -/
def mid (A : Vec F S25600 .i32) (r j : ℕ) : sProp 𝕄 :=
  iprop(∃ M0 : Vec F S19456 .i32, ∃ M1 : Vec F S19456 .i32, ∃ M2 : Vec F S19456 .i32, ∃ M3 : Vec F S19456 .i32, ∃ H : Vec F S1280 .i32,
    ⌜Marked M0 (cls A 0) r j ∧ Marked M1 (cls A 1) r j ∧ Marked M2 (cls A 2) r j ∧ Marked M3 (cls A 3) r j ∧ Counted H (cls A) r j⌝
    ∗ holds (tile d i) arg4 A ∗ holds (tile d i) arg5 M0 ∗ holds (tile d i) arg6 M1 ∗ holds (tile d i) arg7 M2 ∗ holds (tile d i) arg8 M3
    ∗ holds (tile d i) arg9 H)

/-- The address words of a stream at a trip. -/
abbrev rows (q : BitVec 32) (t : Fin k0_t3_loop.trips) : IVec S16 32 := rowAt lanes (muli lanes (broadcast S16 1600#32)) q t

/-- One column of the four streams takes the buffers one column on. -/
theorem wp_stepK (A : Vec F S25600 .i32) (hA : Classes A) (t : Fin k0_t3_loop.trips) {j : ℕ} (hj : j < 50)
    {β : Type} (k : PUnit → TP F i β) (Q : β → sProp 𝕄) :
    mid d i arg4 arg5 arg6 arg7 arg8 arg9 A t.val j
      ⊢ iprop((mid d i arg4 arg5 arg6 arg7 arg8 arg9 A t.val (j + 1) -∗ wpt d i (k ⟨⟩) Q)
        -∗ wpt d i (stepK i arg4 arg5 arg6 arg7 arg8 arg9 lanes (broadcast S16 1#32) (stamp lanes t)
            (rows 0#32 t) (rows 400#32 t) (rows 800#32 t) (rows 1200#32 t) (BitVec.ofNat 32 j) >>= k) Q) := by
  have h0 := chk_row 0 0#32 rfl t hj
  have h1 := chk_row 1 400#32 rfl t hj
  have h2 := chk_row 2 800#32 rfl t hj
  have h3 := chk_row 3 1200#32 rfl t hj
  have R0 := reads A hA 0 0#32 rfl t hj h0 _ rfl
  have R1 := reads A hA 1 400#32 rfl t hj h1 _ rfl
  have R2 := reads A hA 2 800#32 rfl t hj h2 _ rfl
  have R3 := reads A hA 3 1200#32 rfl t hj h3 _ rfl
  unfold mid stepK
  iintro ⟨%M0, %M1, %M2, %M3, %H, %hM, HA, H5, H6, H7, H8, H9⟩ Hk
  obtain ⟨hM0, hM1, hM2, hM3, hH⟩ := hM
  simp only [bind_assoc]
  iapply (wp_readCol d i arg4 A _ _ h0 (chk_cls R0)) $$ HA
  iintro HA
  iapply (wp_readCol d i arg4 A _ _ h1 (chk_cls R1)) $$ HA
  iintro HA
  iapply (wp_readCol d i arg4 A _ _ h2 (chk_cls R2)) $$ HA
  iintro HA
  iapply (wp_readCol d i arg4 A _ _ h3 (chk_cls R3)) $$ HA
  iintro HA
  iapply (wp_checkMark d i _ (chk_mark R0))
  iapply (wp_checkMark d i _ (chk_mark R1))
  iapply (wp_checkMark d i _ (chk_mark R2))
  iapply (wp_checkMark d i _ (chk_mark R3))
  iapply (wp_gather 𝒱₀ (tile d i) none Set.univ (g := M0)) $$ H5
  iintro H5
  iapply (wp_gather 𝒱₀ (tile d i) none Set.univ (g := M1)) $$ H6
  iintro H6
  iapply (wp_gather 𝒱₀ (tile d i) none Set.univ (g := M2)) $$ H7
  iintro H7
  iapply (wp_gather 𝒱₀ (tile d i) none Set.univ (g := M3)) $$ H8
  iintro H8
  iapply (wp_scatter 𝒱₀ (tile d i) none Set.univ (g := H)) $$ H9
  iintro H9
  iapply (wp_scatter 𝒱₀ (tile d i) none Set.univ (g := M0)) $$ H5
  iintro H5
  iapply (wp_scatter 𝒱₀ (tile d i) none Set.univ) $$ H9
  iintro H9
  iapply (wp_scatter 𝒱₀ (tile d i) none Set.univ (g := M1)) $$ H6
  iintro H6
  iapply (wp_scatter 𝒱₀ (tile d i) none Set.univ) $$ H9
  iintro H9
  iapply (wp_scatter 𝒱₀ (tile d i) none Set.univ (g := M2)) $$ H7
  iintro H7
  iapply (wp_scatter 𝒱₀ (tile d i) none Set.univ) $$ H9
  iintro H9
  iapply (wp_scatter 𝒱₀ (tile d i) none Set.univ (g := M3)) $$ H8
  iintro H8
  iapply Hk
  iexists _, _, _, _, _
  isplitr
  rotate_left
  · isplitl [HA]; · iexact HA
    isplitl [H5]; · iexact H5
    isplitl [H6]; · iexact H6
    isplitl [H7]; · iexact H7
    isplitl [H8]; · iexact H8
    iexact H9
  · ipureintro
    refine ⟨marked_step (F := F) R0 hM0 _, marked_step (F := F) R1 hM1 _, marked_step (F := F) R2 hM2 _, marked_step (F := F) R3 hM3 _,
      counted_step hH fun c hc => ?_⟩
    refine (count_step (F := F) _ R3 hM3 _ _ hc).trans (congrArg (· + _) ?_)
    refine (count_step (F := F) _ R2 hM2 _ _ hc).trans (congrArg (· + _) ?_)
    refine (count_step (F := F) _ R1 hM1 _ _ hc).trans (congrArg (· + _) ?_)
    exact count_step (F := F) _ R0 hM0 _ _ hc

/-- The columns in order. -/
theorem wp_stepsK (A : Vec F S25600 .i32) (hA : Classes A) (t : Fin k0_t3_loop.trips) (n : ℕ) : ∀ (j : ℕ), j + n ≤ 50 →
    mid d i arg4 arg5 arg6 arg7 arg8 arg9 A t.val j
      ⊢ wpt d i (stepsK i arg4 arg5 arg6 arg7 arg8 arg9 lanes (broadcast S16 1#32) (stamp lanes t)
            (rows 0#32 t) (rows 400#32 t) (rows 800#32 t) (rows 1200#32 t) j n)
          fun _ => mid d i arg4 arg5 arg6 arg7 arg8 arg9 A t.val (j + n) := by
  induction n with
  | zero =>
    intro j _
    iintro H
    unfold stepsK wpt
    rw [wp_pure]
    imodintro
    iexact H
  | succ n ih =>
    intro j hj
    iintro H
    unfold stepsK
    iapply (wp_stepK d i arg4 arg5 arg6 arg7 arg8 arg9 A hA t (by omega)) $$ H
    iintro H
    rw [show j + (n + 1) = j + 1 + n by omega]
    iapply (ih (j + 1) (by omega)) $$ H

/-- A trip's fifty columns take the buffers to the next row. -/
theorem wp_trip (A : Vec F S25600 .i32) (hA : Classes A) (t : Fin k0_t3_loop.trips) :
    mid d i arg4 arg5 arg6 arg7 arg8 arg9 A t.val 0
      ⊢ wpt d i (stepsK i arg4 arg5 arg6 arg7 arg8 arg9 lanes (broadcast S16 1#32) (stamp lanes t)
            (rows 0#32 t) (rows 400#32 t) (rows 800#32 t) (rows 1200#32 t) 0 50)
          fun _ => mid d i arg4 arg5 arg6 arg7 arg8 arg9 A (t.val + 1) 0 := by
  refine (wp_stepsK d i arg4 arg5 arg6 arg7 arg8 arg9 A hA t 50 0 le_rfl).trans (wp_mono frame _ _ fun _ => ?_)
  unfold mid
  iintro ⟨%M0, %M1, %M2, %M3, %H, %hM, HH⟩
  iexists M0, M1, M2, M3, H
  isplitr
  · ipureintro
    exact ⟨marked_row hM.1, marked_row hM.2.1, marked_row hM.2.2.1, marked_row hM.2.2.2.1, counted_row hM.2.2.2.2⟩
  · iexact HH

end Cert.KernelIdeal.Hist

end
-- ==== Proof.Fills.lean ====
/-
  The two loops before the count: the markers filled with minus one, the histogram with zero.
-/
module

public import proofs.«01_k».proof.Proof.StepRun

@[expose] public section

noncomputable section

namespace Cert.KernelIdeal.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal.Gen Cert.Counting

variable {F : FTy → Type}

local notation "𝕄" => MT nD τ sig (HIx 1) (Elt F) ℕ UU ℕ

variable [FloatOps F] (d : Dev nD) (i : grid0.Coords)

/-- The buffer is held, its first `n` words all `w`. -/
def upTo {N : ℕ} (arg : Memref sig .scVector .vmem ⟨1, ![N]⟩ .i32) (w : BitVec 32) (n : ℕ) : sProp 𝕄 :=
  iprop(∃ g : Vec F ⟨1, ![N]⟩ .i32, ⌜∀ m < n, at1 g m = w⌝ ∗ holds (tile d i) arg g)

/-- Sixteen words more. -/
theorem wp_put {N : ℕ} (arg : Memref sig .scVector .vmem ⟨1, ![N]⟩ .i32) (w : BitVec 32) (n : ℕ) (off : Fin 1 → ℕ) (hoff : off = ![n])
    (h : ∀ a, off a + S16.size a ≤ (⟨1, ![N]⟩ : Shape).size a) {β : Type} (k : PUnit → TP F i β) (Q : β → sProp 𝕄) :
    upTo d i arg w n
      ⊢ iprop((upTo d i arg w (n + 16) -∗ wpt d i (k ⟨⟩) Q) -∗ wpt d i (put i arg off h (broadcast S16 w) >>= k) Q) := by
  subst hoff
  unfold upTo holds
  iintro ⟨%g, %hg, %f, %hf, H⟩ Hk
  have e : put i arg ![n] h (broadcast S16 w) >>= k
      = .op (.load arg (Rect.unit (s := ⟨1, ![N]⟩) ![n] S16.size h).toLoadRect (View.loadsAt_vmem Facts₀.h_S16)) fun _ =>
        .op (.store arg (Rect.unit (s := ⟨1, ![N]⟩) ![n] S16.size h) (broadcast S16 w) Finset.univ (View.stores_vmem_bits_univ Facts₀.h_S16 rfl) (.inl rfl)) k := rfl
  rw [e]
  iapply (wp_load 𝒱₀ (tile d i) none Set.univ (m := arg) (S := arg.view.set) (Finset.map_subset_map.mpr (Finset.subset_univ _))) $$ H
  iintro H
  iapply (wp_store 𝒱₀ (tile d i) none Set.univ (m := arg) (r := Rect.unit (s := ⟨1, ![N]⟩) ![n] S16.size h) (Mk := Finset.univ)
    (S := arg.view.set) (View.set_slice_subset arg.view _)) $$ H
  iintro H
  iapply Hk
  iexists (arg.view.read (Elt F) ((arg.access (Rect.unit (s := ⟨1, ![N]⟩) ![n] S16.size h)).write (Elt F) f (broadcast S16 w) Finset.univ))
  isplitr
  rotate_left
  · iexists _
    isplitr
    rotate_left
    · iexact H
    · ipureintro; rfl
  · ipureintro
    intro m hm
    have hN : n + 16 ≤ N := h 0
    rw [at1_of_lt _ (show m < N by omega)]
    by_cases hmn : m < n
    · refine (View.read_slice_write_of_not_mem (v := arg.view) _ f _ Finset.univ ?_).trans ?_
      · intro hmem
        obtain ⟨x, -, hx⟩ := Finset.mem_map.mp hmem
        have := congrArg (fun y => (y 0).val) hx
        have h2 : n + 1 * (x 0).val = m := this
        omega
      · rw [hf, ← at1_of_lt g]; exact hg m hmn
    · have hx : (Rect.unit (s := ⟨1, ![N]⟩) ![n] S16.size h).emb (ln ⟨m - n, by omega⟩) = Shape.ofLane (d := ![N]) ⟨m, show m < N by omega⟩ := by
        funext a
        obtain rfl : a = 0 := Subsingleton.elim _ _
        apply Fin.ext
        show n + 1 * (m - n) = m
        omega
      rw [← hx]
      exact View.read_slice_write_emb (v := arg.view) (Rect.unit (s := ⟨1, ![N]⟩) ![n] S16.size h) f (broadcast S16 w) (Finset.mem_univ _)

/-- Where group `r` of trip `t` of the first loop starts. -/
theorem off2_eq (t : Fin k0_t1_loop.trips) (r : Fin 8) : k0_off2 t (BitVec.ofNat 32 (16 * r.val)) = ![t.val * 128 + 16 * r.val] := by
  have ht : t.val < 152 := t.isLt
  have hr := r.isLt
  unfold k0_off2
  refine congrArg (fun n => ![n]) ?_
  simp only [Scf.iv, Scalar.muli, Scalar.addi, Scalar.indexCast, IntOp.muli, IntOp.addi, BitVec.toNat_add, BitVec.toNat_mul, BitVec.toNat_ofNat]
  omega

/-- Where group `r` of trip `t` of the second loop starts. -/
theorem off3_eq (t : Fin k0_t2_loop.trips) (r : Fin 8) : k0_off3 t (BitVec.ofNat 32 (16 * r.val)) = ![t.val * 128 + 16 * r.val] := by
  have ht : t.val < 10 := t.isLt
  have hr := r.isLt
  unfold k0_off3
  refine congrArg (fun n => ![n]) ?_
  simp only [Scf.iv, Scalar.muli, Scalar.addi, Scalar.indexCast, IntOp.muli, IntOp.addi, BitVec.toNat_add, BitVec.toNat_mul, BitVec.toNat_ofNat]
  omega

variable (arg5 arg6 arg7 arg8 : Memref sig .scVector .vmem S19456 .i32) (arg9 : Memref sig .scVector .vmem S1280 .i32)

/-- The four marker buffers, each filled up to `n`. -/
def fourTo (w : BitVec 32) (n : ℕ) : sProp 𝕄 :=
  iprop(upTo d i arg5 w n ∗ upTo d i arg6 w n ∗ upTo d i arg7 w n ∗ upTo d i arg8 w n)

/-- One group of each marker buffer. -/
theorem wp_fill (w : BitVec 32) (t : Fin k0_t1_loop.trips) (r : Fin 8) {n : ℕ} (hn : n = t.val * 128 + 16 * r.val)
    (rs : List (Fin 8)) (Q : PUnit → sProp 𝕄) :
    fourTo d i arg5 arg6 arg7 arg8 w n
      ⊢ iprop((fourTo d i arg5 arg6 arg7 arg8 w (n + 16) -∗ wpt d i (fillsK i arg5 arg6 arg7 arg8 (broadcast S16 w) t rs) Q)
        -∗ wpt d i (fillsK i arg5 arg6 arg7 arg8 (broadcast S16 w) t (r :: rs)) Q) := by
  subst hn
  unfold fourTo
  conv => rhs; rhs; rw [fillsK]
  iintro ⟨H5, H6, H7, H8⟩ Hk
  iapply (wp_put d i arg5 w _ _ (off2_eq t r)) $$ H5
  iintro H5
  iapply (wp_put d i arg6 w _ _ (off2_eq t r)) $$ H6
  iintro H6
  iapply (wp_put d i arg7 w _ _ (off2_eq t r)) $$ H7
  iintro H7
  iapply (wp_put d i arg8 w _ _ (off2_eq t r)) $$ H8
  iintro H8
  iapply Hk
  isplitl [H5]; · iexact H5
  isplitl [H6]; · iexact H6
  isplitl [H7]; · iexact H7
  iexact H8

/-- A trip of the first loop fills 128 words more of each marker buffer. -/
theorem wp_fills (w : BitVec 32) (t : Fin k0_t1_loop.trips) :
    fourTo (F := F) d i arg5 arg6 arg7 arg8 w (t.val * 128)
      ⊢ wpt d i (fillsK i arg5 arg6 arg7 arg8 (broadcast S16 w) t [0, 1, 2, 3, 4, 5, 6, 7])
          fun _ => fourTo (F := F) d i arg5 arg6 arg7 arg8 w ((t.val + 1) * 128) := by
  rw [show (t.val + 1) * 128 = t.val * 128 + 16 + 16 + 16 + 16 + 16 + 16 + 16 + 16 by omega]
  iintro H
  iapply (wp_fill d i arg5 arg6 arg7 arg8 w t 0 (by simp)) $$ H
  iintro H
  iapply (wp_fill d i arg5 arg6 arg7 arg8 w t 1 (by simp)) $$ H
  iintro H
  iapply (wp_fill d i arg5 arg6 arg7 arg8 w t 2 (by simp)) $$ H
  iintro H
  iapply (wp_fill d i arg5 arg6 arg7 arg8 w t 3 (by simp)) $$ H
  iintro H
  iapply (wp_fill d i arg5 arg6 arg7 arg8 w t 4 (by simp)) $$ H
  iintro H
  iapply (wp_fill d i arg5 arg6 arg7 arg8 w t 5 (by simp)) $$ H
  iintro H
  iapply (wp_fill d i arg5 arg6 arg7 arg8 w t 6 (by simp)) $$ H
  iintro H
  iapply (wp_fill d i arg5 arg6 arg7 arg8 w t 7 (by simp)) $$ H
  iintro H
  unfold fillsK wpt
  rw [wp_pure]
  imodintro
  iexact H

/-- One group of the histogram. -/
theorem wp_clear (w : BitVec 32) (t : Fin k0_t2_loop.trips) (r : Fin 8) {n : ℕ} (hn : n = t.val * 128 + 16 * r.val)
    (rs : List (Fin 8)) (Q : PUnit → sProp 𝕄) :
    upTo d i arg9 w n
      ⊢ iprop((upTo d i arg9 w (n + 16) -∗ wpt d i (clearsK i arg9 (broadcast S16 w) t rs) Q)
        -∗ wpt d i (clearsK i arg9 (broadcast S16 w) t (r :: rs)) Q) := by
  subst hn
  conv => rhs; rhs; rw [clearsK]
  exact wp_put d i arg9 w _ _ (off3_eq t r) (Facts₀.k0_off3_inb t r) (fun _ => clearsK i arg9 (broadcast S16 w) t rs) Q

/-- A trip of the second loop clears 128 entries more of the histogram. -/
theorem wp_clears (w : BitVec 32) (t : Fin k0_t2_loop.trips) :
    upTo (F := F) d i arg9 w (t.val * 128)
      ⊢ wpt d i (clearsK i arg9 (broadcast S16 w) t [0, 1, 2, 3, 4, 5, 6, 7])
          fun _ => upTo (F := F) d i arg9 w ((t.val + 1) * 128) := by
  rw [show (t.val + 1) * 128 = t.val * 128 + 16 + 16 + 16 + 16 + 16 + 16 + 16 + 16 by omega]
  iintro H
  iapply (wp_clear d i arg9 w t 0 (by simp)) $$ H
  iintro H
  iapply (wp_clear d i arg9 w t 1 (by simp)) $$ H
  iintro H
  iapply (wp_clear d i arg9 w t 2 (by simp)) $$ H
  iintro H
  iapply (wp_clear d i arg9 w t 3 (by simp)) $$ H
  iintro H
  iapply (wp_clear d i arg9 w t 4 (by simp)) $$ H
  iintro H
  iapply (wp_clear d i arg9 w t 5 (by simp)) $$ H
  iintro H
  iapply (wp_clear d i arg9 w t 6 (by simp)) $$ H
  iintro H
  iapply (wp_clear d i arg9 w t 7 (by simp)) $$ H
  iintro H
  unfold clearsK wpt
  rw [wp_pure]
  imodintro
  iexact H

end Cert.KernelIdeal.Hist

end
-- ==== Proof.Tile.lean ====
/-
  A tile's run of the kernel: the chunk comes in while the markers are filled and the histogram cleared, the count
  runs over the chunk, and the histogram goes out to the tile's row.
-/
module

public import proofs.«01_k».proof.Proof.Fills

@[expose] public section

noncomputable section

namespace Cert.KernelIdeal.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal.Gen Cert.Counting

variable {F : FTy → Type}

local notation "𝕄" => MT nD τ sig (HIx 1) (Elt F) ℕ UU ℕ

variable [FloatOps F] (d : Dev nD) (i : grid0.Coords)

/-- A local copy between two held buffers: until the wait, the core holds the copy in flight, which will hand back both
    buffers, the target reading as the source. -/
def flying {sp sp' : Space} {s : Shape} {e : EltTy} (src : Memref sig (tile d i).2.kind sp s e) (dst : Memref sig (tile d i).2.kind sp' s e)
    (sem : DmaSem sig) (g : s.Idx → Elt F e) : sProp 𝕄 :=
  iprop(∃ fs, ∃ fd, ⌜src.view.read (Elt F) fs = g⌝ ∗ ⌜dst.view.read (Elt F) fd = g⌝ ∗
    Transfers.Flight countersEmb (tile d i) (.dma sem) none dst.view.dmaCredit
      iprop((dst.view.loc (tile d i) ↦[dst.view.set]{fullShare} fd) ∗ (src.view.loc (tile d i) ↦[src.view.set]{fullShare} fs)))

/-- Issuing a copy puts both buffers in flight. -/
theorem wp_issue {sp sp' : Space} {s : Shape} {e : EltTy} (src : Memref sig (tile d i).2.kind sp s e) (dst : Memref sig (tile d i).2.kind sp' s e)
    (sem : DmaSem sig) (g : s.Idx → Elt F e) (hs : 0 < s.numel)
    {hsrc : src.view.WordExact} {hdst : dst.view.WordExact} {hsem : DmaTarget.Typed (nD := nD) sp (.dma sem) (.here dst)}
    {β : Type} (k : PUnit → TP F i β) (Q : β → sProp 𝕄) :
    iprop(holds (tile d i) src g ∗ (∃ g', holds (tile d i) dst g') ∗ semVal (tile d i, .dma sem) 0)
      ⊢ iprop((flying d i src dst sem g -∗ wpt d i (k ⟨⟩) Q)
        -∗ wpt d i ((Prog.lift (.enqueueDma src (.here dst) (.dma sem) hsrc hdst hsem) : TP F i PUnit) >>= k) Q) := by
  unfold holds flying
  iintro ⟨⟨%fs, %hfs, Hs⟩, ⟨%g', %fd, -, Hd⟩, Hv⟩ Hk
  iapply (Transfers.wp_dmaLocal countersEmb 𝒱₀ (tile d i) none (src := src) (dst := dst) (Sd := dst.view.set) (none : HIx 1)
    dst.view.dmaCredit rfl (View.dmaCredit_pos _ hs) Finset.Subset.rfl) $$ [Hs Hd Hv]
  · isplitl [Hs]; · iexact Hs
    isplitl [Hd]; · iexact Hd
    iexact Hv
  iintro Hf
  iapply Hk
  iexists fs, _
  isplitr
  · ipureintro; exact hfs
  isplitr
  rotate_left
  · iexact Hf
  · ipureintro
    exact (View.read_write_univ (v := dst.view) fd _).trans hfs

/-- Waiting for it hands both back. -/
theorem wp_await {sp sp' : Space} {s : Shape} {e : EltTy} (src : Memref sig (tile d i).2.kind sp s e) (dst : Memref sig (tile d i).2.kind sp' s e)
    (sem : DmaSem sig) (g : s.Idx → Elt F e)
    {hsrc : src.view.WordExact} {hdst : dst.view.WordExact} {O : CellTallies nD τ sig (HIx 1)} {W : Waits sig (HIx 1)}
    {β : Type} (k : PUnit → TP F i β) (Q : β → sProp 𝕄) :
    iprop(Transfers.MayWaits (tile d i) none O ∗ flying d i src dst sem g ∗ owes (tile d i) O W)
      ⊢ iprop((iprop(holds (tile d i) src g ∗ holds (tile d i) dst g ∗ semVal (tile d i, .dma sem) 0 ∗ owes (tile d i) O (insert (SemLoc.dma sem, none) W))
          -∗ wpt d i (k ⟨⟩) Q)
        -∗ wpt d i ((Prog.lift (.waitDma2 sem src dst hsrc hdst) : TP F i PUnit) >>= k) Q) := by
  unfold holds flying
  iintro ⟨#Hmw, ⟨%fs, %fd, %hfs, %hfd, Hf⟩, HO⟩ Hk
  iapply (Transfers.wp_waitLocalO countersEmb 𝒱₀ (tile d i) none (srcw := src) (dstw := dst) (none : HIx 1) rfl) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]
  · iexists fs
    isplitr; · ipureintro; exact hfs
    iexact Hs
  isplitl [Hd]
  · iexists fd
    isplitr; · ipureintro; exact hfd
    iexact Hd
  isplitl [Hv]; · iexact Hv
  iexact HO

/-- A loop at the head of a tile's program, by what holds before each trip. -/
theorem wp_loop (l : Scf.Loop 32) (hok : l.OK) (n : ℕ) (hn : l.trips = n) (body : Fin l.trips → TP F i PUnit) (I : ℕ → sProp 𝕄)
    (hb : ∀ t : Fin l.trips, I t.val ⊢ wpt d i (body t) fun _ => I (t.val + 1)) {β : Type} (k : PUnit → TP F i β) (Q : β → sProp 𝕄) :
    I 0 ⊢ iprop((I n -∗ wpt d i (k ⟨⟩) Q) -∗ wpt d i (Scf.Loop.for l hok ⟨⟩ (fun t _ => body t) >>= k) Q) := by
  subst hn
  unfold Scf.Loop.for
  iintro H Hk
  iapply (Scf.wp_for_bind frame (wpE (defs₀ (F := F)) 𝒱₀ (tile d i) none) Set.univ _ _ _ hok PUnit.unit (fun t _ => body t)
    (fun k _ => I k) (fun t _ => hb t)) $$ H
  iintro %_ HI
  iapply Hk
  iexact HI

variable (arg2 : Memref sig .scVector .hbm S819200 .i32) (arg3 : Memref sig .scVector .hbm S32x1280 .i32)
  (arg4 : Memref sig .scVector .vmem S25600 .i32) (harg4 : arg4.IsWhole)
  (arg5 arg6 arg7 arg8 : Memref sig .scVector .vmem S19456 .i32)
  (arg9 : Memref sig .scVector .vmem S1280 .i32) (harg9 : arg9.IsWhole) (arg10 v16_r0 : DmaSems sig S_)

/-- The buffer is held at some contents. -/
def some' {sp : Space} {s : Shape} {e : EltTy} (arg : Memref sig (tile d i).2.kind sp s e) : sProp 𝕄 :=
  iprop(∃ g, holds (tile d i) arg g)

/-- The tile's own buffers and copy semaphores. -/
def own : sProp 𝕄 :=
  iprop(some' (F := F) d i arg4 ∗ some' (F := F) d i arg5 ∗ some' (F := F) d i arg6 ∗ some' (F := F) d i arg7 ∗ some' (F := F) d i arg8
    ∗ some' (F := F) d i arg9 ∗ semVal (tile d i, .dma arg10.sem) 0 ∗ semVal (tile d i, .dma v16_r0.sem) 0)

/-- A buffer at some contents has its first zero words anything. -/
theorem upTo_zero {N : ℕ} (arg : Memref sig .scVector .vmem ⟨1, ![N]⟩ .i32) (w : BitVec 32) :
    some' (F := F) d i arg ⊢ upTo (F := F) d i arg w 0 := by
  unfold some' upTo
  iintro ⟨%g, H⟩
  iexists g
  isplitr
  · ipureintro; intro m hm; omega
  · iexact H

/-- What the count has when it starts. -/
theorem mid_init (A : Vec F S25600 .i32) :
    iprop(holds (tile d i) arg4 A ∗ fourTo (F := F) d i arg5 arg6 arg7 arg8 4294967295#32 19456 ∗ upTo (F := F) d i arg9 0#32 1280)
      ⊢ mid d i arg4 arg5 arg6 arg7 arg8 arg9 A 0 0 := by
  unfold mid fourTo upTo
  iintro ⟨HA, ⟨⟨%M0, %h0, H0⟩, ⟨%M1, %h1, H1⟩, ⟨%M2, %h2, H2⟩, ⟨%M3, %h3, H3⟩⟩, ⟨%H, %hH, H9⟩⟩
  iexists M0, M1, M2, M3, H
  isplitr
  · ipureintro
    exact ⟨marked_init M0 _ h0, marked_init M1 _ h1, marked_init M2 _ h2, marked_init M3 _ h3, counted_init H _ hH⟩
  isplitl [HA]; · iexact HA
  isplitl [H0]; · iexact H0
  isplitl [H1]; · iexact H1
  isplitl [H2]; · iexact H2
  isplitl [H3]; · iexact H3
  iexact H9

set_option maxHeartbeats 1000000 in
/-- The whole body: from the chunk and the row, the row comes back holding the chunk's counts. -/
theorem wp_body (A : Vec F S25600 .i32) (hA : Classes A) (O : CellTallies nD τ sig (HIx 1)) (W : Waits sig (HIx 1)) :
    iprop(Transfers.MayWaits (tile d i) none O ∗ holds (tile d i) (chunkM i arg2) A ∗ some' (F := F) d i (rowM i arg3)
        ∗ own (F := F) d i arg4 arg5 arg6 arg7 arg8 arg9 arg10 v16_r0 ∗ owes (tile d i) O W)
      ⊢ wpt d i (bodyK i arg2 arg3 arg4 harg4 arg5 arg6 arg7 arg8 arg9 harg9 arg10 v16_r0)
          fun _ => iprop((holds (tile d i) (chunkM i arg2) A ∗ ∃ H, ⌜Counted H (cls A) 8 0⌝ ∗ holds (tile d i) (rowM i arg3) H)
            ∗ own (F := F) d i arg4 arg5 arg6 arg7 arg8 arg9 arg10 v16_r0
            ∗ ∃ W', ⌜∀ p ∈ W', p ∈ W ∨ p.2 = none⌝ ∗ owes (tile d i) O W') := by
  unfold own bodyK
  iintro ⟨#Hmw, Hc, Hr, ⟨H4, H5, H6, H7, H8, H9, HvA, HvB⟩, HO⟩
  iapply (wp_issue d i (chunkM i arg2) arg4 arg10.sem A (by decide)) $$ [Hc H4 HvA]
  · isplitl [Hc]; · iexact Hc
    isplitl [H4]
    · unfold some'; iexact H4
    iexact HvA
  iintro Hfl
  iapply (wp_loop d i k0_t1_loop k0_t1_ok 152 rfl _ (fun k => fourTo (F := F) d i arg5 arg6 arg7 arg8 4294967295#32 (k * 128))
    (fun t => wp_fills d i arg5 arg6 arg7 arg8 4294967295#32 t)) $$ [H5 H6 H7 H8]
  · unfold fourTo
    rw [Nat.zero_mul]
    isplitl [H5]; · iapply (upTo_zero d i arg5); iexact H5
    isplitl [H6]; · iapply (upTo_zero d i arg6); iexact H6
    isplitl [H7]; · iapply (upTo_zero d i arg7); iexact H7
    iapply (upTo_zero d i arg8); iexact H8
  iintro HM
  iapply (wp_loop d i k0_t2_loop k0_t2_ok 10 rfl _ (fun k => upTo (F := F) d i arg9 0#32 (k * 128))
    (fun t => wp_clears d i arg9 0#32 t)) $$ [H9]
  · rw [Nat.zero_mul]
    iapply (upTo_zero d i arg9); iexact H9
  iintro HH
  iapply (wp_await d i (chunkM i arg2) arg4 arg10.sem A (O := O) (W := W)) $$ [Hfl HO]
  · isplitr; · iexact Hmw
    isplitl [Hfl]; · iexact Hfl
    iexact HO
  iintro ⟨Hc, H4, HvA, HO⟩
  iapply (wp_loop d i k0_t3_loop k0_t3_ok 8 rfl _ (fun k => mid d i arg4 arg5 arg6 arg7 arg8 arg9 A k 0)
    (wp_trip d i arg4 arg5 arg6 arg7 arg8 arg9 A hA)) $$ [H4 HM HH]
  · iapply (mid_init d i arg4 arg5 arg6 arg7 arg8 arg9 A)
    isplitl [H4]; · iexact H4
    isplitl [HM]; · iexact HM
    iexact HH
  iintro HI'
  unfold mid
  icases HI' with ⟨%M0, %M1, %M2, %M3, %H, %hM, H4, H5, H6, H7, H8, H9⟩
  iapply (wp_issue d i arg9 (rowM i arg3) v16_r0.sem H (by decide)) $$ [H9 Hr HvB]
  · isplitl [H9]; · iexact H9
    isplitl [Hr]
    · unfold some'; iexact Hr
    iexact HvB
  iintro Hfl
  iapply (wp_await d i arg9 (rowM i arg3) v16_r0.sem H (O := O)) $$ [Hfl HO]
  · isplitr; · iexact Hmw
    isplitl [Hfl]; · iexact Hfl
    iexact HO
  iintro ⟨H9, Hr, HvB, HO⟩
  unfold wpt some'
  rw [wp_pure]
  imodintro
  isplitl [Hc Hr]
  · isplitl [Hc]; · iexact Hc
    iexists H
    isplitr; · ipureintro; exact hM.2.2.2.2
    iexact Hr
  isplitr [HO]
  · isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HvA]; · iexact HvA
    iexact HvB
  · iexists _
    isplitr
    rotate_left
    · iexact HO
    · ipureintro
      intro p hp
      rcases Finset.mem_insert.mp hp with rfl | hp
      · exact .inr rfl
      rcases Finset.mem_insert.mp hp with rfl | hp
      · exact .inr rfl
      · exact .inl hp

end Cert.KernelIdeal.Hist

end
-- ==== Proof.Launch.lean ====
/-
  The SparseCore call: what each tile is handed and hands back, and that the body every tile runs meets it.
-/
module

public import proofs.«01_k».proof.Proof.Tile

@[expose] public section

noncomputable section

namespace Cert.KernelIdeal.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Counting

variable {F : FTy → Type}

local notation "𝕄" => MT nD τ sig (HIx 1) (Elt F) ℕ UU ℕ

/-- The variants of the labels below the SparseCore call. -/
abbrev 𝒱 : Variants := 𝒱₀.lift
/-- The bound a tile's body runs under. -/
abbrev v₀ : 𝒱.V := Sum.inl none

/-- The call's semaphores are its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev EH : Emb UH (MT nD τ sig (HIx 1) (Elt F) ℕ UU ℕ) := embL

/-- The place of a tile in the grid: its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- The flat array of classes, as the TensorCore names it. -/
abbrev vLoc (d : Dev nD) : Loc nD τ sig := (SparseCore.T d).loc main_v0
/-- The table of counts, as the TensorCore names it. -/
abbrev hLoc (d : Dev nD) : Loc nD τ sig := (SparseCore.T d).loc main_v1

local notation "vW" => (Memref.whole Cert.KernelIdeal.main_v0_scv : Memref Cert.KernelIdeal.sig Kind.scVector Space.hbm Cert.KernelIdeal.S819200 EltTy.i32)
local notation "hW" => (Memref.whole Cert.KernelIdeal.main_v1_scv : Memref Cert.KernelIdeal.sig Kind.scVector Space.hbm Cert.KernelIdeal.S32x1280 EltTy.i32)

/-- The chunk of a tile: what its part of the flat array reads. -/
def chunk (X : S819200.Idx → BitVec 32) (i : grid0.Coords) : Vec F S25600 .i32 := (chunkM i vW).view.read (Elt F) X
/-- What a tile makes: its part of the table reads as the counts of its chunk. -/
def Made (X : S819200.Idx → BitVec 32) (i : grid0.Coords) (H : Vec F S1280 .i32) : Prop := Counted H (cls (chunk (F := F) X i)) 8 0

/-- What a tile is handed: its chunk and its row of the table. -/
def goT (X : S819200.Idx → BitVec 32) (d : Dev nD) (i : grid0.Coords) : sProp 𝕄 :=
  iprop(holds (tile d i) (chunkM i vW) (chunk (F := F) X i) ∗ some' (F := F) d i (rowM i hW))
/-- What a tile hands back: its chunk, and its row holding the chunk's counts. -/
def tdT (X : S819200.Idx → BitVec 32) (d : Dev nD) (i : grid0.Coords) : sProp 𝕄 :=
  iprop(holds (tile d i) (chunkM i vW) (chunk (F := F) X i) ∗ ∃ H, ⌜Made (F := F) X i H⌝ ∗ holds (tile d i) (rowM i hW) H)

instance {sp : Space} {s : Shape} {e : EltTy} (thr : Thread nD τ) (arg : Memref sig thr.2.kind sp s e) (g : s.Idx → Elt F e) :
    BI.Storable (upEmb : UEmb _ 𝕄) (holds thr arg g) := by
  unfold holds; infer_instance
instance {sp : Space} {s : Shape} {e : EltTy} (d : Dev nD) (i : grid0.Coords) (arg : Memref sig (tile d i).2.kind sp s e) :
    BI.Storable (upEmb : UEmb _ 𝕄) (some' (F := F) d i arg) := by
  unfold some'; infer_instance
instance (X : S819200.Idx → BitVec 32) (d : Dev nD) (i : grid0.Coords) : BI.Storable (upEmb : UEmb _ 𝕄) (goT (F := F) X d i) := by
  unfold goT; infer_instance
instance (X : S819200.Idx → BitVec 32) (d : Dev nD) (i : grid0.Coords) : BI.Storable (upEmb : UEmb _ 𝕄) (tdT (F := F) X d i) := by
  unfold tdT; infer_instance

/-- The call's hand-overs: a SparseCore is handed what its sixteen tiles are. -/
def P (X : S819200.Idx → BitVec 32) : (K (F := F)).Pay (nD := nD) (Val := Elt F) (Name := ℕ) (U := UU) where
  st := fun q d c => match q with | 0 => bigSep Finset.univ fun i : Fin (grid0.bound 1) => goT (F := F) X d (coordsV c i)
  dn := fun q d c => match q with | 0 => bigSep Finset.univ fun i : Fin (grid0.bound 1) => tdT (F := F) X d (coordsV c i)
  go := fun q d c i => match q with | 0 => goT (F := F) X d (coordsV c i)
  td := fun q d c i => match q with | 0 => tdT (F := F) X d (coordsV c i)
  x := fun _ _ => iprop(emp)

instance (X : S819200.Idx → BitVec 32) : (P (F := F) X).IsStorable where
  st q d c := match q with
    | 0 => (inferInstance : BI.Storable (upEmb : UEmb _ 𝕄) (bigSep Finset.univ fun i : Fin (grid0.bound 1) => goT (F := F) X d (coordsV c i)))
  dn q d c := match q with
    | 0 => (inferInstance : BI.Storable (upEmb : UEmb _ 𝕄) (bigSep Finset.univ fun i : Fin (grid0.bound 1) => tdT (F := F) X d (coordsV c i)))
  go q d c i := match q with
    | 0 => (inferInstance : BI.Storable (upEmb : UEmb _ 𝕄) (goT (F := F) X d (coordsV c i)))
  td q d c i := match q with
    | 0 => (inferInstance : BI.Storable (upEmb : UEmb _ 𝕄) (tdT (F := F) X d (coordsV c i)))

/-- What a SparseCore is handed splits among its tiles as it stands, and comes back the same way. -/
theorem vecSplit (X : S819200.Idx → BitVec 32) : (K (F := F)).VecSplit' (P X) 0 := by
  intro d c
  show (bigSep Finset.univ fun i : Fin (grid0.bound 1) => goT (F := F) X d (coordsV c i)) ⊢ |={Set.univ}=> iprop(
      (bigSep Finset.univ fun i : Fin (grid0.bound 1) => goT (F := F) X d (coordsV c i))
      ∗ ((bigSep Finset.univ fun i : Fin (grid0.bound 1) => tdT (F := F) X d (coordsV c i))
          -∗ (bigSep Finset.univ fun i : Fin (grid0.bound 1) => tdT (F := F) X d (coordsV c i))))
  iintro H
  imodintro
  isplitl [H]; · iexact H
  iintro H; iexact H

section Tile

variable (d : Dev nD) (i : grid0.Coords)

/-- The cell of the chunk's copy. -/
abbrev cA : GSem nD τ sig := (tile d i, .dma cc0_scratch6.sem)
/-- The cell of the row's copy. -/
abbrev cB : GSem nD τ sig := (tile d i, .dma cc0_scoped0.sem)

/-- The two copy semaphores are among the tile's own. -/
theorem ownSems0_V :
    (ownSems0 (tile d i) : sProp 𝕄)
      = iprop(semVal (cA d i) 0 ∗ semVal (cB d i) 0 ∗ bigSep (((ownCells (tile d i)).erase (cA d i)).erase (cB d i)) fun g => semVal g 0) := by
  unfold SparseCore.Cfg.ownSems0
  rw [SparseCore.bigSep_erase' ((mem_ownCells (g := cA d i)).mpr ⟨rfl, by
      show (SemLoc.dma cc0_scratch6.sem : SemLoc sig).isScoped .scVector = true; decide⟩),
    SparseCore.bigSep_erase' (Finset.mem_erase.mpr ⟨by simp [cA, cB]; decide, (mem_ownCells (g := cB d i)).mpr ⟨rfl, by
      show (SemLoc.dma cc0_scoped0.sem : SemLoc sig).isScoped .scVector = true; decide⟩⟩)]

/-- A scratch buffer of the tile, among the references. -/
abbrev sref (b : Ref sig .scVector) : DevRef τ sig := (tile d i).2.devRef b

/-- The scratch buffers are among the tile's own. -/
theorem ownBufs_V :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ (∃ f, (tile d i).loc cc0_scratch4 ↦{fullShare} f) ∗ (∃ f, (tile d i).loc cc0_scratch5 ↦{fullShare} f)
          ∗ bigSep (((((((ownRefs (τ := τ) (tile d i).2).erase (sref d i cc0_scratch0)).erase (sref d i cc0_scratch1)).erase (sref d i cc0_scratch2)).erase
              (sref d i cc0_scratch3)).erase (sref d i cc0_scratch4)).erase (sref d i cc0_scratch5))
              fun b => iprop(∃ f, ((d, b) : Loc nD τ sig) ↦{fullShare} f)) := by
  have ne (a b : Ref sig .scVector) (h : a ≠ b) : sref d i a ≠ sref d i b := fun e => h (Proc.devRef_injective _ e)
  unfold SparseCore.Cfg.ownBufs
  refine (SparseCore.bigSep_erase' (SparseCore.Cfg.mem_ownRefs_of_owner (p := (tile d i).2) (b := sref d i cc0_scratch0) rfl)).trans ?_
  rw [SparseCore.bigSep_erase' (Finset.mem_erase.mpr ⟨ne cc0_scratch1 cc0_scratch0 (by decide),
      SparseCore.Cfg.mem_ownRefs_of_owner (p := (tile d i).2) (b := sref d i cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := (tile d i).2) (b := sref d i cc0_scratch2) rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide),
      SparseCore.Cfg.mem_ownRefs_of_owner (p := (tile d i).2) (b := sref d i cc0_scratch3) rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide),
      SparseCore.Cfg.mem_ownRefs_of_owner (p := (tile d i).2) (b := sref d i cc0_scratch4) rfl⟩⟩⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scratch2 (by decide), Finset.mem_erase.mpr ⟨ne cc0_scratch5 cc0_scratch1 (by decide),
      Finset.mem_erase.mpr ⟨ne cc0_scratch5 cc0_scratch0 (by decide),
      SparseCore.Cfg.mem_ownRefs_of_owner (p := (tile d i).2) (b := sref d i cc0_scratch5) rfl⟩⟩⟩⟩⟩)]

/-- A whole buffer's elements are all its elements. -/
theorem pts_whole (b : Ref sig .scVector) (f : Buf (Elt F) ((tile d i).loc b)) :
    ((Memref.whole b : Memref sig .scVector _ _ _).view.loc (tile d i) ↦[(Memref.whole b : Memref sig .scVector _ _ _).view.set]{fullShare} f : sProp 𝕄)
      = (tile d i).loc b ↦{fullShare} f := by
  simp only [Memref.view_whole, View.set_whole]
/-- A whole buffer at some contents is the buffer held, reading something. -/
theorem some'_whole (b : Ref sig .scVector) :
    iprop(∃ f, (tile d i).loc b ↦{fullShare} f) ⊢ (some' (F := F) d i (Memref.whole b) : sProp 𝕄) := by
  unfold some' holds
  iintro ⟨%f, H⟩
  iexists _, f
  isplitr; · ipureintro; rfl
  iapply (Entails.of_eq (pts_whole d i b f).symm)
  iexact H
/-- And the other way. -/
theorem some'_whole' (b : Ref sig .scVector) :
    (some' (F := F) d i (Memref.whole b) : sProp 𝕄) ⊢ iprop(∃ f, (tile d i).loc b ↦{fullShare} f) := by
  unfold some' holds
  iintro ⟨%g, %f, -, H⟩
  iexists f
  iapply (Entails.of_eq (pts_whole d i b f))
  iexact H

/-- The body a tile runs, from what it is handed and its own buffers and semaphores. -/
theorem tile_body (X : S819200.Idx → BitVec 32) (hX : Classes (chunk (F := F) X i)) (hF : (K (F := F)).Facts)
    (O : CellTallies nD τ sig (HIx 1)) (W : Waits sig (HIx 1)) (hO : ∀ g, O g none = 0) :
    iprop(levAts (K (F := F)).L (K (F := F)).lev ∗ emp ∗ goT (F := F) X d i
        ∗ scopedBufs (tile d i) ∗ scopedSems0 (tile d i) ∗ owes (tile d i) O W)
      ⊢ wpt d i (cc0__sc_hist_body i vW (Memref.isWhole_whole _) hW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scoped0)
          fun _ => iprop(tdT (F := F) X d i ∗ scopedBufs (tile d i) ∗ scopedSems0 (tile d i)
            ∗ ∃ W', ⌜∀ p ∈ W', p ∈ W ∨ p.2 = none⌝ ∗ owes (tile d i) O W') := by
  rw [body_eq, (K (F := F)).scopedBufs_V hF d ((i 0).castLE hcore0) ((i 1).castLE hsub0),
    SparseCore.Cfg.scopedSems0_V (Val := Elt F) d ((i 0).castLE hcore0) ((i 1).castLE hsub0), ownSems0_V, ownBufs_V]
  unfold goT tdT Made
  iintro ⟨#Hlv, -, ⟨Hc, Hr⟩, ⟨H0, H1, H2, H3, H4, H5, Hbufs⟩, ⟨HvA, HvB, Hsems⟩, HO⟩
  iapply (wp_wand_r frame _ Set.univ)
  isplitr [Hbufs Hsems]
  · iapply (wp_body d i vW hW (Memref.whole cc0_scratch0) (Memref.isWhole_whole _) (Memref.whole cc0_scratch1)
      (Memref.whole cc0_scratch2) (Memref.whole cc0_scratch3)
      (Memref.whole cc0_scratch4) (Memref.whole cc0_scratch5) (Memref.isWhole_whole _)
      cc0_scratch6 cc0_scoped0 (chunk (F := F) X i) hX O W)
    isplitr; · iapply ((K (F := F)).mayWaits_none (thr := tile d i) hO); iexact Hlv
    isplitl [Hc]; · iexact Hc
    isplitl [Hr]; · iexact Hr
    isplitr [HO]
    · unfold own
      isplitl [H0]; · iapply (some'_whole d i cc0_scratch0); iexact H0
      isplitl [H1]; · iapply (some'_whole d i cc0_scratch1); iexact H1
      isplitl [H2]; · iapply (some'_whole d i cc0_scratch2); iexact H2
      isplitl [H3]; · iapply (some'_whole d i cc0_scratch3); iexact H3
      isplitl [H4]; · iapply (some'_whole d i cc0_scratch4); iexact H4
      isplitl [H5]; · iapply (some'_whole d i cc0_scratch5); iexact H5
      isplitl [HvA]; · iexact HvA
      iexact HvB
    · iexact HO
  · iintro %_ H
    unfold own
    icases H with ⟨HT, ⟨H0, H1, H2, H3, H4, H5, HvA, HvB⟩, HO⟩
    isplitl [HT]; · iexact HT
    isplitr [HvA HvB Hsems HO]
    · isplitl [H0]; · iapply (some'_whole' d i cc0_scratch0); iexact H0
      isplitl [H1]; · iapply (some'_whole' d i cc0_scratch1); iexact H1
      isplitl [H2]; · iapply (some'_whole' d i cc0_scratch2); iexact H2
      isplitl [H3]; · iapply (some'_whole' d i cc0_scratch3); iexact H3
      isplitl [H4]; · iapply (some'_whole' d i cc0_scratch4); iexact H4
      isplitl [H5]; · iapply (some'_whole' d i cc0_scratch5); iexact H5
      iexact Hbufs
    isplitr [HO]
    · isplitl [HvA]; · iexact HvA
      isplitl [HvB]; · iexact HvB
      iexact Hsems
    · iexact HO

end Tile

/-- What a tile runs for the call. -/
theorem defs₀_vector (c : Fin τ.nSC) (s : Fin τ.nSub) :
    defs₀ (F := F) (.scVector c s) 0 ()
      = SparseCore.onTile hcore0 hsub0 (fun c s => cc0__sc_hist_body (coordsV c s)
          vW (Memref.isWhole_whole _) hW (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scoped0) ⟨⟩ c s := rfl

/-- What a tile waited for, as the call asks it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's body meets what the call hands it and takes back. -/
theorem tileObl (X : S819200.Idx → BitVec 32) (hX : ∀ i, Classes (chunk (F := F) X i)) (hF : (K (F := F)).Facts) :
    (K (F := F)).TileObl (D (F := F)) 𝒱 (P X) v₀ 0 := by
  intro d c i O W hO _ _
  simp only [show (P (F := F) X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) X (hX _) hF O W hO).trans (wp_mono frame _ _ fun _ => obl_post)

end Cert.KernelIdeal.Hist

end
-- ==== Proof.Deal.lean ====
/-
  Cutting the flat array of classes and the table of counts into the tiles' parts, and joining the table again.
-/
module

public import proofs.«01_k».proof.Proof.Launch

@[expose] public section

noncomputable section

namespace Cert.KernelIdeal.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal.Gen Cert.Counting

variable {F : FTy → Type}

local notation "𝕄" => MT nD τ sig (HIx 1) (Elt F) ℕ UU ℕ
local notation "vW" => (Memref.whole Cert.KernelIdeal.main_v0_scv : Memref Cert.KernelIdeal.sig Kind.scVector Space.hbm Cert.KernelIdeal.S819200 EltTy.i32)
local notation "hW" => (Memref.whole Cert.KernelIdeal.main_v1_scv : Memref Cert.KernelIdeal.sig Kind.scVector Space.hbm Cert.KernelIdeal.S32x1280 EltTy.i32)

variable [FloatOps F]

/-- The tiles, by SparseCore and number. -/
abbrev Tiles : Type := Fin (grid0.bound 0) × Fin (grid0.bound 1)
/-- A tile's place in the grid. -/
abbrev at' (p : Tiles) : grid0.Coords := coordsV p.1 p.2

/-- The elements of a tile's chunk. -/
def chunkSet (p : Tiles) : Finset S819200.Idx := (chunkM (at' p) vW).view.set
/-- The elements of a tile's row. -/
def rowSet (p : Tiles) : Finset S32x1280.Idx := (rowM (at' p) hW).view.set

/-- An element is in a tile's chunk when the tile's number picks out its run of 25600. -/
theorem mem_chunkSet (p : Tiles) (x : S819200.Idx) :
    x ∈ chunkSet p ↔ 51200 * p.2.val + 25600 * p.1.val ≤ (x 0).val ∧ (x 0).val < 51200 * p.2.val + 25600 * p.1.val + 25600 := by
  have e : chunkSet p = (Rect.unit (s := S819200) (k0_off1 (at' p)) S25600.size (k0_off1_inb (at' p))).set := View.set_slice_whole _ _
  rw [e]
  refine Rect.mem_set_unit.trans ?_
  rw [k0_off1_eq]
  constructor
  · intro h; exact h 0
  · intro h a
    obtain rfl : a = 0 := Subsingleton.elim _ _
    exact h

/-- An element is in a tile's row when its row is the tile's number. -/
theorem mem_rowSet (p : Tiles) (x : S32x1280.Idx) : x ∈ rowSet p ↔ (x 0).val = 2 * p.2.val + p.1.val := by
  have e : rowSet p = (Rect.unit (s := S32x1280) (k0_off4 (at' p)) S1x1280.size (k0_off4_inb (at' p))).set :=
    (View.set_reshape _ _).trans (View.set_slice_whole _ _)
  rw [e]
  refine Rect.mem_set_unit.trans ?_
  rw [k0_off4_eq]
  constructor
  · intro h
    have h0 : 2 * p.2.val + p.1.val ≤ (x 0).val ∧ (x 0).val < 2 * p.2.val + p.1.val + 1 := h 0
    omega
  · intro h a
    match a with
    | 0 =>
      show 2 * p.2.val + p.1.val ≤ (x 0).val ∧ (x 0).val < 2 * p.2.val + p.1.val + 1
      omega
    | 1 =>
      show 0 ≤ (x 1).val ∧ (x 1).val < 0 + 1280
      have : (x 1).val < 1280 := (x 1).isLt
      omega

/-- There are two SparseCores, -/
theorem bound0 (p : Tiles) : p.1.val < 2 := p.1.isLt
/-- and sixteen tiles on each. -/
theorem bound1 (p : Tiles) : p.2.val < 16 := p.2.isLt

/-- Tiles of the same number are the same. -/
theorem tiles_ext {p q : Tiles} (h : 2 * p.2.val + p.1.val = 2 * q.2.val + q.1.val) : p = q := by
  have := bound0 p; have := bound0 q
  exact Prod.ext (Fin.ext (by omega)) (Fin.ext (by omega))

/-- The tile that works on row `w`. -/
def tileOf (w : ℕ) (h : w < 32) : Tiles := (⟨w % 2, Nat.mod_lt _ (by decide)⟩, ⟨w / 2, show w / 2 < 16 by omega⟩)

/-- Chunks of different tiles share no element, -/
theorem chunks_disjoint : ∀ p ∈ (Finset.univ : Finset Tiles), ∀ q ∈ (Finset.univ : Finset Tiles), p ≠ q → Disjoint (chunkSet p) (chunkSet q) := by
  intro p _ q _ h
  refine Finset.disjoint_left.mpr fun x hp hq => h ?_
  rw [mem_chunkSet] at hp hq
  have := bound0 p; have := bound0 q
  exact tiles_ext (by omega)
/-- and every element is in some chunk. -/
theorem chunks_cover : (Finset.univ : Finset Tiles).biUnion chunkSet = Finset.univ := by
  refine Finset.eq_univ_iff_forall.mpr fun x => Finset.mem_biUnion.mpr ?_
  have hx : (x 0).val < 819200 := (x 0).isLt
  refine ⟨tileOf ((x 0).val / 25600) (by omega), Finset.mem_univ _, (mem_chunkSet _ _).mpr ?_⟩
  show 51200 * ((x 0).val / 25600 / 2) + 25600 * ((x 0).val / 25600 % 2) ≤ (x 0).val
    ∧ (x 0).val < 51200 * ((x 0).val / 25600 / 2) + 25600 * ((x 0).val / 25600 % 2) + 25600
  omega
/-- Rows of different tiles share no element, -/
theorem rows_disjoint : ∀ p ∈ (Finset.univ : Finset Tiles), ∀ q ∈ (Finset.univ : Finset Tiles), p ≠ q → Disjoint (rowSet p) (rowSet q) := by
  intro p _ q _ h
  refine Finset.disjoint_left.mpr fun x hp hq => h ?_
  rw [mem_rowSet] at hp hq
  exact tiles_ext (by omega)
/-- and every element of the table is in some row. -/
theorem rows_cover : (Finset.univ : Finset Tiles).biUnion rowSet = Finset.univ := by
  refine Finset.eq_univ_iff_forall.mpr fun x => Finset.mem_biUnion.mpr ?_
  have hx : (x 0).val < 32 := (x 0).isLt
  refine ⟨tileOf (x 0).val hx, Finset.mem_univ _, (mem_rowSet _ _).mpr ?_⟩
  show (x 0).val = 2 * ((x 0).val / 2) + (x 0).val % 2
  omega

/-- A table whose every row holds the counts of its tile's chunk. -/
def Tabled (X : S819200.Idx → BitVec 32) (g : S32x1280.Idx → BitVec 32) : Prop :=
  ∀ p : Tiles, Made (F := F) X (at' p) ((rowM (at' p) hW).view.read (Elt F) g)

section

variable (d : Dev nD)

omit [FloatOps F] in
/-- A conjunction of facts and resources, taken apart. -/
theorem bigSep_facts {I : Type} [DecidableEq I] (φ : I → Prop) (Φ : I → sProp 𝕄) (s : Finset I) :
    bigSep s (fun t => iprop(⌜φ t⌝ ∗ Φ t)) ⊢ iprop(⌜∀ t ∈ s, φ t⌝ ∗ bigSep s Φ) := by
  induction s using Finset.induction_on with
  | empty =>
    iintro H
    isplitr
    · ipureintro; intro t ht; exact absurd ht (Finset.notMem_empty t)
    · iexact H
  | insert a s ha ih =>
    rw [SparseCore.bigSep_insert' ha, SparseCore.bigSep_insert' ha]
    iintro ⟨⟨%h, Ha⟩, H⟩
    ihave H' := ih $$ H
    icases H' with ⟨%hs, H⟩
    isplitr
    · ipureintro
      intro t ht
      rcases Finset.mem_insert.mp ht with rfl | ht
      · exact h
      · exact hs t ht
    isplitl [Ha] <;> iassumption

omit [FloatOps F] in
/-- A step on each of the tiles' parts is a step on all. -/
theorem bigSep_mono' {Φ Ψ : Tiles → sProp 𝕄} (h : ∀ p, Φ p ⊢ Ψ p) : bigSep Finset.univ Φ ⊢ bigSep Finset.univ Ψ :=
  bigSep_mono fun p _ => h p

/-- A tile's parts of the array and of the table are what it is handed. -/
theorem to_tile (X : Buf (Elt F) (vLoc d)) (f : Buf (Elt F) (hLoc d)) (p : Tiles) :
    iprop((vLoc d ↦[chunkSet p]{fullShare} X : sProp 𝕄) ∗ (hLoc d ↦[rowSet p]{fullShare} f : sProp 𝕄)) ⊢ goT (F := F) X d (coordsV p.1 p.2) := by
  unfold goT some' holds
  iintro ⟨Hv, Hh⟩
  isplitl [Hv]
  · iexists X
    isplitr; · ipureintro; rfl
    iexact Hv
  · iexists _, f
    isplitr; · ipureintro; rfl
    iexact Hh

/-- What a tile hands back has its chunk, and its part of the table, holding its chunk's counts. -/
theorem of_tile (X : Buf (Elt F) (vLoc d)) (p : Tiles) :
    tdT (F := F) X d (coordsV p.1 p.2)
      ⊢ iprop((∃ y, vLoc d ↦[chunkSet p]{fullShare} y : sProp 𝕄)
          ∗ ∃ f, ⌜Made (F := F) X (at' p) ((rowM (at' p) hW).view.read (Elt F) f)⌝ ∗ (hLoc d ↦[rowSet p]{fullShare} f : sProp 𝕄)) := by
  unfold tdT holds
  iintro ⟨⟨%y, -, Hv⟩, %H, %hH, %f, %hf, Hh⟩
  isplitl [Hv]
  · iexists y
    iexact Hv
  iexists f
  isplitr; · ipureintro; rw [hf]; exact hH
  iexact Hh

/-- The array and the table, whole, are what the tiles are handed. -/
theorem deal (X : Buf (Elt F) (vLoc d)) :
    iprop((vLoc d ↦{fullShare} X) ∗ ∃ f, hLoc d ↦{fullShare} f)
      ⊢ (bigSep Finset.univ fun c : Fin (grid0.bound 0) => bigSep Finset.univ fun i : Fin (grid0.bound 1) => goT (F := F) X d (coordsV c i) : sProp 𝕄) := by
  rw [← bigSep_univ_prod (fun p : Tiles => goT (F := F) X d (coordsV p.1 p.2))]
  iintro ⟨Hv, %f, Hh⟩
  ihave Hv' := (Entails.of_eq (show (vLoc d ↦{fullShare} X : sProp 𝕄) = bigSep Finset.univ fun p : Tiles => vLoc d ↦[chunkSet p]{fullShare} X by
    rw [← pointsTo_biUnion Finset.univ (ℓ := vLoc d) chunkSet chunks_disjoint, chunks_cover])) $$ Hv
  ihave Hh' := (Entails.of_eq (show (hLoc d ↦{fullShare} f : sProp 𝕄) = bigSep Finset.univ fun p : Tiles => hLoc d ↦[rowSet p]{fullShare} f by
    rw [← pointsTo_biUnion Finset.univ (ℓ := hLoc d) rowSet rows_disjoint, rows_cover])) $$ Hh
  ihave H := (Entails.of_eq (bigSep_sep' (Finset.univ : Finset Tiles) (fun p => (vLoc d ↦[chunkSet p]{fullShare} X : sProp 𝕄))
    (fun p => (hLoc d ↦[rowSet p]{fullShare} f : sProp 𝕄))).symm) $$ [Hv' Hh']
  · isplitl [Hv'] <;> iassumption
  iapply (bigSep_mono' fun p => to_tile d X f p)
  iexact H

/-- The chunks, each whole at something, are the array, whole at something. -/
theorem join_chunks :
    (bigSep Finset.univ fun p : Tiles => iprop(∃ y, vLoc d ↦[chunkSet p]{fullShare} y : sProp 𝕄))
      ⊢ (iprop(∃ y, vLoc d ↦{fullShare} y) : sProp 𝕄) := by
  refine (bigSep_exists_pi Finset.univ (fun (p : Tiles) (y : Buf (Elt F) (vLoc d)) => (vLoc d ↦[chunkSet p]{fullShare} y : sProp 𝕄))).trans ?_
  iintro ⟨%ys, H⟩
  ihave H' := (pointsTo_biUnion_join Finset.univ chunkSet ys (ys (tileOf 0 (by decide))) chunks_disjoint) $$ H
  icases H' with ⟨%y, -, Hy⟩
  rw [chunks_cover]
  iexists y
  iexact Hy

/-- The rows, each holding its chunk's counts, are the table, whole. -/
theorem join_rows (X : Buf (Elt F) (vLoc d)) :
    (bigSep Finset.univ fun p : Tiles => iprop(∃ f, ⌜Made (F := F) X (at' p) ((rowM (at' p) hW).view.read (Elt F) f)⌝ ∗ (hLoc d ↦[rowSet p]{fullShare} f : sProp 𝕄)))
      ⊢ (iprop(∃ g, ⌜Tabled (F := F) X g⌝ ∗ hLoc d ↦{fullShare} g) : sProp 𝕄) := by
  refine (bigSep_exists_pi Finset.univ (fun (p : Tiles) (f : Buf (Elt F) (hLoc d)) =>
    iprop(⌜Made (F := F) X (at' p) ((rowM (at' p) hW).view.read (Elt F) f)⌝ ∗ (hLoc d ↦[rowSet p]{fullShare} f : sProp 𝕄)))).trans ?_
  iintro ⟨%fs, H⟩
  ihave H' := (bigSep_facts (fun p : Tiles => Made (F := F) X (at' p) ((rowM (at' p) hW).view.read (Elt F) (fs p)))
    (fun p => (hLoc d ↦[rowSet p]{fullShare} fs p : sProp 𝕄)) Finset.univ) $$ H
  icases H' with ⟨%hfs, H⟩
  ihave H' := (pointsTo_biUnion_join Finset.univ rowSet fs (fs (tileOf 0 (by decide))) rows_disjoint) $$ H
  icases H' with ⟨%g, %hg, Hg⟩
  rw [rows_cover]
  iexists g
  isplitr
  · ipureintro
    intro p
    rw [View.read_congr (v := (rowM (at' p) hW).view) (f := g) (g := fs p) (fun x hx => hg p (Finset.mem_univ p) x hx)]
    exact hfs p (Finset.mem_univ p)
  · iexact Hg

/-- From what the tiles hand back, the array and the table, whole, every row of the table holding its chunk's counts. -/
theorem undeal (X : Buf (Elt F) (vLoc d)) :
    (bigSep Finset.univ fun c : Fin (grid0.bound 0) => bigSep Finset.univ fun i : Fin (grid0.bound 1) => tdT (F := F) X d (coordsV c i))
      ⊢ (iprop((∃ y, vLoc d ↦{fullShare} y) ∗ ∃ g, ⌜Tabled (F := F) X g⌝ ∗ hLoc d ↦{fullShare} g) : sProp 𝕄) := by
  rw [← bigSep_univ_prod (fun p : Tiles => tdT (F := F) X d (coordsV p.1 p.2))]
  refine (bigSep_mono' fun p => of_tile d X p).trans ?_
  rw [bigSep_sep' (Finset.univ : Finset Tiles)]
  exact BIClass.sep_mono (join_chunks d) (join_rows d X)

end

end Cert.KernelIdeal.Hist

end
-- ==== Proof.Region.lean ====
/-
  The TensorCore call: it reads the table of counts whole, and leaves in its result the weights made of it.
-/
module

public import proofs.«01_k».proof.Proof.Deal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.Value
public import Idealize.ShloMosaic.Lib.VecWindow

@[expose] public section

noncomputable section

namespace Cert.KernelIdeal.Hist

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig (HIx 1) (Elt F) ℕ UU ℕ

/-- The rounds of the TensorCore call's copies, among all. -/
abbrev EP : Emb UP (MT nD τ sig (HIx 1) (Elt F) ℕ UU ℕ) := (Emb.inl : Emb UP (UP × Counters)).trans embR

omit [FloatOps F] in
/-- The states of the call's copies stand among the program's. -/
instance EP_landsIn : (EP : Emb UP (MT nD τ sig (HIx 1) (Elt F) ℕ UU ℕ)).LandsIn (upEmb : UEmb _ (MT nD τ sig (HIx 1) (Elt F) ℕ UU ℕ)) := by
  unfold EP; infer_instance

/-- The weights made of a table of counts. -/
abbrev weights (g : S32x1280.Idx → BitVec 32) : Vec F S1x1280 .f32 := k1_pay1 g

/-- The body, with what it makes of the table left open. -/
def idfBody (pay : Vec F S32x1280 .i32 → Vec F S1x1280 .f32) : Prog (TpuEff nD τ sig (Elt F) Λ₀ .tc) PUnit := do
  let v0 : Vec F S32x1280 .i32 ← Prog.lift (.load (stage1_0 0) (Rect.unit (s := S32x1280) ![0, 0] S32x1280.size inb_S32x1280_S32x1280_0_0).toLoadRect (View.loadsAt_vmem h_S32x1280))
  let _ : Vec F S1x1280 .f32 ← Prog.lift (.load (stage1_1 0) (Rect.unit (s := S1x1280) ![0, 0] S1x1280.size inb_S1x1280_S1x1280_0_0).toLoadRect (View.loadsAt_vmem h_S1x1280))
  Prog.lift (.store (stage1_1 0) (Rect.unit (s := S1x1280) ![0, 0] S1x1280.size inb_S1x1280_S1x1280_0_0) (pay v0) Finset.univ (View.stores_vmem_bits_univ h_S1x1280 rfl) (.inl rfl))
  pure ⟨⟩

/-- The body is that, at the weights. -/
theorem idfBody_eq : cc1__tc_idf_body (F := F) (stage1_0 0) (hstage1_0 0) (stage1_1 0) (hstage1_1 0) = idfBody k1_pay1 := by
  rw [cc1__tc_idf_body_eq_skeleton]
  rfl

omit [FloatOps F] in
/-- A read of all of the first buffer is what it holds. -/
theorem readAt_counts (g : S32x1280.Idx → BitVec 32) :
    View.readAt (Elt F) (stage1_0 0).view (Rect.unit (s := S32x1280) ![0, 0] S32x1280.size inb_S32x1280_S32x1280_0_0).toLoadRect g = g := by
  funext x
  show g _ = g x
  congr 1
  funext a
  apply Fin.ext
  show ![0, 0] a + 1 * (x a).val = _
  fin_cases a <;> simp

omit [FloatOps F] in
/-- All of the second buffer written is what was written. -/
theorem writes_result (f w : S1x1280.Idx → F .f32) :
    (View.whole cc1_stg1_0).writes (Elt F) f [⟨Rect.unit (s := S1x1280) ![0, 0] S1x1280.size inb_S1x1280_S1x1280_0_0, w⟩] = w := by
  have e := Idealize.ShloMosaic.View.read_writes_full (Val := Elt F) (View.whole cc1_stg1_0) f (off := ![0, 0]) inb_S1x1280_S1x1280_0_0 w []
  rw [View.read_whole] at e
  exact e

/-- The body, from its two buffers held whole, runs to its end: the first is as it was, and the second holds what is made of it. -/
theorem wp_idf (pay : Vec F S32x1280 .i32 → Vec F S1x1280 .f32) (c : Dev nD) (f0 : S32x1280.Idx → BitVec 32) (f1 : S1x1280.Idx → F .f32) (E : Set ℕ) (Q : PUnit → sProp 𝕄) :
    iprop(((stage1_0 0).view.loc (c : Thread nD τ) ↦{fullShare} f0) ∗ ((stage1_1 0).view.loc (c : Thread nD τ) ↦{fullShare} f1)
        ∗ (iprop(((stage1_0 0).view.loc (c : Thread nD τ) ↦{fullShare} f0) ∗ ((stage1_1 0).view.loc (c : Thread nD τ) ↦{fullShare} (pay f0 : S1x1280.Idx → F .f32))) -∗ Q ⟨⟩))
      ⊢ wp frame (wpE (defs₀ (F := F)) Variants.none (c : Thread nD τ) none) E (idfBody pay) Q := by
  unfold idfBody
  iintro ⟨H0, H1, Hk⟩
  sl_exec
  sl_step
  rw [readAt_counts, writes_result]
  iapply Hk
  isplitl [H0]; · iexact H0
  iexact H1

/-- What holds of every buffer outside the call when it is entered. -/
abbrev Vals (F : FTy → Type) : Type := (c : Dev nD) → (b : Ref sig .tc) → Buf (Elt F) ((c : Thread nD τ).loc b)

variable (V : Vals F)

/-- The table as the call is entered. -/
abbrev table (c : Dev nD) : S32x1280.Idx → BitVec 32 := V c main_v1

/-- What has been waited for before the call: nothing above the level `b`. -/
def low (b : ℕ) (c : Dev nD) : Set (SemLoc sig × HIx 1) := {p | (K (F := F)).lev ((c : Thread nD τ), p.1) p.2 ≤ b}

/-- The data of the call: the two arrays as the call finds them; the first buffer holds the table, the second the weights. -/
def dat (b : ℕ) (c : Dev nD) : Dat τ (Elt F) (HIx 1) ℕ UU ℕ cfg1 c where
  A w := V c (Pipeline.arrRef spec1 w)
  after w _ := match w with
    | ⟨0, _⟩ => table V c
    | ⟨1, _⟩ => (weights (table V c) : Vec F S1x1280 .f32)
  Φ _ := Pipeline.scopedRest (Ix := HIx 1) (Name := ℕ) (U := UU) (Lvl := ℕ) (Val := Elt F) spec1 c
  q _ := fullShare
  owed _ := 0
  recorded _ := low (F := F) b c

/-- The one point's blocks start at the arrays' starts. -/
theorem index_zero : (∀ a, win1_0.index t1_0 a = 0) ∧ ∀ a, win1_1.index t1_0 a = 0 := by decide +kernel

/-- The block of the table's window is the whole table. -/
theorem read_blk0 (g : S32x1280.Idx → BitVec 32) : ((cfg1.win 0).blk t1_0).view.read (Elt F) g = g := by
  funext x
  show g _ = g x
  congr 1
  funext a
  apply Fin.ext
  show win1_0.index t1_0 a * win1_0.size a + 1 * (x a).val = (x a).val
  rw [index_zero.1 a]
  omega

/-- The block of the result's window is the whole result. -/
theorem read_blk1 (f : S1x1280.Idx → F .f32) : ((cfg1.win 1).blk t1_0).view.read (Elt F) f = f := by
  funext x
  show f _ = f x
  congr 1
  funext a
  apply Fin.ext
  show win1_1.index t1_0 a * win1_1.size a + 1 * (x a).val = (x a).val
  rw [index_zero.2 a]
  omega

/-- The first buffer holds the table when the body runs. -/
theorem before_in (b : ℕ) (c : Dev nD) (d : (cfg1.win 0).block.Idx → Elt F (cfg1.win 0).elt) : (dat V b c).before 0 t1_0 d = table V c := by
  unfold Dat.before; rw [if_pos (by decide)]; exact read_blk0 (F := F) (table V c)

/-- The body meets what the call asks of it. -/
theorem body_obligation (b : ℕ) (c : Dev nD) : BodyObligation (dat V b c) (defs₀ (F := F)) 𝒱₀ none Set.univ := fun t => by
  obtain rfl := fin_N1 t
  rw [bigSep_W1, bigSep_W1]
  simp only [owns_whole_eq]
  rw [show (dat V b c).Φ t1_0.succ = (dat V b c).Φ t1_0.castSucc from rfl,
    show (dat V b c).owesAt none t1_0.succ = (dat V b c).owesAt none t1_0.castSucc from rfl]
  iintro ⟨HΦ, Howes, ⟨%d0, %f0, %hf0, H0⟩, ⟨%d1, %f1, -, H1⟩⟩
  rw [before_in] at hf0
  subst hf0
  have e : cc1__tc_idf_body (F := F) (stage1_0 0) (hstage1_0 0) (stage1_1 0) (hstage1_1 0) = idfBody k1_pay1 := idfBody_eq
  have e' := wp_idf k1_pay1 c (table V c) f1 Set.univ
  rw [← e] at e'
  iapply (e' _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The call has no tables of its own. -/
abbrev adm : (p : Fin 1) → (pcfgs (F := F) p).Adm := fun p => (cfgs p).toPCfg_adm

/-- The data of every call: there is the one. -/
def pdats (b : ℕ) : (p : Fin 1) → (c : Dev nD) → Dat τ (Elt F) (HIx 1) ℕ UU ℕ (Pipeline.pin (pcfgs (F := F)) adm p) c
  | ⟨0, _⟩ => fun c => dat V b c

/-- The result's array after the call is the weights of the table. -/
theorem arrAt_out (b : ℕ) (c : Dev nD) : (dat V b c).arrAt 1 cfg1.N = (weights (table V c) : Vec F S1x1280 .f32) := by
  refine (dat V b c).arrAt_eq_of_cover 1 (weights (table V c) : Vec F S1x1280 .f32) (fun t _ => ?_) (fun i => ⟨t1_0, flush1_1 _, ?_⟩)
  · obtain rfl := fin_N1 t
    rw [read_blk1]
    unfold Pipeline.Dat.flushed
    dsimp only [dat]
    rfl
  · show i ∈ ((View.whole main_v2).slice (win1_1.rect t1_0)).set
    rw [View.set_slice_whole, Rect.mem_set_unit]
    intro a
    show win1_1.index t1_0 a * win1_1.size a ≤ (i a).val ∧ (i a).val < win1_1.index t1_0 a * win1_1.size a + S1x1280.size a
    rw [index_zero.2 a]
    have := (i a).isLt
    refine ⟨by omega, ?_⟩
    rw [Nat.zero_mul, Nat.zero_add]
    exact this

variable (Vp : Vals F)

set_option backward.isDefEq.respectTransparency.types false in
/-- The call, over all the TensorCore's buffers at `V` beside what rides along: it leaves them at `Vp`, which is `V` but
    for the weights of the table. What has been waited for stays as low as it was. -/
def reg (b : ℕ) (R : Dev nD → sProp 𝕄) (hout : ∀ c, Vp c main_v2 = (weights (table V c) : Vec F S1x1280 .f32))
    (hne : ∀ c (r : Ref sig .tc), r ≠ main_v2 → Vp c r = V c r) :
    Pipeline.RegionSeg (pcfgs (F := F)) adm (pdats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ R c ∗ ∃ W, ⌜(K (F := F)).WBelow (c : Thread nD τ) W b⌝ ∗ owes (c : Thread nD τ) (0 : CellTallies nD τ sig (HIx 1)) W)
  post c := iprop(unscopedBufs c (Vp c) ∗ R c ∗ ∃ W, ⌜(K (F := F)).WBelow (c : Thread nD τ) W b⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V b 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V b 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hne c main_v1 (by decide)).symm
        · exact (arrAt_out V b c).trans (hout c).symm)
      (fun r hr => hne c r fun h => hr (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Hist

end
-- ==== Proof.Main.lean ====
/-
  The whole program: the array of classes flattened, counted by the tiles, the counts turned into weights, and the
  weights of the classes cut out of them.
-/
module

public import proofs.«01_k».proof.Proof.Region
public import Idealize.ShloMosaic.Lib.Pipeline.Frame

@[expose] public section

noncomputable section

namespace Cert.KernelIdeal.Hist

open Idealize.ShloMosaic
open Idealize.ShloMosaic.TcCoe Idealize.ShloMosaic.Tactic
open Idealize.ShloMosaic.SparseCore.Cfg (HIx)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig (HIx 1) (Elt F) ℕ UU ℕ

variable (m : (ℓ : Loc nD τ sig) → Buf (Elt F) ℓ) (ρ : Dev nD → PrngReg)

/-- The array of classes. -/
abbrev classes (d : Dev nD) : S16384x50.Idx → BitVec 32 := m ((SparseCore.T d).loc main_arg0)
/-- The array of classes, row after row. -/
def flat (X : S16384x50.Idx → BitVec 32) : S819200.Idx → BitVec 32 := shapeCast S819200 X shapeCasts_S16384x50_S819200
/-- What is cut out of the weights. -/
def cut (w : S1x1280.Idx → F .f32) : S1203.Idx → F .f32 :=
  shapeCast S1203 (extractStridedSlice S1x1203 ![0, 0] w slices_S1x1280_S1x1203_0_0) shapeCasts_S1x1203_S1203

/-! ## The host's operations and what is held as they run -/

/-- The host's reshape of the classes, -/
abbrev opIn : HloOp τ sig (Elt F) := StableHlo.reshape main_arg0 main_v0 (rfl : (.i32 : EltTy) = .i32) shapeCasts_S16384x50_S819200
/-- its slice of the weights, -/
abbrev opCut : HloOp τ sig (Elt F) := StableHlo.unary main_v2 main_v3 ((extractStridedSlice S1x1203 ![0, 0] · slices_S1x1280_S1x1203_0_0) : (⟨S1x1280, .f32⟩ : BufTy).Contents (Elt F) → (⟨S1x1203, .f32⟩ : BufTy).Contents (Elt F))
/-- and its reshape of the slice. -/
abbrev opOut : HloOp τ sig (Elt F) := StableHlo.reshape main_v3 main_v4 (rfl : (.f32 : EltTy) = .f32) shapeCasts_S1x1203_S1203

/-- A host array as a buffer of the device. -/
abbrev dev (r : Ref sig .tc) : DevRef τ sig := Proc.devRef .tc r

/-- The first touches the classes and their flat copy only, -/
theorem hIn : (opIn (F := F)).bufs ⊆ ucRefs τ sig := show ({dev main_arg0, dev main_v0} : Finset (DevRef τ sig)) ⊆ ucRefs τ sig by decide
/-- the second the weights and the slice, -/
theorem hCut : (opCut (F := F)).bufs ⊆ ucRefs τ sig := show ({dev main_v2, dev main_v3} : Finset (DevRef τ sig)) ⊆ ucRefs τ sig by decide
/-- the third the slice and the result. -/
theorem hOut : (opOut (F := F)).bufs ⊆ ucRefs τ sig := show ({dev main_v3, dev main_v4} : Finset (DevRef τ sig)) ⊆ ucRefs τ sig by decide

/-- As the program starts; -/
def W0 (d : Dev nD) : Valuation τ sig (Elt F) := fun b => m (d, b)
/-- with the array flattened; -/
def W1 (d : Dev nD) : Valuation τ sig (Elt F) := (opIn (F := F)).result (W0 m d)
/-- with the table `g` of counts; -/
def W2 (d : Dev nD) (y : S819200.Idx → BitVec 32) (g : S32x1280.Idx → BitVec 32) : Valuation τ sig (Elt F) :=
  Function.update (Function.update (W1 m d) (dev main_v0) y) (dev main_v1) g
/-- with the weights of it; -/
def W3 (d : Dev nD) (y : S819200.Idx → BitVec 32) (g : S32x1280.Idx → BitVec 32) : Valuation τ sig (Elt F) :=
  Function.update (W2 m d y g) (dev main_v2) (weights g : S1x1280.Idx → F .f32)
/-- with the weights of the classes cut out. -/
def W4 (d : Dev nD) (y : S819200.Idx → BitVec 32) (g : S32x1280.Idx → BitVec 32) : Valuation τ sig (Elt F) :=
  (opOut (F := F)).result ((opCut (F := F)).result (W3 m d y g))

omit [FloatOps F] in
/-- All that is held between the calls, one by one. -/
theorem held_uc (d : Dev nD) (W : Valuation τ sig (Elt F)) :
    (held (SparseCore.T d) (ucRefs τ sig) W : sProp 𝕄)
      = iprop(((SparseCore.T d).loc main_arg0 ↦{fullShare} W (dev main_arg0)) ∗ (vLoc d ↦{fullShare} W (dev main_v0)) ∗ (hLoc d ↦{fullShare} W (dev main_v1))
        ∗ ((SparseCore.T d).loc main_v2 ↦{fullShare} W (dev main_v2)) ∗ ((SparseCore.T d).loc main_v3 ↦{fullShare} W (dev main_v3))
        ∗ ((SparseCore.T d).loc main_v4 ↦{fullShare} W (dev main_v4))) := by
  rw [← Pipeline.unscopedBufs_held (Ix := HIx 1) (Name := ℕ) (U := UU) (Lvl := ℕ) d W]
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- Flattening leaves the other arrays, -/
theorem W1_ne (d : Dev nD) (r : Ref sig .tc) (h : r ≠ main_v0) : W1 m d (dev r) = m ((SparseCore.T d).loc r) :=
  StableHlo.reshape_result_ne (τ := τ) (Val := Elt F) main_arg0 main_v0 (rfl : (.i32 : EltTy) = .i32) shapeCasts_S16384x50_S819200 _ _ (W0 m d) h
/-- and makes the flat array. -/
theorem W1_v0 (d : Dev nD) : W1 m d (dev main_v0) = flat (classes m d) :=
  StableHlo.reshape_result' (τ := τ) (Val := Elt F) (x := main_arg0) (y := main_v0) (rfl : (.i32 : EltTy) = .i32) shapeCasts_S16384x50_S819200 _ _ (W0 m d)

/-- The count makes the table, -/
theorem W2_v1 (d : Dev nD) (y : S819200.Idx → BitVec 32) (g : S32x1280.Idx → BitVec 32) : W2 m d y g (dev main_v1) = g := Function.update_self _ _ _
/-- has the flat array as given, -/
theorem W2_v0 (d : Dev nD) (y : S819200.Idx → BitVec 32) (g : S32x1280.Idx → BitVec 32) : W2 m d y g (dev main_v0) = y := by
  unfold W2
  rw [Function.update_of_ne (show dev main_v0 ≠ dev main_v1 by decide), Function.update_self]
/-- and leaves the others. -/
theorem W2_ne (d : Dev nD) (y : S819200.Idx → BitVec 32) (g : S32x1280.Idx → BitVec 32) (b : DevRef τ sig) (h0 : b ≠ dev main_v0) (h1 : b ≠ dev main_v1) :
    W2 m d y g b = W1 m d b := by
  unfold W2
  rw [Function.update_of_ne h1, Function.update_of_ne h0]

/-- What the program ends with: its argument as it was, -/
theorem W4_arg0 (d : Dev nD) (y : S819200.Idx → BitVec 32) (g : S32x1280.Idx → BitVec 32) : W4 m d y g (dev main_arg0) = classes m d := by
  unfold W4
  rw [StableHlo.reshape_result_ne, StableHlo.unary_result_ne]
  · unfold W3
    rw [Function.update_of_ne (show dev main_arg0 ≠ dev main_v2 by decide), W2_ne m d y g _ (by decide) (by decide), W1_ne m d main_arg0 (by decide)]
  · decide
  · decide
/-- and its result the weights of the table, cut. -/
theorem W4_v4 (d : Dev nD) (y : S819200.Idx → BitVec 32) (g : S32x1280.Idx → BitVec 32) : W4 m d y g (dev main_v4) = cut (weights g : S1x1280.Idx → F .f32) := by
  unfold W4
  rw [StableHlo.reshape_result', StableHlo.unary_result']
  unfold W3
  rw [Function.update_self]
  rfl

/-! ## What the launch deals -/

/-- The handshakes' rounds and the TensorCore call's. -/
def u₀ : UU := (initOf (K (F := F)).hsCells (K (F := F)).hsToks,
  (initOf (Pipeline.cells cfgs cellOf_inj) (Pipeline.launchToks cfgs cellOf_inj), 1))

omit [FloatOps F] in
/-- Nothing, any number of times, is nothing. -/
theorem bigSep_emp' {I : Type} (s : Finset I) : (bigSep s fun _ => iprop(emp)) = (iprop(emp) : sProp 𝕄) := bigSep_emp_const s

/-- What each TensorCore is dealt: the states of its call's own copies. -/
abbrev G (d : Dev nD) : sProp 𝕄 :=
  iprop((bigSep Finset.univ fun p => Pipeline.cellsGhost cfgs (EP (F := F)) p d) ∗ bigSep Finset.univ fun p => Pipeline.toksInit cfgs (EP (F := F)) p d)

/-- The launch's states are the handshakes' and what each TensorCore is dealt. -/
theorem hu₀ (X : S819200.Idx → BitVec 32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) X).x q thr) := by
  unfold u₀
  iintro Hu
  ihave H := (ownU_pair _ _) $$ Hu
  icases H with ⟨HH, H⟩
  ihave H' := (own_pair_emb embR _ _) $$ H
  icases H' with ⟨HP, -⟩
  imod (Pipeline.fund_ghost cfgs (EP (F := F)) cellOf_inj) $$ HP with H
  imodintro
  isplitl [HH]; · iexact HH
  isplitl [H]
  · rw [bigSep_sep']; iexact H
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's program -/

/-- After the SparseCore call the TensorCore owes nothing. -/
theorem tcSt_open (d : Dev nD) :
    ((K (F := F)).tcSt EH d 1 : sProp 𝕄)
      ⊢ iprop((∃ W, ⌜(K (F := F)).WBelow (SparseCore.T d) W 8⌝ ∗ owes (SparseCore.T d) (0 : CellTallies nD τ sig (HIx 1)) W)
        ∗ ((∃ W, ⌜(K (F := F)).WBelow (SparseCore.T d) W 8⌝ ∗ owes (SparseCore.T d) (0 : CellTallies nD τ sig (HIx 1)) W) -∗ (K (F := F)).tcSt EH d 1)) := by
  unfold SparseCore.Cfg.tcSt
  rw [SparseCore.Cfg.Otc_end _ d (show 1 ≤ 1 by decide)]
  iintro ⟨H, Hr⟩
  isplitl [H]; · iexact H
  iintro H
  isplitl [H]; · iexact H
  iexact Hr

/-- The table of counts and the weights made of it, as the program leaves them: its argument as it was, and its result
    the weights, cut, of a table that holds the counts. -/
abbrev FIN (d : Dev nD) : sProp 𝕄 :=
  iprop(((SparseCore.T d).loc main_arg0 ↦{fullShare} classes m d)
    ∗ ∃ g, ⌜Tabled (F := F) (flat (classes m d)) g⌝ ∗ (SparseCore.T d).loc main_v4 ↦{fullShare} cut (weights g : S1x1280.Idx → F .f32))

/-- What the SparseCores are handed, and what they hand back. -/
theorem st_eq (X : S819200.Idx → BitVec 32) (d : Dev nD) : (bigSep Finset.univ fun c : Fin ((K (F := F)).nCore 0) => (P (F := F) X).st 0 d c)
    = bigSep Finset.univ fun c : Fin (grid0.bound 0) => bigSep Finset.univ fun i : Fin (grid0.bound 1) => goT (F := F) X d (coordsV c i) := rfl
/-- The same of what comes back. -/
theorem dn_eq (X : S819200.Idx → BitVec 32) (d : Dev nD) : (bigSep Finset.univ fun c : Fin ((K (F := F)).nCore 0) => (P (F := F) X).dn 0 d c)
    = bigSep Finset.univ fun c : Fin (grid0.bound 0) => bigSep Finset.univ fun i : Fin (grid0.bound 1) => tdT (F := F) X d (coordsV c i) := rfl

/-- The TensorCore's call in the program is the call below the SparseCore's, lifted. -/
theorem call_eq : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) fun _ => .ret ⟨⟩) := rfl

/-- The TensorCore's call turns the table into the weights. -/
theorem wp_call (d : Dev nD) (y : S819200.Idx → BitVec 32) (g : S32x1280.Idx → BitVec 32) (Q : PUnit → sProp 𝕄) [∀ e, Nonempty (Elt F e)] :
    iprop((iprop(boundary (SparseCore.T d) ∗ held (SparseCore.T d) (ucRefs τ sig) (W3 m d y g)
            ∗ ∃ W, ⌜(K (F := F)).WBelow (SparseCore.T d) W 8⌝ ∗ owes (SparseCore.T d) (0 : CellTallies nD τ sig (HIx 1)) W) -∗ Q ⟨⟩)
        ∗ boundary (SparseCore.T d) ∗ held (SparseCore.T d) (ucRefs τ sig) (W2 m d y g)
        ∗ (∃ W, ⌜(K (F := F)).WBelow (SparseCore.T d) W 8⌝ ∗ owes (SparseCore.T d) (0 : CellTallies nD τ sig (HIx 1)) W)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [call_eq]
  refine BIBase.Entails.trans ?_ ((K (F := F)).wp_liftProg (D (F := F)) 𝒱 (SparseCore.T d) Set.univ none _ Q)
  have h := (reg (fun c b => W2 m c y g (dev b)) (fun c b => W3 m c y g (dev b)) 8 (fun _ => iprop(emp))
    (fun c => by show W3 m c y g (dev main_v2) = _; unfold W3; rw [Function.update_self, table, W2_v1])
    (fun c r hr => by show W3 m c y g (dev r) = _; unfold W3; rw [Function.update_of_ne]; exact StableHlo.devRef_ne_of_ne hr)).wp
      (pcfgs (F := F)) adm (pdats (fun c b => W2 m c y g (dev b)) 8) none cellOf_inj (EP (F := F)) defs₀ 𝒱₀ (K (F := F)).L (K (F := F)).lev d none (fun _ h => nomatch h) (fun _ => .ret ⟨⟩) Q
  refine BIBase.Entails.trans ?_ h
  dsimp only [reg]
  have e : ∀ W : Valuation τ sig (Elt F), (unscopedBufs d (fun b => W (dev b)) : sProp 𝕄) = held (SparseCore.T d) (ucRefs τ sig) W :=
    fun W => Pipeline.unscopedBufs_held d W
  rw [e, e]
  unfold G
  rw [show (Finset.univ : Finset (Fin 1)) = {0} by decide, bigSep_singleton, bigSep_singleton]
  iintro ⟨Hk, Hb, Hh, HO, Hlev, HC, HT⟩
  isplitl [Hk]
  · iintro ⟨Hb, Hh, -, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    isplitr; · iempintro
    iexact HO
  isplitl [Hlev]; · iexact Hlev
  isplitl [HC]; · iexact HC
  iexact HT

/-- The TensorCore's program: it ends with its argument as it was and its result the weights. -/
theorem hmain [∀ e, Nonempty (Elt F e)] (κ : GSem nD τ sig → ℕ) (d : Dev nD) :
    iprop((K (F := F)).ctx EH (P (flat (classes m 0))) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd
  rw [show (unscopedBufs (0 : Dev nD) (fun b => m ((SparseCore.T 0).loc b)) : sProp 𝕄) = held (SparseCore.T 0) (ucRefs τ sig) (W0 m 0) from
    Pipeline.unscopedBufs_held 0 (W0 m 0)]
  simp only [main, wp_bind, wp_pure]
  iintro ⟨#Hctx, Hst, ⟨Hb, Hheld, Hts, -⟩, HG⟩
  -- the array flattened
  iapply (StableHlo.wp_hlo_within 𝒱 (SparseCore.T 0) none Set.univ (op := opIn) (S := ucRefs τ sig) hIn (V := W0 m 0)) $$ [Hb Hheld]
  · isplitl [Hb] <;> iassumption
  iintro ⟨Hb, Hheld⟩
  rw [wp_ret]; imodintro
  ihave Hh := (Entails.of_eq (show (held (SparseCore.T 0) (ucRefs τ sig) ((opIn (F := F)).result (W0 m 0)) : sProp 𝕄) = _ from held_uc (F := F) 0 (W1 m 0))) $$ Hheld
  icases Hh with ⟨Ha, Hv, Hh, Hw, Hc, Ho⟩
  -- the counting
  iapply ((K (F := F)).wp_run (D (F := F)) 𝒱 (EH := EH) (P := P (flat (classes m 0))) κ 0 0) $$ [Hst Ha Hv Hh Hw Hc Ho Hb Hts HG]
  isplitr; · iexact Hctx
  isplitl [Hst]; · iexact Hst
  isplitl [Hv Hh]
  · rw [st_eq, W1_v0]
    iapply (deal (F := F) 0 (flat (classes m 0)))
    isplitl [Hv]; · iexact Hv
    iexists _; iexact Hh
  rw [dn_eq]
  iintro ⟨Hst, Hdn⟩
  ihave Hd := (undeal (F := F) 0 (flat (classes m 0))) $$ Hdn
  icases Hd with ⟨⟨%y, Hv⟩, %g, %hg, Hh⟩
  -- the weights
  ihave Hst' := (show ((K (F := F)).tcSt EH 0 ((0 : Fin 1).val + 1) : sProp 𝕄) ⊢ _ from tcSt_open (F := F) 0) $$ Hst
  icases Hst' with ⟨HO, Hst⟩
  ihave Hlev := (SparseCore.Cfg.ctx_levAts κ) $$ Hctx
  iapply (wp_call m 0 y g)
  isplitr [Hb Ha Hv Hh Hw Hc Ho HO Hlev HG]
  rotate_left
  · isplitl [Hb]; · iexact Hb
    isplitl [Ha Hv Hh Hw Hc Ho]
    · rw [held_uc, W2_v1, W2_v0, W2_ne m 0 y g (dev main_arg0) (by decide) (by decide), W2_ne m 0 y g (dev main_v2) (by decide) (by decide),
        W2_ne m 0 y g (dev main_v3) (by decide) (by decide), W2_ne m 0 y g (dev main_v4) (by decide) (by decide)]
      isplitl [Ha]; · iexact Ha
      isplitl [Hv]; · iexact Hv
      isplitl [Hh]; · iexact Hh
      isplitl [Hw]; · iexact Hw
      isplitl [Hc]; · iexact Hc
      iexact Ho
    isplitl [HO]; · iexact HO
    isplitl [Hlev]; · iexact Hlev
    iexact HG
  iintro ⟨Hb, Hheld, HO⟩
  -- the cut
  iapply (StableHlo.wp_hlo_within 𝒱 (SparseCore.T 0) none Set.univ (op := opCut) (S := ucRefs τ sig) hCut (V := W3 m 0 y g)) $$ [Hb Hheld]
  · isplitl [Hb] <;> iassumption
  iintro ⟨Hb, Hheld⟩
  rw [wp_ret]; imodintro
  iapply (StableHlo.wp_hlo_within 𝒱 (SparseCore.T 0) none Set.univ (op := opOut) (S := ucRefs τ sig) hOut (V := (opCut (F := F)).result (W3 m 0 y g))) $$ [Hb Hheld]
  · isplitl [Hb] <;> iassumption
  iintro ⟨Hb, Hheld⟩
  ihave Hh := (Entails.of_eq (show (held (SparseCore.T 0) (ucRefs τ sig) ((opOut (F := F)).result ((opCut (F := F)).result (W3 m 0 y g))) : sProp 𝕄) = _ from
    held_uc (F := F) 0 (W4 m 0 y g))) $$ Hheld
  rw [W4_arg0, W4_v4]
  icases Hh with ⟨Ha, -, -, -, -, Ho⟩
  rw [wp_ret]; imodintro; imodintro
  isplitl [Hst HO]; · iapply Hst; iexact HO
  isplitl [Ha Ho]
  · isplitl [Ha]; · iexact Ha
    iexists g
    isplitr; · ipureintro; exact hg
    iexact Ho
  isplitl [Hb] <;> iassumption

/-- What a final memory shows of a device. -/
def fq (d : Dev nD) (s' : Phys nD τ sig (Elt F)) : Prop :=
  s'.mem.mem ((SparseCore.T d).loc main_arg0) = classes m d
    ∧ ∃ g, Tabled (F := F) (flat (classes m d)) g ∧ s'.mem.mem ((SparseCore.T d).loc main_v4) = cut (weights g : S1x1280.Idx → F .f32)

/-- What a device ends with shows in its final memory. -/
theorem hfin (d : Dev nD) (s' : Phys nD τ sig (Elt F)) : iprop(FIN m d ∗ SI s') ⊢ (⌜fq m d s'⌝ : sProp 𝕄) := by
  unfold SI
  iintro ⟨⟨Ha, %g, %hg, Ho⟩, ⟨Hmem, -⟩⟩
  icombine Hmem Ha gives %hx
  icombine Hmem Ho gives %ho
  ipureintro
  exact ⟨funext fun i => hx i (Finset.mem_univ i), g, hg, funext fun i => ho i (Finset.mem_univ i)⟩

/-- How the program ends: every device as `fq` says, every semaphore at zero. -/
def Ends (r : PUnit × MemSt nD τ sig (Elt F)) : Prop :=
  (∀ d : Dev nD, r.2.mem ((SparseCore.T d).loc main_arg0) = classes m d
    ∧ ∃ g, Tabled (F := F) (flat (classes m d)) g ∧ r.2.mem ((SparseCore.T d).loc main_v4) = cut (weights g : S1x1280.Idx → F .f32))
  ∧ r.2.sem = fun _ => 0

/-- From any memory whose classes are in range, the program runs to such an end. -/
theorem run_main [∀ e, Nonempty (Elt F e)] (hX : ∀ i, Classes (chunk (F := F) (flat (classes m 0)) i)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (flat (classes m 0))) (A := ∅) facts v₀
    (fun q hq => match q with | 0 => nomatch hq)
    (fun q _ => match q with | 0 => tileObl (flat (classes m 0)) hX facts)
    (fun q _ => match q with | 0 => SparseCore.Cfg.VecSplit.of_plain (vecSplit (flat (classes m 0))))
    m ρ main (fun d => G (F := F) d) (FIN m) (u₀ (F := F)) (sep_elim_left.trans (hu₀ (flat (classes m 0)))) (hmain m ρ) (fq m) (hfin m) (Ends m) (fun _ h hz => ⟨h, hz⟩)

end Cert.KernelIdeal.Hist

end
-- ==== Proof.Sums.lean ====
/-
  From the counts of the tiles to the number of rows that hold a class: the arithmetic.
-/
module

public import proofs.«01_k».proof.Proof.Addr
public import Idealize.ShloMosaic.PureOps.Reduce

@[expose] public section

namespace Cert.Counting

open Idealize.ShloMosaic

/-- One when the row meets the class in its fifty columns, else nought. -/
def one (R : ℕ → ℕ) (c : ℕ) : ℕ := if Met R 50 c then 1 else 0

/-- The number of rows, of the first `n`, that hold class `c`. -/
def holders (X : ℕ → ℕ → ℕ) (n c : ℕ) : ℕ := ∑ b ∈ Finset.range n, one (X b) c

/-- No more rows hold a class than there are. -/
theorem holders_le (X : ℕ → ℕ → ℕ) (n c : ℕ) : holders X n c ≤ n := by
  refine (Finset.sum_le_card_nsmul _ _ 1 fun b _ => ?_).trans (by simp)
  unfold one; split <;> omega

/-- A sum over `a` runs of `b` terms is the sum over all of them. -/
theorem sum_runs (f : ℕ → ℕ) (b : ℕ) : ∀ a, ∑ i ∈ Finset.range a, ∑ k ∈ Finset.range b, f (i * b + k) = ∑ n ∈ Finset.range (a * b), f n
  | 0 => by simp
  | a + 1 => by rw [Finset.sum_range_succ, sum_runs f b a, Nat.succ_mul, Finset.sum_range_add]

/-- Eight terms begun at any of them and taken around are the eight terms. -/
theorem sum_turned (f : ℕ → ℕ) (l : ℕ) : ∑ r ∈ Finset.range 8, f ((l + r) % 8) = ∑ r ∈ Finset.range 8, f r := by
  refine Finset.sum_nbij' (fun r => (l + r) % 8) (fun r => (r + 8 - l % 8) % 8) ?_ ?_ ?_ ?_ ?_
  · intro r _; exact Finset.mem_range.mpr (Nat.mod_lt _ (by decide))
  · intro r _; exact Finset.mem_range.mpr (Nat.mod_lt _ (by decide))
  · intro r hr; have := Finset.mem_range.mp hr; show ((l + r) % 8 + 8 - l % 8) % 8 = r; omega
  · intro r hr; have := Finset.mem_range.mp hr; show (l + (r + 8 - l % 8) % 8) % 8 = r; omega
  · intro r _; rfl

/-- A lane that is done has counted each of its eight rows once. -/
theorem tot_done (C : Fin 16 → ℕ → ℕ → ℕ) (c : ℕ) : tot C 8 0 c = ∑ l, ∑ r ∈ Finset.range 8, one (C l r) c := by
  unfold tot
  refine Finset.sum_congr rfl fun l _ => ?_
  unfold cnt one
  rw [if_neg (met_zero _ _), Nat.add_zero, Finset.card_filter]

/-- Four streams of sixteen lanes of eight rows, each lane's rows taken from its own number on, are 512 rows. -/
theorem sum_tile (g : ℕ → ℕ) :
    ∑ s : Fin 4, ∑ l : Fin 16, ∑ r ∈ Finset.range 8, g (l.val * 32 + s.val * 8 + (l.val + r) % 8) = ∑ n ∈ Finset.range 512, g n := by
  rw [Finset.sum_comm]
  rw [show 512 = 16 * 32 from rfl, ← sum_runs g 32 16, ← Fin.sum_univ_eq_sum_range (fun i => ∑ k ∈ Finset.range 32, g (i * 32 + k)) 16]
  refine Finset.sum_congr rfl fun l _ => ?_
  rw [show 32 = 4 * 8 from rfl, ← sum_runs (fun k => g (l.val * (4 * 8) + k)) 8 4,
    ← Fin.sum_univ_eq_sum_range (fun i => ∑ k ∈ Finset.range 8, g (l.val * (4 * 8) + (i * 8 + k))) 4]
  refine Finset.sum_congr rfl fun s _ => ?_
  refine (sum_turned (fun k => g (l.val * 32 + s.val * 8 + k)) l.val).trans (Finset.sum_congr rfl fun k _ => ?_)
  rw [show l.val * 32 + s.val * 8 + k = l.val * (4 * 8) + (s.val * 8 + k) by omega]

/-- Words that spell numbers, added up, spell the sum. -/
theorem fold_ofNat {ι : Type} (f : ι → ℕ) (S : Finset ι) :
    S.fold IntOp.addi (0#32) (fun k => BitVec.ofNat 32 (f k)) = BitVec.ofNat 32 (∑ k ∈ S, f k) := by
  classical
  induction S using Finset.induction_on with
  | empty => rfl
  | insert a S ha ih =>
    rw [Finset.fold_insert ha, ih, Finset.sum_insert ha, BitVec.ofNat_add]
    rfl

end Cert.Counting
-- ==== Proof.Rows.lean ====
/-
  What the table of counts says of the array of classes: its columns add up to the number of rows that hold a class.
-/
module

public import proofs.«01_k».proof.Proof.Main
public import proofs.«01_k».proof.Proof.Sums
public import Idealize.ShloMosaic.Lib.ValueLayout
public import Idealize.ShloMosaic.Lib.Pipeline.Value

@[expose] public section

noncomputable section

namespace Cert.KernelIdeal.Hist

open Idealize.ShloMosaic Idealize.ShloMosaic.ValueIdx
open Cert.KernelIdeal.Gen Cert.Counting

variable {F : FTy → Type} [FloatOps F]

local notation "vW" => (Memref.whole Cert.KernelIdeal.main_v0_scv : Memref Cert.KernelIdeal.sig Kind.scVector Space.hbm Cert.KernelIdeal.S819200 EltTy.i32)
local notation "hW" => (Memref.whole Cert.KernelIdeal.main_v1_scv : Memref Cert.KernelIdeal.sig Kind.scVector Space.hbm Cert.KernelIdeal.S32x1280 EltTy.i32)

/-- The class that row `b` has in column `j`. -/
def cell (X : S16384x50.Idx → BitVec 32) (b j : ℕ) : ℕ := (at1 (flat X) (b * 50 + j)).toNat

/-- The array flattened, read at a row and a column. -/
theorem at1_flat (X : S16384x50.Idx → BitVec 32) (b : Fin 16384) (j : Fin 50) : at1 (flat X) (b.val * 50 + j.val) = X (ix2 b j) := by
  have hb := b.isLt; have hj := j.isLt
  rw [at1_of_lt _ (show b.val * 50 + j.val < 819200 by omega)]
  refine shapeCast_apply X shapeCasts_S16384x50_S819200 _ _ ?_
  rw [Shape.rowMajor_val_two, Shape.rowMajor_val_one]
  rfl

/-- A tile's chunk, read at a position. -/
theorem at1_chunk (X : S819200.Idx → BitVec 32) (p : Tiles) {n : ℕ} (hn : n < 25600) :
    at1 (chunk (F := F) X (at' p)) n = at1 X (25600 * (2 * p.2.val + p.1.val) + n) := by
  rw [at1_of_lt _ hn]
  have e : ((chunkM (at' p) vW).view.emb (Shape.ofLane (d := ![25600]) ⟨n, hn⟩) 0).val = 51200 * p.2.val + 25600 * p.1.val + n := by
    show k0_off1 (at' p) 0 + 1 * n = _
    rw [k0_off1_eq, Nat.one_mul]
    rfl
  refine (apply_eq_at1 X ((chunkM (at' p) vW).view.emb (Shape.ofLane (d := ![25600]) ⟨n, hn⟩))).trans ?_
  rw [e]
  congr 1
  omega

/-- A tile's row of the table, read at a class. -/
theorem at1_row (g : S32x1280.Idx → BitVec 32) (p : Tiles) (w : Fin 32) (hw : w.val = 2 * p.2.val + p.1.val) (c : Fin 1280) :
    at1 ((rowM (at' p) hW).view.read (Elt F) g) c.val = g (ix2 w c) := by
  rw [at1_of_lt _ c.isLt]
  show g ((rowM (at' p) hW).view.emb (Shape.ofLane (d := ![1280]) ⟨c.val, c.isLt⟩)) = _
  refine congrArg g ?_
  have e : Shape.reshapeEquiv squeezes_S1x1280_S1280.numel_eq (ix1 c) = ix2 0 c :=
    Shape.reshapeEquiv_eq_of_rowMajor _ (by
      rw [Shape.rowMajor_val_two, Shape.rowMajor_val_one]
      show 0 * 1280 + c.val = c.val
      omega)
  funext a
  apply Fin.ext
  match a with
  | 0 =>
    show k0_off4 (at' p) 0 + 1 * (Shape.reshapeEquiv squeezes_S1x1280_S1280.numel_eq (ix1 c) 0).val = w.val
    rw [k0_off4_eq, e, hw, Nat.one_mul]
    rfl
  | 1 =>
    show k0_off4 (at' p) 1 + 1 * (Shape.reshapeEquiv squeezes_S1x1280_S1280.numel_eq (ix1 c) 1).val = c.val
    rw [k0_off4_eq, e, Nat.one_mul]
    exact Nat.zero_add _

/-- Row `w` of the table counts, for each class, those of the rows from `512 w` on that hold it. -/
theorem table_row {X : S16384x50.Idx → BitVec 32} {g : S32x1280.Idx → BitVec 32} (hg : Tabled (F := F) (flat X) g) (w : Fin 32) (c : Fin 1280) :
    g (ix2 w c) = BitVec.ofNat 32 (∑ n ∈ Finset.range 512, one (cell X (w.val * 512 + n)) c.val) := by
  have hp : w.val = 2 * (tileOf w.val w.isLt).2.val + (tileOf w.val w.isLt).1.val := by
    show w.val = 2 * (w.val / 2) + w.val % 2
    omega
  rw [← at1_row (F := F) g (tileOf w.val w.isLt) w hp c, hg (tileOf w.val w.isLt) c.val c.isLt]
  refine congrArg (BitVec.ofNat 32) ?_
  rw [← sum_tile (fun n => one (cell X (w.val * 512 + n)) c.val)]
  refine Finset.sum_congr rfl fun s _ => ?_
  rw [tot_done]
  refine Finset.sum_congr rfl fun l _ => Finset.sum_congr rfl fun r _ => ?_
  have hs := s.isLt; have hl := l.isLt
  refine if_congr (exists_congr fun j => and_congr_right fun hj => ?_) rfl rfl
  unfold cls cell
  rw [at1_chunk (F := F) _ _ (pos_lt s l r hj), ← hp, show 25600 * w.val + pos s l r j = (w.val * 512 + (l.val * 32 + s.val * 8 + (l.val + r) % 8)) * 50 + j by
    unfold pos; omega]

/-- The columns of the table add up to the number of rows that hold each class. -/
theorem table_sum {X : S16384x50.Idx → BitVec 32} {g : S32x1280.Idx → BitVec 32} (hg : Tabled (F := F) (flat X) g) (c : Fin 1280) :
    multiReductionI .add [0] S1280 g 0#32 reduces_S32x1280_S1280 rfl (ix1 c) = BitVec.ofNat 32 (holders (cell X) 16384 c.val) := by
  refine (multiReductionI_eq_fold .add g 0#32 reduces_S32x1280_S1280 rfl (ix1 c)).trans ?_
  have e : (Finset.univ.filter fun i => reduces_S32x1280_S1280.drop i = ix1 c) = Finset.univ.image fun w : Fin 32 => (ix2 w c : S32x1280.Idx) := by
    ext i
    obtain ⟨w, k, rfl⟩ : ∃ (w : Fin 32) (k : Fin 1280), i = ix2 w k := ⟨i 0, i 1, eq_ix2 i⟩
    simp only [Finset.mem_filter, Finset.mem_univ, true_and, Finset.mem_image]
    have hd : reduces_S32x1280_S1280.drop (ix2 w k) = ix1 k := by
      funext a
      obtain rfl : a = 0 := Subsingleton.elim _ _
      rfl
    rw [hd]
    constructor
    · intro h; exact ⟨w, by rw [show k = c from congrFun h 0]⟩
    · rintro ⟨w', h⟩; rw [show k = c from (congrFun h 1).symm]
  rw [e]
  have hf : ∀ i ∈ Finset.univ.image (fun w : Fin 32 => (ix2 w c : S32x1280.Idx)),
      g i = BitVec.ofNat 32 (∑ n ∈ Finset.range 512, one (cell X ((i 0).val * 512 + n)) c.val) := by
    intro i hi
    obtain ⟨w, -, rfl⟩ := Finset.mem_image.mp hi
    exact table_row hg w c
  show Finset.fold IntOp.addi _ _ _ = _
  rw [Finset.fold_congr hf, fold_ofNat, Finset.sum_image (fun a _ b _ h => congrFun h 0)]
  refine congrArg (BitVec.ofNat 32) ?_
  unfold holders
  rw [show 16384 = 32 * 512 from rfl, ← sum_runs (fun b => one (cell X b) c.val) 512 32,
    ← Fin.sum_univ_eq_sum_range (fun i => ∑ k ∈ Finset.range 512, one (cell X (i * 512 + k)) c.val) 32]

end Cert.KernelIdeal.Hist

end
-- ==== Proof.Refer.lean ====
/-
  What the reference's operations count: its scatter marks the classes of each row, and the marks added up down a
  column are the number of rows that hold the class.
-/
module

public import proofs.«01_k».proof.Proof.Gen.ReferenceIdeal
public import proofs.«01_k».proof.Proof.Sums
public import Idealize.ShloMosaic.Lib.Routing.OpsPair
public import Idealize.ShloMosaic.Lib.ShapeFacts
public import Idealize.ShloMosaic.Lib.WordCmp
public import Idealize.ShloMosaic.Lib.IdealHost
public import Idealize.ShloMosaic.Lib.Pipeline.Value

@[expose] public section

noncomputable section

namespace Cert.ReferenceIdeal.Doc

open Idealize.ShloMosaic Idealize.ShloMosaic.ValueIdx
open Cert.ReferenceIdeal.Gen Cert.Counting

/-- The rows' numbers, one column. -/
def ids : IVec S16384x1 32 := broadcastInDim S16384x1 ![0] bcast_S16384_S16384x1_0 (iotaInDim S16384 32 0)
/-- The rows' numbers, a negative one counted from the end. -/
def rowIx : IVec S16384x1 32 :=
  select (cmpi .slt ids (broadcastInDim S16384x1 ![] bcast_S_S16384x1 (constantI S_ 32 0#32)))
    (addi ids (broadcastInDim S16384x1 ![] bcast_S_S16384x1 (constantI S_ 32 16384#32))) ids
/-- The classes, a negative one counted from the end. -/
def colIx (X : IVec S16384x50 32) : IVec S16384x50 32 :=
  select (cmpi .slt X (broadcastInDim S16384x50 ![] bcast_S_S16384x50 (constantI S_ 32 0#32)))
    (addi X (broadcastInDim S16384x50 ![] bcast_S_S16384x50 (constantI S_ 32 1203#32))) X
/-- The pairs (row, class) where the scatter adds. -/
def pairs (X : IVec S16384x50 32) : IVec S16384x50x2 32 :=
  concatenate S16384x50x2 2
    [⟨S16384x50x1, broadcastInDim S16384x50x1 ![0, 1] bcast_S16384x50_S16384x50x1_0_1 (broadcastInDim S16384x50 ![0, 1] bcast_S16384x1_S16384x50_0_1 rowIx)⟩,
      ⟨S16384x50x1, broadcastInDim S16384x50x1 ![0, 1] bcast_S16384x50_S16384x50x1_0_1 (colIx X)⟩]
    concatenates_S16384x50x1_S16384x50x1_S16384x50x2_d2
/-- How often each class stands in each row. -/
def scat (X : IVec S16384x50 32) : IVec S16384x1203 32 :=
  Host.scatter scatter_S16384x1203_S16384x50x2_S16384x50_n_01_01_2 IntOp.addi
    (broadcastInDim S16384x1203 ![] bcast_S_S16384x1203 (constantI S_ 32 0#32)) (pairs X)
    (broadcastInDim S16384x50 ![] bcast_S_S16384x50 (constantI S_ 32 1#32))
/-- One where a class stands in a row, nought elsewhere. -/
def mark (X : IVec S16384x50 32) : IVec S16384x1203 32 :=
  select (cmpi .sgt (scat X) (broadcastInDim S16384x1203 ![] bcast_S_S16384x1203 (constantI S_ 32 0#32)))
    (broadcastInDim S16384x1203 ![] bcast_S_S16384x1203 (constantI S_ 32 1#32))
    (broadcastInDim S16384x1203 ![] bcast_S_S16384x1203 (constantI S_ 32 0#32))
/-- In how many rows each class stands. -/
def docs (X : IVec S16384x50 32) : IVec S1203 32 :=
  Host.reduce IntOp.addi (id (mark X)) (constantI S_ 32 0#32) reducesTo_S16384x1203_S1203_d0 h_S_

/-- The row numbers, as the reference lists them, are the rows' own, -/
theorem ids_apply (b : Fin 16384) (z : Fin 1) : ids (ix2 b z) = BitVec.ofNat 32 b.val :=
  (broadcastInDim_apply _ _ _ _ (ix1 b) fun a => by
    obtain rfl : a = 0 := Subsingleton.elim _ _
    rfl).trans (iotaInDim_apply 32 0 (ix1 b))

/-- and the wrap of negative numbers leaves them. -/
theorem rowIx_apply (b : Fin 16384) (z : Fin 1) : rowIx (ix2 b z) = BitVec.ofNat 32 b.val := by
  have hb := b.isLt
  have h := Routing.wrap_of_lt (ids (ix2 b z)) (ids (ix2 b z) + 16384#32) (by
    rw [ids_apply, BitVec.toNat_ofNat, Nat.mod_eq_of_lt (by omega)]; show b.val < 2147483648; omega)
  exact h.trans (ids_apply b z)

/-- It leaves the classes too, none being negative. -/
theorem colIx_apply (X : IVec S16384x50 32) (hX : ∀ x, (X x).toNat < 1203) (x : S16384x50.Idx) : colIx X x = X x :=
  Routing.wrap_of_lt (X x) (X x + 1203#32) (by have := hX x; show _ < 2147483648; omega)

/-- The first of a pair is the row, -/
theorem pairs_row (X : IVec S16384x50 32) (b : Fin 16384) (j : Fin 50) : pairs X (ix3 b j (0 : Fin 2)) = BitVec.ofNat 32 b.val := by
  refine (concatenate_pair_apply_left (t := S16384x50x2) (s₁ := S16384x50x1) (s₂ := S16384x50x1) 2 _ _ _ (ix3 b j (0 : Fin 2)) rfl
    (ix3 b j (0 : Fin 1)) fun a => ?_).trans ?_
  · match a with
    | 0 => rfl
    | 1 => rfl
    | 2 => rfl
  refine (broadcastInDim_apply _ _ _ _ (ix2 b j) fun a => ?_).trans ?_
  · match a with
    | 0 => rfl
    | 1 => rfl
  refine (broadcastInDim_apply _ _ _ _ (ix2 b (0 : Fin 1)) fun a => ?_).trans (rowIx_apply b 0)
  match a with
  | 0 => rfl
  | 1 => rfl

/-- the second the class. -/
theorem pairs_col (X : IVec S16384x50 32) (hX : ∀ x, (X x).toNat < 1203) (b : Fin 16384) (j : Fin 50) :
    pairs X (ix3 b j (1 : Fin 2)) = X (ix2 b j) := by
  refine (concatenate_pair_apply_right (t := S16384x50x2) (s₁ := S16384x50x1) (s₂ := S16384x50x1) 2 _ _ _ (ix3 b j (1 : Fin 2)) rfl rfl
    (ix3 b j (0 : Fin 1)) (fun a ha => ?_) rfl).trans ?_
  · match a with
    | 0 => rfl
    | 1 => rfl
    | 2 => exact absurd rfl ha
  refine (broadcastInDim_apply _ _ _ _ (ix2 b j) fun a => ?_).trans (colIx_apply X hX _)
  match a with
  | 0 => rfl
  | 1 => rfl

/-- Ones added wherever a condition holds count it. -/
theorem foldl_ones {ι : Type} (q : ι → Prop) [DecidablePred q] : ∀ (L : List ι) (a : ℕ),
    L.foldl (fun (r : BitVec 32) n => if q n then IntOp.addi r 1#32 else r) (BitVec.ofNat 32 a) = BitVec.ofNat 32 (a + L.countP fun n => decide (q n))
  | [], a => rfl
  | n :: L, a => by
    rw [List.foldl_cons, List.countP_cons]
    by_cases h : q n
    · rw [if_pos h, show IntOp.addi (BitVec.ofNat 32 a) 1#32 = BitVec.ofNat 32 (a + 1) from (BitVec.ofNat_add a 1).symm, foldl_ones q L (a + 1),
        if_pos (decide_eq_true h)]
      congr 1; omega
    · rw [if_neg h, foldl_ones q L a, if_neg (by simpa using h)]; rfl

/-- The update at row `b`, column `j` adds at the pair of row and class it names. -/
theorem lands (X : IVec S16384x50 32) (hX : ∀ x, (X x).toNat < 1203) (b' b : Fin 16384) (j : Fin 50) (c : Fin 1203) :
    scatter_S16384x1203_S16384x50x2_S16384x50_n_01_01_2.resultIdx? (ix2 b' j) (pairs X) = some (ix2 b c) ↔ b' = b ∧ (X (ix2 b' j)).toNat = c.val := by
  rw [Routing.scatter_lands2 _ rfl rfl rfl, pairs_row, pairs_col X hX]
  have h1 := b'.isLt; have h2 := hX (ix2 b' j)
  rw [WordCmp.toInt_eq_toNat_of_lt_half (by rw [BitVec.toNat_ofNat, Nat.mod_eq_of_lt (by omega)]; show b'.val < 2147483648; omega),
    WordCmp.toInt_eq_toNat_of_lt_half (by show _ < 2147483648; omega), BitVec.toNat_ofNat, Nat.mod_eq_of_lt (by omega)]
  exact and_congr (Int.natCast_inj.trans Fin.val_inj) Int.natCast_inj

/-- A row's mark at a class is one if the row holds the class, else zero. -/
theorem mark_apply (X : IVec S16384x50 32) (hX : ∀ x, (X x).toNat < 1203) (R : ℕ → ℕ → ℕ)
    (hR : ∀ (b : Fin 16384) (j : Fin 50), R b.val j.val = (X (ix2 b j)).toNat) (b : Fin 16384) (c : Fin 1203) :
    mark X (ix2 b c) = BitVec.ofNat 32 (one (R b.val) c.val) := by
  have hs : scat X (ix2 b c) = BitVec.ofNat 32 (0 + (List.finRange S16384x50.numel).countP fun n =>
      decide (scatter_S16384x1203_S16384x50x2_S16384x50_n_01_01_2.resultIdx? (S16384x50.rowMajor.symm n) (pairs X) = some (ix2 b c))) :=
    (Routing.scatter_at _ _ _ _ _ _).trans (foldl_ones _ _ 0)
  have hN : S16384x50.numel = 16384 * 50 := Shape.numel_rank2 _
  generalize hk : ((List.finRange S16384x50.numel).countP fun n =>
      decide (scatter_S16384x1203_S16384x50x2_S16384x50_n_01_01_2.resultIdx? (S16384x50.rowMajor.symm n) (pairs X) = some (ix2 b c))) = k at hs
  have hle : k ≤ 16384 * 50 := by
    rw [← hk, ← hN]
    exact List.countP_le_length.trans (by rw [List.length_finRange])
  have hpos : 0 < k ↔ Met (R b.val) 50 c.val := by
    rw [← hk, List.countP_pos_iff]
    constructor
    · rintro ⟨n, -, hn⟩
      have hn := of_decide_eq_true hn
      have hlt : n.val < 16384 * 50 := Nat.lt_of_lt_of_eq n.isLt hN
      rw [Routing.symm22 n (by omega) (Nat.mod_lt _ (by decide)), lands X hX] at hn
      obtain ⟨hb, hc⟩ := hn
      rw [hb] at hc
      exact ⟨n.val % 50, Nat.mod_lt _ (by decide), (hR _ ⟨n.val % 50, Nat.mod_lt _ (by decide)⟩).trans hc⟩
    · rintro ⟨j, hj, hc⟩
      refine ⟨S16384x50.rowMajor (ix2 b ⟨j, hj⟩), List.mem_finRange _, decide_eq_true ?_⟩
      rw [Equiv.symm_apply_apply]
      exact (lands X hX _ _ _ _).2 ⟨rfl, (hR b ⟨j, hj⟩).symm.trans hc⟩
  show Scalar.select (IntOp.cmpi .sgt (scat X (ix2 b c)) 0#32) 1#32 0#32 = _
  rw [hs, Nat.zero_add, WordCmp.cmpi_sgt_ofNat (show k < 2147483648 by omega) (by decide)]
  unfold one
  by_cases h : Met (R b.val) 50 c.val
  · rw [if_pos h, decide_eq_true (hpos.2 h)]; rfl
  · rw [if_neg h, decide_eq_false (fun q => h (hpos.1 q))]; rfl

/-- The marks of a column add up to the number of rows that hold the class. -/
theorem docs_apply (X : IVec S16384x50 32) (hX : ∀ x, (X x).toNat < 1203) (R : ℕ → ℕ → ℕ)
    (hR : ∀ (b : Fin 16384) (j : Fin 50), R b.val j.val = (X (ix2 b j)).toNat) (c : Fin 1203) :
    docs X (ix1 c) = BitVec.ofNat 32 (holders R 16384 c.val) := by
  refine (Host.reduce_eq_fold IntOp.addi (id (mark X)) (constantI S_ 32 0#32) reducesTo_S16384x1203_S1203_d0 h_S_ (ix1 c)).trans ?_
  have e : (Finset.univ.filter fun i => reducesTo_S16384x1203_S1203_d0.drop i = ix1 c)
      = Finset.univ.image fun b : Fin 16384 => (ix2 b c : S16384x1203.Idx) := by
    ext i
    obtain ⟨b, k, rfl⟩ : ∃ (b : Fin 16384) (k : Fin 1203), i = ix2 b k := ⟨i 0, i 1, eq_ix2 i⟩
    simp only [Finset.mem_filter, Finset.mem_univ, true_and, Finset.mem_image]
    have hd : reducesTo_S16384x1203_S1203_d0.drop (ix2 b k) = ix1 k := by
      funext a
      obtain rfl : a = 0 := Subsingleton.elim _ _
      rfl
    rw [hd]
    constructor
    · intro h; exact ⟨b, by rw [show k = c from congrFun h 0]⟩
    · rintro ⟨b', h⟩; rw [show k = c from (congrFun h 1).symm]
  rw [e]
  have hf : ∀ i ∈ Finset.univ.image (fun b : Fin 16384 => (ix2 b c : S16384x1203.Idx)),
      id (mark X) i = BitVec.ofNat 32 (one (R (i 0).val) c.val) := by
    intro i hi
    obtain ⟨b, -, rfl⟩ := Finset.mem_image.mp hi
    rw [id_eq]
    exact mark_apply X hX R hR b c
  refine (Finset.fold_congr hf).trans ((fold_ofNat _ _).trans ?_)
  rw [Finset.sum_image (fun a _ b _ h => congrFun h 0)]
  refine congrArg (BitVec.ofNat 32) ?_
  unfold holders
  rw [← Fin.sum_univ_eq_sum_range (fun b => one (R b) c.val) 16384]

end Cert.ReferenceIdeal.Doc

end
-- ==== Proof.Values.lean ====
/-
  The weights: the kernel's and the reference's, at each class, are the same function of the number of rows that hold
  the class.
-/
module

public import proofs.«01_k».proof.Proof.Rows
public import proofs.«01_k».proof.Proof.Refer

@[expose] public section

noncomputable section

namespace Cert.KernelIdeal.Hist

open Idealize.ShloMosaic Idealize.ShloMosaic.ValueIdx
open Cert.KernelIdeal.Gen Cert.Counting

/-- The weight of a class that stands in `n` rows. -/
def weight (n : BitVec 32) : Ideal .f32 :=
  FloatOps.addf (FloatOps.log (FloatOps.divf (Scalar.ofBits (F := Ideal) .f32 0x46800200#32)
    (FloatOps.addf (FloatOps.sitofp .f32 n) (Scalar.ofBits .f32 0x3F800000#32)))) (Scalar.ofBits .f32 0x3F800000#32)

/-- What the kernel returns for a class. -/
theorem cut_weights {X : S16384x50.Idx → BitVec 32} {g : S32x1280.Idx → BitVec 32} (hg : Tabled (F := Ideal) (flat X) g) (c : Fin 1203) :
    cut (weights (F := Ideal) g) (ix1 c) = weight (BitVec.ofNat 32 (holders (cell X) 16384 c.val)) := by
  have hc : c.val < 1280 := by have := c.isLt; omega
  refine (shapeCast_1a_a_apply _ shapeCasts_S1x1203_S1203 c).trans ?_
  have e : extractStridedSlice S1x1203 ![0, 0] (weights (F := Ideal) g) slices_S1x1280_S1x1203_0_0 (ix2 (0 : Fin 1) c)
      = weights (F := Ideal) g (ix2 (0 : Fin 1) ⟨c.val, hc⟩) := by
    refine congrArg (weights (F := Ideal) g) (funext fun a => Fin.ext ?_)
    match a with
    | 0 => rfl
    | 1 => exact Nat.zero_add _
  rw [e, ← table_sum hg ⟨c.val, hc⟩]
  have hs : shapeCast S32x1280 g shapeCasts_S32x1280_S32x1280 = g := funext fun x => shapeCast_apply g _ x x rfl
  show weight (shapeCast S1x1280 (multiReductionI .add [0] S1280 (shapeCast S32x1280 g shapeCasts_S32x1280_S32x1280) 0#32 reduces_S32x1280_S1280 rfl)
    shapeCasts_S1280_S1x1280 (ix2 (0 : Fin 1) ⟨c.val, hc⟩)) = _
  rw [hs]
  exact congrArg weight (shapeCast_a_1a_apply _ shapeCasts_S1280_S1x1280 0 ⟨c.val, hc⟩)

/-- The reference's result, of the array of classes. -/
def refWeights (X : S16384x50.Idx → BitVec 32) : S1203.Idx → Ideal .f32 :=
  addf (Host.log (Host.divf (broadcastInDim S1203 ![] Cert.ReferenceIdeal.Gen.bcast_S_S1203 (constant (F := Ideal) S_ .f32 0x46800200#32))
      (addf (sitofp .f32 (Cert.ReferenceIdeal.Doc.docs X)) (broadcastInDim S1203 ![] Cert.ReferenceIdeal.Gen.bcast_S_S1203 (constant S_ .f32 0x3F800000#32)))))
    (broadcastInDim S1203 ![] Cert.ReferenceIdeal.Gen.bcast_S_S1203 (constant S_ .f32 0x3F800000#32))

/-- The kernel returns what the reference does. -/
theorem cut_eq_ref {X : S16384x50.Idx → BitVec 32} (hX : ∀ x, (X x).toNat < 1203) {g : S32x1280.Idx → BitVec 32}
    (hg : Tabled (F := Ideal) (flat X) g) : cut (weights (F := Ideal) g) = refWeights X := by
  funext x
  obtain ⟨c, rfl⟩ : ∃ c : Fin 1203, x = ix1 c := ⟨x 0, eq_ix1 x⟩
  rw [cut_weights hg c]
  have hd := Cert.ReferenceIdeal.Doc.docs_apply X hX (cell X) (fun b j => congrArg BitVec.toNat (at1_flat X b j)) c
  rw [← hd]
  rfl

end Cert.KernelIdeal.Hist

end
-- ==== Proof.Frames.lean ====
/-
  The precondition read as a bound on every class, and the claims about the kernel's runs.
-/
module

public import proofs.«01_k».proof.Defs
public import proofs.«01_k».proof.Proof.Values
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.Quiescent

@[expose] public section

noncomputable section

namespace Cert.KernelIdeal.Hist

open Idealize.ShloMosaic Idealize.ShloMosaic.ValueIdx Idealize.SL.Sem
open Cert.KernelIdeal.Gen Cert.Counting

variable {F : FTy → Type} [FloatOps F]

/-- A word that passes both comparisons is a class. -/
theorem lt_of_ok (x : BitVec 32) (h : IntOp.andi (IntOp.cmpi .sge x 0#32) (IntOp.cmpi .slt x 1203#32) = 1#1) : x.toNat < 1203 := by
  obtain ⟨h0, h1⟩ := IntOp.andi_eq_one.1 h
  rw [WordCmp.cmpi_sge_eq, WordCmp.ofBool_decide_eq_one_iff, BitVec.toInt_eq_toNat_cond, BitVec.toInt_eq_toNat_cond] at h0
  rw [WordCmp.cmpi_slt_eq, WordCmp.ofBool_decide_eq_one_iff, BitVec.toInt_eq_toNat_cond, BitVec.toInt_eq_toNat_cond] at h1
  simp only [BitVec.toNat_ofNat, Nat.reducePow, Nat.reduceMod] at h0 h1
  have := x.isLt
  split at h1 <;> split at h0 <;> omega

/-- The precondition bounds every element of the array. -/
theorem lt_of_pre (X : S16384x50.Idx → BitVec 32) (h : Cert.Pre_in_range.fn (F := F) X = fun _ => 1#1) (x : S16384x50.Idx) : (X x).toNat < 1203 := by
  have : Subsingleton Cert.Pre_in_range.S_.Idx := ⟨fun a b => funext fun k => k.elim0⟩
  unfold Cert.Pre_in_range.fn at h
  have e := Host.reduce_andi_all _ _ _ _ ix0 (congrFun h ix0) x
  exact lt_of_ok (X x) e

/-- Every chunk holds classes. -/
theorem classes_chunk (X : S16384x50.Idx → BitVec 32) (h : ∀ x, (X x).toNat < 1203) (i : grid0.Coords) : Classes (chunk (F := F) (flat X) i) := by
  intro n hn
  rw [at1_of_lt _ hn]
  exact h _

/-- The kernel, run on classes: it ends, the array as it was, the weights the counts' and every counter at nought. -/
theorem run_of_pre (m : (ℓ : Loc nD τ sig) → Buf (Elt F) ℓ) (ρ : Dev nD → PrngReg)
    (h : ∀ c : Dev nD, Cert.Pre_in_range.fn (F := F) (m ((c.tc : Thread nD τ).loc main_arg0)) = fun _ => 1#1) :
    θ_run (Cert.KernelIdeal.defs (F := F)) (Cert.KernelIdeal.threads (F := F)) ⟨m, fun _ => 0, ρ⟩ (Ends m) :=
  run_main m ρ (classes_chunk _ (lt_of_pre (F := F) _ (h 0)))

/-- The printed kernel and the idealized one have the same bodies, kernel by kernel. -/
theorem bodies_eq : @Cert.Kernel.defs₀ F _ _ = @Cert.KernelIdeal.defs₀ F _ _ := by
  funext p ℓ a
  match p, ℓ, a with
  | .scVector _ _, 0, _ => rfl
  | .scVector _ _, 1, _ => rfl
  | .tc, 0, _ => rfl
  | .tc, 1, _ => rfl
  | .scScalar _, 0, _ => rfl
  | .scScalar _, 1, _ => rfl

/-- So every label of theirs runs the same program. -/
theorem defs_eq : @Cert.Kernel.defs F _ _ = @Cert.KernelIdeal.defs F _ _ :=
  congrArg (fun D => Cert.KernelIdeal.sc.defs (Pipeline.defs Cert.KernelIdeal.pcfgs D)) bodies_eq

/-- The printed kernel ends with its array as it was and every counter at nought. -/
theorem frame_kernel : Cert.quiescent_Kernel := by
  intro m ρ h
  rw [defs_eq]
  exact (θ_run (Cert.KernelIdeal.defs (F := Bits)) _ _).mono (fun _ e => ⟨fun c => (e.1 c).1, e.2⟩) (run_of_pre (F := Bits) m ρ h)

/-- The idealized kernel likewise. -/
theorem frame_ideal : Cert.quiescent_KernelIdeal := fun m ρ h =>
  (θ_run (Cert.KernelIdeal.defs (F := Ideal)) _ _).mono (fun _ e => ⟨fun c => (e.1 c).1, e.2⟩) (run_of_pre (F := Ideal) m ρ h)

/-- The reference ends with its array as it was; it has no counter. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0) :=
  (θ_run (Cert.ReferenceIdeal.defs (F := Ideal)) _ _).mono (fun r e => ⟨fun c => (e c).2, sem_eq_zero_of_no_sems (by decide) r.2⟩)
    (Cert.ReferenceIdeal.Value.run (F := Ideal) m ρ)

/-- On the same array of classes the kernel and the reference return the same weights. -/
theorem algebraic : Cert.algebraic_KernelIdeal_ReferenceIdeal := by
  intro m ρ m' ρ' h hm
  refine ⟨fun c => refWeights (m ((c.tc : Thread nD τ).loc main_arg0)), ?_, ?_⟩
  · refine (θ_run (Cert.KernelIdeal.defs (F := Ideal)) _ _).mono (fun r e c => ?_) (run_of_pre (F := Ideal) m ρ h)
    obtain ⟨h0, g, hg, h1⟩ := e.1 c
    exact ⟨h1.trans (cut_eq_ref (lt_of_pre (F := Ideal) _ (h c)) hg), h0⟩
  · refine (θ_run (Cert.ReferenceIdeal.defs (F := Ideal)) _ _).mono (fun r e c => ⟨(e c).1.trans ?_, (e c).2⟩)
      (Cert.ReferenceIdeal.Value.run (F := Ideal) m' ρ')
    rw [hm c]
    rfl

end Cert.KernelIdeal.Hist

end
-- ==== Proof.lean ====
/-
  The certificate's claim. The programs' stated facts come first, then, in order: the kernel's frame, the idealized
  kernel's, the reference's (without and under the range of the classes), the idealization (no rewrite, so nothing to
  show), and the equality of the kernel's and the reference's weights. The proofs are in Proof/; Frames gathers them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import Idealize.ShloMosaic.Adequacy
public import Idealize.ShloMosaic.Init

@[expose] public section

noncomputable section

namespace Cert.Proof

open Cert.KernelIdeal.Hist

/-- Under the range of the classes the kernel runs to its end and leaves its argument and every counter as they were,
    and over the extended reals it returns the reference's weights. -/
theorem claim : Cert.Claim :=
  ⟨Cert.Kernel.Gen.facts, Cert.KernelIdeal.Gen.facts, Cert.ReferenceIdeal.Gen.facts, Cert.Pre_in_range.Gen.facts,
    frame_kernel, frame_ideal, fun m ρ _ => frame_ref m ρ, fun m ρ _ => frame_ref m ρ, trivial, algebraic⟩

end Cert.Proof

end
